-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35_0) = v0 c
          ∧ r.2.mem ((c.tc : Thread Cert.ReferenceIdeal.nD Cert.ReferenceIdeal.τ).loc Cert.ReferenceIdeal.main_v35_1) = v1 c
          ∧ r.2.mem ((c.tc : Thread Cert.ReferenceIdeal.nD Cert.ReferenceIdeal.τ).loc Cert.ReferenceIdeal.main_v35_2) = v2 c
          ∧ r.2.mem ((c.tc : Thread Cert.ReferenceIdeal.nD Cert.ReferenceIdeal.τ).loc Cert.ReferenceIdeal.main_v35_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x7168 : Shape := ⟨3, ![6, 256, 7168]⟩
abbrev S6x256x56 : Shape := ⟨3, ![6, 256, 56]⟩
abbrev S576x7168 : Shape := ⟨2, ![576, 7168]⟩
abbrev S5x56 : Shape := ⟨2, ![5, 56]⟩
abbrev S512 : Shape := ⟨1, ![512]⟩
abbrev S6x256 : Shape := ⟨2, ![6, 256]⟩
abbrev S6x256x512 : Shape := ⟨3, ![6, 256, 512]⟩
abbrev S6x256x64 : Shape := ⟨3, ![6, 256, 64]⟩
abbrev S64 : Shape := ⟨1, ![64]⟩
abbrev S1x64 : Shape := ⟨2, ![1, 64]⟩
abbrev S1x512 : Shape := ⟨2, ![1, 512]⟩
abbrev S6x1x256 : Shape := ⟨3, ![6, 1, 256]⟩
abbrev S6x2x512 : Shape := ⟨3, ![6, 2, 512]⟩
abbrev S6x256x576 : Shape := ⟨3, ![6, 256, 576]⟩
abbrev S6x256x5 : Shape := ⟨3, ![6, 256, 5]⟩
abbrev S6x256x1024 : Shape := ⟨3, ![6, 256, 1024]⟩
abbrev S576x1024 : Shape := ⟨2, ![576, 1024]⟩
abbrev S1x1x256 : Shape := ⟨3, ![1, 1, 256]⟩
abbrev S1x256x512 : Shape := ⟨3, ![1, 256, 512]⟩
abbrev S1x256x64 : Shape := ⟨3, ![1, 256, 64]⟩
abbrev S1x256x7168 : Shape := ⟨3, ![1, 256, 7168]⟩
abbrev S1x2x512 : Shape := ⟨3, ![1, 2, 512]⟩
abbrev S1x256x576 : Shape := ⟨3, ![1, 256, 576]⟩
abbrev S1x256x5 : Shape := ⟨3, ![1, 256, 5]⟩
abbrev S1536x128 : Shape := ⟨2, ![1536, 128]⟩
abbrev S1536x1024 : Shape := ⟨2, ![1536, 1024]⟩
abbrev S7x576x1024 : Shape := ⟨3, ![7, 576, 1024]⟩
abbrev S1536x512 : Shape := ⟨2, ![1536, 512]⟩
abbrev S256x576 : Shape := ⟨2, ![256, 576]⟩
abbrev S1536x56 : Shape := ⟨2, ![1536, 56]⟩
abbrev S1536x128x1 : Shape := ⟨3, ![1536, 128, 1]⟩
abbrev S6x256x128 : Shape := ⟨3, ![6, 256, 128]⟩
abbrev S1x1 : Shape := ⟨2, ![1, 1]⟩
abbrev S128x128 : Shape := ⟨2, ![128, 128]⟩
abbrev S1x128x128 : Shape := ⟨3, ![1, 128, 128]⟩
abbrev S64x128 : Shape := ⟨2, ![64, 128]⟩
abbrev S1x64x128 : Shape := ⟨3, ![1, 64, 128]⟩
abbrev S1x512x1024 : Shape := ⟨3, ![1, 512, 1024]⟩
abbrev S512x1024 : Shape := ⟨2, ![512, 1024]⟩
abbrev S256x512 : Shape := ⟨2, ![256, 512]⟩
abbrev S256 : Shape := ⟨1, ![256]⟩
abbrev S256x1 : Shape := ⟨2, ![256, 1]⟩
abbrev S2x128x512 : Shape := ⟨3, ![2, 128, 512]⟩
abbrev S2x512 : Shape := ⟨2, ![2, 512]⟩
abbrev S256x128 : Shape := ⟨2, ![256, 128]⟩
abbrev S1x255 : Shape := ⟨2, ![1, 255]⟩
abbrev S256x255 : Shape := ⟨2, ![256, 255]⟩
abbrev S1x256x128 : Shape := ⟨3, ![1, 256, 128]⟩
abbrev S1x256 : Shape := ⟨2, ![1, 256]⟩
abbrev S1x128 : Shape := ⟨2, ![1, 128]⟩
abbrev S256x64 : Shape := ⟨2, ![256, 64]⟩
abbrev S256x5 : Shape := ⟨2, ![256, 5]⟩
abbrev S1x576x1024 : Shape := ⟨3, ![1, 576, 1024]⟩
abbrev S256x1024 : Shape := ⟨2, ![256, 1024]⟩
abbrev S1x256x1024 : Shape := ⟨3, ![1, 256, 1024]⟩

abbrev nBuf : Space → Nat
  | .hbm => 16
  | .vmem => 26
  | .smem => 1
  | _ => 0

abbrev bufTy : (tb : Table) → Fin (tcTables nBuf tb) → BufTy
  | .hbm, ⟨0, _⟩ => ⟨S6x256x7168, .fp8e4m3⟩
  | .hbm, ⟨1, _⟩ => ⟨S6x256x56, .f32⟩
  | .hbm, ⟨2, _⟩ => ⟨S576x7168, .fp8e4m3⟩
  | .hbm, ⟨3, _⟩ => ⟨S5x56, .f32⟩
  | .hbm, ⟨4, _⟩ => ⟨S512, .f32⟩
  | .hbm, ⟨5, _⟩ => ⟨S6x256, .i32⟩
  | .hbm, ⟨6, _⟩ => ⟨S6x256x512, .bf16⟩
  | .hbm, ⟨7, _⟩ => ⟨S6x256x64, .bf16⟩
  | .hbm, ⟨8, _⟩ => ⟨S64, .f32⟩
  | .hbm, ⟨9, _⟩ => ⟨S1x64, .f32⟩
  | .hbm, ⟨10, _⟩ => ⟨S1x512, .f32⟩
  | .hbm, ⟨11, _⟩ => ⟨S6x1x256, .i32⟩
  | .hbm, ⟨12, _⟩ => ⟨S6x256x7168, .bf16⟩
  | .hbm, ⟨13, _⟩ => ⟨S6x2x512, .f32⟩
  | .hbm, ⟨14, _⟩ => ⟨S6x256x576, .fp8e5m2⟩
  | .hbm, ⟨15, _⟩ => ⟨S6x256x5, .f32⟩
  | .local _ .vmem, ⟨0, _⟩ => ⟨S6x256x1024, .fp8e4m3⟩
  | .local _ .vmem, ⟨1, _⟩ => ⟨S6x256x1024, .fp8e4m3⟩
  | .local _ .vmem, ⟨2, _⟩ => ⟨S6x256x56, .f32⟩
  | .local _ .vmem, ⟨3, _⟩ => ⟨S576x1024, .fp8e4m3⟩
  | .local _ .vmem, ⟨4, _⟩ => ⟨S576x1024, .fp8e4m3⟩
  | .local _ .vmem, ⟨5, _⟩ => ⟨S1x512, .f32⟩
  | .local _ .vmem, ⟨6, _⟩ => ⟨S1x64, .f32⟩
  | .local _ .vmem, ⟨7, _⟩ => ⟨S1x1x256, .i32⟩
  | .local _ .vmem, ⟨8, _⟩ => ⟨S1x1x256, .i32⟩
  | .local _ .vmem, ⟨9, _⟩ => ⟨S1x256x512, .bf16⟩
  | .local _ .vmem, ⟨10, _⟩ => ⟨S1x256x512, .bf16⟩
  | .local _ .vmem, ⟨11, _⟩ => ⟨S1x256x64, .bf16⟩
  | .local _ .vmem, ⟨12, _⟩ => ⟨S1x256x64, .bf16⟩
  | .local _ .vmem, ⟨13, _⟩ => ⟨S1x256x7168, .bf16⟩
  | .local _ .vmem, ⟨14, _⟩ => ⟨S1x256x7168, .bf16⟩
  | .local _ .vmem, ⟨15, _⟩ => ⟨S1x2x512, .f32⟩
  | .local _ .vmem, ⟨16, _⟩ => ⟨S1x2x512, .f32⟩
  | .local _ .vmem, ⟨17, _⟩ => ⟨S1x256x576, .fp8e5m2⟩
  | .local _ .vmem, ⟨18, _⟩ => ⟨S1x256x576, .fp8e5m2⟩
  | .local _ .vmem, ⟨19, _⟩ => ⟨S1x256x5, .f32⟩
  | .local _ .vmem, ⟨20, _⟩ => ⟨S1x256x5, .f32⟩
  | .local _ .vmem, ⟨21, _⟩ => ⟨S1536x128, .bf16⟩
  | .local _ .vmem, ⟨22, _⟩ => ⟨S1536x1024, .bf16⟩
  | .local _ .vmem, ⟨23, _⟩ => ⟨S7x576x1024, .bf16⟩
  | .local _ .vmem, ⟨24, _⟩ => ⟨S1536x512, .f32⟩
  | .local _ .vmem, ⟨25, _⟩ => ⟨S256x576, .bf16⟩
  | .local _ .smem, ⟨0, _⟩ => ⟨S5x56, .f32⟩
  | _, _ => ⟨S6x256x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c7_i32 : BitVec 32 := 7#32
  let v3 : BitVec 1 := Scalar.cmpi .slt arg0 c7_i32
  let v4 : BitVec 32 := Scalar.extui v3
  let c0_i32_1 : BitVec 32 := 0#32
  let v5 : BitVec 1 := Scalar.cmpi .ne v4 c0_i32_1
  v5

def k0_off1 (i : grid0.Coords) (c0_i32_13 : BitVec 32) : Fin 2 → Nat :=
  let c0_14 : Index := 0#32
  let arg0 : BitVec 32 := BitVec.ofNat 32 (i 0).val
  let c8_i32_12 : BitVec 32 := 8#32
  let v30 : BitVec 32 := Scalar.muli arg0 c8_i32_12
  let v31 : BitVec 32 := Scalar.addi v30 c0_i32_13
  let v32 : Index := Scalar.indexCast v31
  ![0, v32.toNat]
def k0_off2 (i : grid0.Coords) : Fin 3 → Nat :=
  let arg0 : BitVec 32 := BitVec.ofNat 32 (i 0).val
  let v39 : Index := Scalar.indexCast arg0
  let c0_17 : Index := 0#32
  let c0_18 : Index := 0#32
  ![v39.toNat, 0, 0]
def k0_off3 (i : grid0.Coords) (c0_i32_20 : BitVec 32) : Fin 2 → Nat :=
  let c1 : Index := 1#32
  let arg0 : BitVec 32 := BitVec.ofNat 32 (i 0).val
  let c8_i32_19 : BitVec 32 := 8#32
  let v43 : BitVec 32 := Scalar.muli arg0 c8_i32_19
  let v44 : BitVec 32 := Scalar.addi v43 c0_i32_20
  let v45 : Index := Scalar.indexCast v44
  ![1, v45.toNat]
def k0_off4 (i : grid0.Coords) : Fin 3 → Nat :=
  let arg0 : BitVec 32 := BitVec.ofNat 32 (i 0).val
  let v52 : Index := Scalar.indexCast arg0
  let c128_22 : Index := 128#32
  let c0_23 : Index := 0#32
  ![v52.toNat, 128, 0]
def k0_off5 (i : grid0.Coords) (c0_i32_25 : BitVec 32) : Fin 2 → Nat :=
  let c2 : Index := 2#32
  let arg0 : BitVec 32 := BitVec.ofNat 32 (i 0).val
  let c8_i32_24 : BitVec 32 := 8#32
  let v56 : BitVec 32 := Scalar.muli arg0 c8_i32_24
  let v57 : BitVec 32 := Scalar.addi v56 c0_i32_25
  let v58 : Index := Scalar.indexCast v57
  ![2, v58.toNat]
def k0_off6 (i : grid0.Coords) : Fin 3 → Nat :=
  let arg0 : BitVec 32 := BitVec.ofNat 32 (i 0).val
  let v65 : Index := Scalar.indexCast arg0
  let c256_27 : Index := 256#32
  let c0_28 : Index := 0#32
  ![v65.toNat, 256, 0]
def k0_off7 (i : grid0.Coords) (c0_i32_30 : BitVec 32) : Fin 2 → Nat :=
  let c3 : Index := 3#32
  let arg0 : BitVec 32 := BitVec.ofNat 32 (i 0).val
  let c8_i32_29 : BitVec 32 := 8#32
  let v69 : BitVec 32 := Scalar.muli arg0 c8_i32_29
  let v70 : BitVec 32 := Scalar.addi v69 c0_i32_30
  let v71 : Index := Scalar.indexCast v70
  ![3, v71.toNat]
def k0_off8 (i : grid0.Coords) : Fin 3 → Nat :=
  let arg0 : BitVec 32 := BitVec.ofNat 32 (i 0).val
  let v78 : Index := Scalar.indexCast arg0
  let c384_32 : Index := 384#32
  let c0_33 : Index := 0#32
  ![v78.toNat, 384, 0]
def k0_off9 (i : grid0.Coords) (c0_i32_35 : BitVec 32) : Fin 2 → Nat :=
  let c4 : Index := 4#32
  let arg0 : BitVec 32 := BitVec.ofNat 32 (i 0).val
  let c8_i32_34 : BitVec 32 := 8#32
  let v82 : BitVec 32 := Scalar.muli arg0 c8_i32_34
  let v83 : BitVec 32 := Scalar.addi v82 c0_i32_35
  let v84 : Index := Scalar.indexCast v83
  ![4, v84.toNat]
def k0_off10 (i : grid0.Coords) : Fin 3 → Nat :=
  let arg0 : BitVec 32 := BitVec.ofNat 32 (i 0).val
  let v91 : Index := Scalar.indexCast arg0
  let c512_37 : Index := 512#32
  let c0_38 : Index := 0#32
  ![v91.toNat, 512, 0]
def k0_off11 (i : grid0.Coords) : Fin 3 → Nat :=
  let arg0 : BitVec 32 := BitVec.ofNat 32 (i 0).val
  let v123 : Index := Scalar.indexCast arg0
  let c0_52 : Index := 0#32
  let c128_53 : Index := 128#32
  ![v123.toNat, 0, 128]
def k0_off12 (i : grid0.Coords) : Fin 3 → Nat :=
  let arg0 : BitVec 32 := BitVec.ofNat 32 (i 0).val
  let v136 : Index := Scalar.indexCast arg0
  let c128_59 : Index := 128#32
  let c128_60 : Index := 128#32
  ![v136.toNat, 128, 128]
def k0_off13 (i : grid0.Coords) : Fin 3 → Nat :=
  let arg0 : BitVec 32 := BitVec.ofNat 32 (i 0).val
  let v149 : Index := Scalar.indexCast arg0
  let c256_66 : Index := 256#32
  let c128_67 : Index := 128#32
  ![v149.toNat, 256, 128]
def k0_off14 (i : grid0.Coords) : Fin 3 → Nat :=
  let arg0 : BitVec 32 := BitVec.ofNat 32 (i 0).val
  let v162 : Index := Scalar.indexCast arg0
  let c384_73 : Index := 384#32
  let c128_74 : Index := 128#32
  ![v162.toNat, 384, 128]
def k0_off15 (i : grid0.Coords) : Fin 3 → Nat :=
  let arg0 : BitVec 32 := BitVec.ofNat 32 (i 0).val
  let v175 : Index := Scalar.indexCast arg0
  let c512_80 : Index := 512#32
  let c128_81 : Index := 128#32
  ![v175.toNat, 512, 128]
def k0_off16 (i : grid0.Coords) : Fin 3 → Nat :=
  let arg0 : BitVec 32 := BitVec.ofNat 32 (i 0).val
  let v207 : Index := Scalar.indexCast arg0
  let c0_95 : Index := 0#32
  let c256_96 : Index := 256#32
  ![v207.toNat, 0, 256]
def k0_off17 (i : grid0.Coords) : Fin 3 → Nat :=
  let arg0 : BitVec 32 := BitVec.ofNat 32 (i 0).val
  let v220 : Index := Scalar.indexCast arg0
  let c128_102 : Index := 128#32
  let c256_103 : Index := 256#32
  ![v220.toNat, 128, 256]
def k0_off18 (i : grid0.Coords) : Fin 3 → Nat :=
  let arg0 : BitVec 32 := BitVec.ofNat 32 (i 0).val
  let v233 : Index := Scalar.indexCast arg0
  let c256_109 : Index := 256#32
  let c256_110 : Index := 256#32
  ![v233.toNat, 256, 256]
def k0_off19 (i : grid0.Coords) : Fin 3 → Nat :=
  let arg0 : BitVec 32 := BitVec.ofNat 32 (i 0).val
  let v246 : Index := Scalar.indexCast arg0
  let c384_116 : Index := 384#32
  let c256_117 : Index := 256#32
  ![v246.toNat, 384, 256]
def k0_off20 (i : grid0.Coords) : Fin 3 → Nat :=
  let arg0 : BitVec 32 := BitVec.ofNat 32 (i 0).val
  let v259 : Index := Scalar.indexCast arg0
  let c512_123 : Index := 512#32
  let c256_124 : Index := 256#32
  ![v259.toNat, 512, 256]
def k0_off21 (i : grid0.Coords) : Fin 3 → Nat :=
  let arg0 : BitVec 32 := BitVec.ofNat 32 (i 0).val
  let v291 : Index := Scalar.indexCast arg0
  let c0_138 : Index := 0#32
  let c384_139 : Index := 384#32
  ![v291.toNat, 0, 384]
def k0_off22 (i : grid0.Coords) : Fin 3 → Nat :=
  let arg0 : BitVec 32 := BitVec.ofNat 32 (i 0).val
  let v304 : Index := Scalar.indexCast arg0
  let c128_145 : Index := 128#32
  let c384_146 : Index := 384#32
  ![v304.toNat, 128, 384]
def k0_off23 (i : grid0.Coords) : Fin 3 → Nat :=
  let arg0 : BitVec 32 := BitVec.ofNat 32 (i 0).val
  let v317 : Index := Scalar.indexCast arg0
  let c256_152 : Index := 256#32
  let c384_153 : Index := 384#32
  ![v317.toNat, 256, 384]
def k0_off24 (i : grid0.Coords) : Fin 3 → Nat :=
  let arg0 : BitVec 32 := BitVec.ofNat 32 (i 0).val
  let v330 : Index := Scalar.indexCast arg0
  let c384_159 : Index := 384#32
  let c384_160 : Index := 384#32
  ![v330.toNat, 384, 384]
def k0_off25 (i : grid0.Coords) : Fin 3 → Nat :=
  let arg0 : BitVec 32 := BitVec.ofNat 32 (i 0).val
  let v343 : Index := Scalar.indexCast arg0
  let c512_166 : Index := 512#32
  let c384_167 : Index := 384#32
  ![v343.toNat, 512, 384]
def k0_off26 (i : grid0.Coords) : Fin 3 → Nat :=
  let arg0 : BitVec 32 := BitVec.ofNat 32 (i 0).val
  let v375 : Index := Scalar.indexCast arg0
  let c0_181 : Index := 0#32
  let c512_182 : Index := 512#32
  ![v375.toNat, 0, 512]
def k0_off27 (i : grid0.Coords) : Fin 3 → Nat :=
  let arg0 : BitVec 32 := BitVec.ofNat 32 (i 0).val
  let v388 : Index := Scalar.indexCast arg0
  let c128_188 : Index := 128#32
  let c512_189 : Index := 512#32
  ![v388.toNat, 128, 512]
def k0_off28 (i : grid0.Coords) : Fin 3 → Nat :=
  let arg0 : BitVec 32 := BitVec.ofNat 32 (i 0).val
  let v401 : Index := Scalar.indexCast arg0
  let c256_195 : Index := 256#32
  let c512_196 : Index := 512#32
  ![v401.toNat, 256, 512]
def k0_off29 (i : grid0.Coords) : Fin 3 → Nat :=
  let arg0 : BitVec 32 := BitVec.ofNat 32 (i 0).val
  let v414 : Index := Scalar.indexCast arg0
  let c384_202 : Index := 384#32
  let c512_203 : Index := 512#32
  ![v414.toNat, 384, 512]
def k0_off30 (i : grid0.Coords) : Fin 3 → Nat :=
  let arg0 : BitVec 32 := BitVec.ofNat 32 (i 0).val
  let v427 : Index := Scalar.indexCast arg0
  let c512_209 : Index := 512#32
  let c512_210 : Index := 512#32
  ![v427.toNat, 512, 512]
def k0_off31 (i : grid0.Coords) : Fin 3 → Nat :=
  let arg0 : BitVec 32 := BitVec.ofNat 32 (i 0).val
  let v459 : Index := Scalar.indexCast arg0
  let c0_223 : Index := 0#32
  let c640_224 : Index := 640#32
  ![v459.toNat, 0, 640]
def k0_off32 (i : grid0.Coords) : Fin 3 → Nat :=
  let arg0 : BitVec 32 := BitVec.ofNat 32 (i 0).val
  let v472 : Index := Scalar.indexCast arg0
  let c128_230 : Index := 128#32
  let c640_231 : Index := 640#32
  ![v472.toNat, 128, 640]
def k0_off33 (i : grid0.Coords) : Fin 3 → Nat :=
  let arg0 : BitVec 32 := BitVec.ofNat 32 (i 0).val
  let v485 : Index := Scalar.indexCast arg0
  let c256_237 : Index := 256#32
  let c640_238 : Index := 640#32
  ![v485.toNat, 256, 640]
def k0_off34 (i : grid0.Coords) : Fin 3 → Nat :=
  let arg0 : BitVec 32 := BitVec.ofNat 32 (i 0).val
  let v498 : Index := Scalar.indexCast arg0
  let c384_244 : Index := 384#32
  let c640_245 : Index := 640#32
  ![v498.toNat, 384, 640]
def k0_off35 (i : grid0.Coords) : Fin 3 → Nat :=
  let arg0 : BitVec 32 := BitVec.ofNat 32 (i 0).val
  let v511 : Index := Scalar.indexCast arg0
  let c512_251 : Index := 512#32
  let c640_252 : Index := 640#32
  ![v511.toNat, 512, 640]
def k0_off36 (i : grid0.Coords) : Fin 3 → Nat :=
  let arg0 : BitVec 32 := BitVec.ofNat 32 (i 0).val
  let v543 : Index := Scalar.indexCast arg0
  let c0_265 : Index := 0#32
  let c768_266 : Index := 768#32
  ![v543.toNat, 0, 768]
def k0_off37 (i : grid0.Coords) : Fin 3 → Nat :=
  let arg0 : BitVec 32 := BitVec.ofNat 32 (i 0).val
  let v556 : Index := Scalar.indexCast arg0
  let c128_272 : Index := 128#32
  let c768_273 : Index := 768#32
  ![v556.toNat, 128, 768]
def k0_off38 (i : grid0.Coords) : Fin 3 → Nat :=
  let arg0 : BitVec 32 := BitVec.ofNat 32 (i 0).val
  let v569 : Index := Scalar.indexCast arg0
  let c256_279 : Index := 256#32
  let c768_280 : Index := 768#32
  ![v569.toNat, 256, 768]
def k0_off39 (i : grid0.Coords) : Fin 3 → Nat :=
  let arg0 : BitVec 32 := BitVec.ofNat 32 (i 0).val
  let v582 : Index := Scalar.indexCast arg0
  let c384_286 : Index := 384#32
  let c768_287 : Index := 768#32
  ![v582.toNat, 384, 768]
def k0_off40 (i : grid0.Coords) : Fin 3 → Nat :=
  let arg0 : BitVec 32 := BitVec.ofNat 32 (i 0).val
  let v595 : Index := Scalar.indexCast arg0
  let c512_293 : Index := 512#32
  let c768_294 : Index := 768#32
  ![v595.toNat, 512, 768]
def k0_off41 (i : grid0.Coords) : Fin 3 → Nat :=
  let arg0 : BitVec 32 := BitVec.ofNat 32 (i 0).val
  let v627 : Index := Scalar.indexCast arg0
  let c0_308 : Index := 0#32
  let c896_309 : Index := 896#32
  ![v627.toNat, 0, 896]
def k0_off42 (i : grid0.Coords) : Fin 3 → Nat :=
  let arg0 : BitVec 32 := BitVec.ofNat 32 (i 0).val
  let v640 : Index := Scalar.indexCast arg0
  let c128_315 : Index := 128#32
  let c896_316 : Index := 896#32
  ![v640.toNat, 128, 896]
def k0_off43 (i : grid0.Coords) : Fin 3 → Nat :=
  let arg0 : BitVec 32 := BitVec.ofNat 32 (i 0).val
  let v653 : Index := Scalar.indexCast arg0
  let c256_322 : Index := 256#32
  let c896_323 : Index := 896#32
  ![v653.toNat, 256, 896]
def k0_off44 (i : grid0.Coords) : Fin 3 → Nat :=
  let arg0 : BitVec 32 := BitVec.ofNat 32 (i 0).val
  let v666 : Index := Scalar.indexCast arg0
  let c384_329 : Index := 384#32
  let c896_330 : Index := 896#32
  ![v666.toNat, 384, 896]
def k0_off45 (i : grid0.Coords) : Fin 3 → Nat :=
  let arg0 : BitVec 32 := BitVec.ofNat 32 (i 0).val
  let v679 : Index := Scalar.indexCast arg0
  let c512_336 : Index := 512#32
  let c896_337 : Index := 896#32
  ![v679.toNat, 512, 896]
def k0_off46 (i : grid0.Coords) : Fin 3 → Nat :=
  let arg0 : BitVec 32 := BitVec.ofNat 32 (i 0).val
  let v685 : Index := Scalar.indexCast arg0
  let c0_342 : Index := 0#32
  let c0_343 : Index := 0#32
  ![v685.toNat, 0, 0]
def k0_cond3 (i : grid0.Coords) : BitVec 1 :=
  let arg0 : BitVec 32 := BitVec.ofNat 32 (i 0).val
  let c7_i32_2 : BitVec 32 := 7#32
  let v6 : BitVec 1 := Scalar.cmpi .sge arg0 c7_i32_2
  let v7 : BitVec 32 := Scalar.extui v6
  let c0_i32_3 : BitVec 32 := 0#32
  let v8 : BitVec 1 := Scalar.cmpi .ne v7 c0_i32_3
  v8

def k0_mult1 (i : grid0.Coords) : BitVec 32 :=
  let arg0 : BitVec 32 := BitVec.ofNat 32 (i 0).val
  let c7_i32_4 : BitVec 32 := 7#32
  let v9 : BitVec 32 := Scalar.subi arg0 c7_i32_4
  let c256_i32 : BitVec 32 := 256#32
  let v10 : BitVec 32 := Scalar.muli v9 c256_i32
  v10
def k0_off47 (i : grid0.Coords) : Fin 2 → Nat :=
  let arg0 : BitVec 32 := BitVec.ofNat 32 (i 0).val
  let c7_i32_4 : BitVec 32 := 7#32
  let v9 : BitVec 32 := Scalar.subi arg0 c7_i32_4
  let c256_i32 : BitVec 32 := 256#32
  let v10 : BitVec 32 := Scalar.muli v9 c256_i32
  let v11 : BitVec 32 := v10
  let v12 : Index := Scalar.indexCast v11
  let c0 : Index := 0#32
  ![v12.toNat, 0]
def cc0_transform_0 (i : grid0.Coords) : Fin 3 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 3 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 3 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 3 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 3 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 3 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S6x256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S576x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S5x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x7168 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x576 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x5 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S6x256x7168 : Shape := ⟨3, ![6, 256, 7168]⟩
abbrev S6x256x56 : Shape := ⟨3, ![6, 256, 56]⟩
abbrev S576x7168 : Shape := ⟨2, ![576, 7168]⟩
abbrev S5x56 : Shape := ⟨2, ![5, 56]⟩
abbrev S512 : Shape := ⟨1, ![512]⟩
abbrev S6x256 : Shape := ⟨2, ![6, 256]⟩
abbrev S6x256x512 : Shape := ⟨3, ![6, 256, 512]⟩
abbrev S6x256x64 : Shape := ⟨3, ![6, 256, 64]⟩
abbrev S32 : Shape := ⟨1, ![32]⟩
abbrev S6x256x1 : Shape := ⟨3, ![6, 256, 1]⟩
abbrev S1x1x32 : Shape := ⟨3, ![1, 1, 32]⟩
abbrev S6x256x32 : Shape := ⟨3, ![6, 256, 32]⟩
abbrev S6x256x32x2 : Shape := ⟨4, ![6, 256, 32, 2]⟩
abbrev S6x256x32x1 : Shape := ⟨4, ![6, 256, 32, 1]⟩
abbrev S6x256x56x128 : Shape := ⟨4, ![6, 256, 56, 128]⟩
abbrev S5x128x56 : Shape := ⟨3, ![5, 128, 56]⟩
abbrev S640x56 : Shape := ⟨2, ![640, 56]⟩
abbrev S576x56 : Shape := ⟨2, ![576, 56]⟩
abbrev S576x56x128 : Shape := ⟨3, ![576, 56, 128]⟩
abbrev S1x1x512 : Shape := ⟨3, ![1, 1, 512]⟩
abbrev S6x2x512 : Shape := ⟨3, ![6, 2, 512]⟩
abbrev S6x256x576 : Shape := ⟨3, ![6, 256, 576]⟩
abbrev S6x256x5 : Shape := ⟨3, ![6, 256, 5]⟩
abbrev S1536x7168 : Shape := ⟨2, ![1536, 7168]⟩
abbrev S512x7168 : Shape := ⟨2, ![512, 7168]⟩
abbrev S1536x512 : Shape := ⟨2, ![1536, 512]⟩
abbrev S6x2x128x512 : Shape := ⟨4, ![6, 2, 128, 512]⟩
abbrev S6x256x128 : Shape := ⟨3, ![6, 256, 128]⟩
abbrev S1536x576 : Shape := ⟨2, ![1536, 576]⟩

abbrev nBuf : Space → Nat
  | .hbm => 48
  | .vmem => 11
  | .smem => 0
  | _ => 0

abbrev bufTy : (tb : Table) → Fin (tcTables nBuf tb) → BufTy
  | .hbm, ⟨0, _⟩ => ⟨S6x256x7168, .fp8e4m3⟩
  | .hbm, ⟨1, _⟩ => ⟨S6x256x56, .f32⟩
  | .hbm, ⟨2, _⟩ => ⟨S576x7168, .fp8e4m3⟩
  | .hbm, ⟨3, _⟩ => ⟨S5x56, .f32⟩
  | .hbm, ⟨4, _⟩ => ⟨S512, .f32⟩
  | .hbm, ⟨5, _⟩ => ⟨S6x256, .i32⟩
  | .hbm, ⟨6, _⟩ => ⟨S6x256x512, .bf16⟩
  | .hbm, ⟨7, _⟩ => ⟨S6x256x64, .bf16⟩
  | .hbm, ⟨8, _⟩ => ⟨S32, .f32⟩
  | .hbm, ⟨9, _⟩ => ⟨S6x256, .f32⟩
  | .hbm, ⟨10, _⟩ => ⟨S6x256x1, .f32⟩
  | .hbm, ⟨11, _⟩ => ⟨S1x1x32, .f32⟩
  | .hbm, ⟨12, _⟩ => ⟨S6x256x32, .f32⟩
  | .hbm, ⟨13, _⟩ => ⟨S6x256x32, .f32⟩
  | .hbm, ⟨14, _⟩ => ⟨S6x256x32, .f32⟩
  | .hbm, ⟨15, _⟩ => ⟨S6x256x32, .f32⟩
  | .hbm, ⟨16, _⟩ => ⟨S6x256x32, .f32⟩
  | .hbm, ⟨17, _⟩ => ⟨S6x256x64, .f32⟩
  | .hbm, ⟨18, _⟩ => ⟨S6x256x32x2, .f32⟩
  | .hbm, ⟨19, _⟩ => ⟨S6x256x32x1, .f32⟩
  | .hbm, ⟨20, _⟩ => ⟨S6x256x32, .f32⟩
  | .hbm, ⟨21, _⟩ => ⟨S6x256x32x1, .f32⟩
  | .hbm, ⟨22, _⟩ => ⟨S6x256x32, .f32⟩
  | .hbm, ⟨23, _⟩ => ⟨S6x256x32, .f32⟩
  | .hbm, ⟨24, _⟩ => ⟨S6x256x32, .f32⟩
  | .hbm, ⟨25, _⟩ => ⟨S6x256x32, .f32⟩
  | .hbm, ⟨26, _⟩ => ⟨S6x256x32, .f32⟩
  | .hbm, ⟨27, _⟩ => ⟨S6x256x32, .f32⟩
  | .hbm, ⟨28, _⟩ => ⟨S6x256x32, .f32⟩
  | .hbm, ⟨29, _⟩ => ⟨S6x256x32, .f32⟩
  | .hbm, ⟨30, _⟩ => ⟨S6x256x32x1, .f32⟩
  | .hbm, ⟨31, _⟩ => ⟨S6x256x32x1, .f32⟩
  | .hbm, ⟨32, _⟩ => ⟨S6x256x32x2, .f32⟩
  | .hbm, ⟨33, _⟩ => ⟨S6x256x64, .f32⟩
  | .hbm, ⟨34, _⟩ => ⟨S6x256x56, .bf16⟩
  | .hbm, ⟨35, _⟩ => ⟨S6x256x56x128, .bf16⟩
  | .hbm, ⟨36, _⟩ => ⟨S6x256x7168, .bf16⟩
  | .hbm, ⟨37, _⟩ => ⟨S5x56, .bf16⟩
  | .hbm, ⟨38, _⟩ => ⟨S5x128x56, .bf16⟩
  | .hbm, ⟨39, _⟩ => ⟨S640x56, .bf16⟩
  | .hbm, ⟨40, _⟩ => ⟨S576x56, .bf16⟩
  | .hbm, ⟨41, _⟩ => ⟨S576x56x128, .bf16⟩
  | .hbm, ⟨42, _⟩ => ⟨S576x7168, .bf16⟩
  | .hbm, ⟨43, _⟩ => ⟨S1x1x512, .f32⟩
  | .hbm, ⟨44, _⟩ => ⟨S6x256x7168, .bf16⟩
  | .hbm, ⟨45, _⟩ => ⟨S6x2x512, .f32⟩
  | .hbm, ⟨46, _⟩ => ⟨S6x256x576, .fp8e5m2⟩
  | .hbm, ⟨47, _⟩ => ⟨S6x256x5, .f32⟩
  | .local _ .vmem, ⟨0, _⟩ => ⟨S6x256x7168, .fp8e4m3⟩
  | .local _ .vmem, ⟨1, _⟩ => ⟨S6x256x7168, .bf16⟩
  | .local _ .vmem, ⟨2, _⟩ => ⟨S576x7168, .fp8e4m3⟩
  | .local _ .vmem, ⟨3, _⟩ => ⟨S576x7168, .bf16⟩
  | .local _ .vmem, ⟨4, _⟩ => ⟨S1x1x512, .f32⟩
  | .local _ .vmem, ⟨5, _⟩ => ⟨S6x256x512, .bf16⟩
  | .local _ .vmem, ⟨6, _⟩ => ⟨S6x256x64, .f32⟩
  | .local _ .vmem, ⟨7, _⟩ => ⟨S6x256x7168, .bf16⟩
  | .local _ .vmem, ⟨8, _⟩ => ⟨S6x2x512, .f32⟩
  | .local _ .vmem, ⟨9, _⟩ => ⟨S6x256x576, .fp8e5m2⟩
  | .local _ .vmem, ⟨10, _⟩ => ⟨S6x256x5, .f32⟩
  | _, _ => ⟨S6x256x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev main_v35_2 : Ref sig .tc := ⟨.hbm, 46, rfl⟩
abbrev main_v35_3 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6x256x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S576x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x256x576 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x256x5 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Rounded.Cond.lean ====
module

public import proofs.«01_k».proof.Proof.Gen.Kernel.Frame
public import proofs.«01_k».proof.Proof.Gen.Kernel.Skeleton
public import proofs.«01_k».proof.Proof.Gen.Kernel.Launch
public import proofs.«01_k».proof.Proof.Gen.Kernel.Points
public import Idealize.ShloMosaic.Lib.Claim

/-! The conditions of the body's three conditionals, in closed form over the 13 grid points. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional (it fills the accumulator with zeros and stages the token scales). -/
abbrev cond1 (i : grid0.Coords) : Prop := (Scalar.cmpi .ne (Scalar.extui (Scalar.cmpi .eq (BitVec.ofNat 32 (i 0).val) 0#32)) 0#32) = 1#1
/-- It holds at the first point only. -/
theorem hcond1 : ∀ t : Fin cfg0.N, cond1 (grid0.coords t) ↔ t.val = 0 :=
  (by decide +kernel : ∀ t : Fin grid0.N, cond1 (grid0.coords t) ↔ t.val = 0)
/-- The condition of the second conditional (dequantise one block and accumulate the projection). -/
abbrev cond2 (i : grid0.Coords) : Prop := k0_cond2 i = 1#1
/-- It holds at the first seven points. -/
theorem hcond2 : ∀ t : Fin cfg0.N, cond2 (grid0.coords t) ↔ t.val < 7 :=
  (by decide +kernel : ∀ t : Fin grid0.N, cond2 (grid0.coords t) ↔ t.val < 7)
/-- The condition of the third conditional (the backward step of one sequence). -/
abbrev cond3 (i : grid0.Coords) : Prop := k0_cond3 i = 1#1
/-- It holds at the last six points. -/
theorem hcond3 : ∀ t : Fin cfg0.N, cond3 (grid0.coords t) ↔ 7 ≤ t.val :=
  (by decide +kernel : ∀ t : Fin grid0.N, cond3 (grid0.coords t) ↔ 7 ≤ t.val)

end Cert.Kernel.Run

end
-- ==== Proof.Rounded.RunA.lean ====
module

public import proofs.«01_k».proof.Proof.Rounded.Cond

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the first point. -/
noncomputable def runA (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) :
    Σ' (L14 : List (View.Piece (Elt F) S1536x128 .bf16)), Σ' (L15 : List (View.Piece (Elt F) S1536x1024 .bf16)), Σ' (L16 : List (View.Piece (Elt F) S7x576x1024 .bf16)), { L17 : List (View.Piece (Elt F) S1536x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg14 fullShare d) ∗ (∃ d, owns (c : Thread nD τ) arg15 fullShare d) ∗ owns (c : Thread nD τ) arg16 fullShare w ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (arg16.view.loc (c : Thread nD τ) ↦[arg16.view.set]{fullShare} arg16.view.writes (Elt F) (harg16.unread w) L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_mla_kv_bwd_eq_skeleton]; unfold cc0_mla_kv_bwd_skel
    unfold owns
    iintro ⟨⟨%f1, %hf1, H1⟩, ⟨%f2, %hf2, H2⟩, ⟨%f3, %hf3, H3⟩, ⟨%f4, %hf4, H4⟩, ⟨%d14, %f14, -, H14⟩, ⟨%d15, %f15, -, H15⟩, ⟨%f16, %hf16, H16⟩, ⟨%d17, %f17, -, H17⟩, Hk⟩
    obtain rfl := harg1.eq_unread hf1; obtain rfl := harg2.eq_unread hf2; obtain rfl := harg3.eq_unread hf3; obtain rfl := harg4.eq_unread hf4; obtain rfl := harg16.eq_unread hf16
    sl_exec (disch := first | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H14]
    · iexists _; iexact H14
    isplitl [H15]
    · iexists _; iexact H15
    isplitl [H16]
    · iexact H16
    iexists _; iexact H17

end Cert.Kernel.Run

end
-- ==== Proof.Rounded.Tiles.lean ====
module

public import proofs.«01_k».proof.Proof.Rounded.Cond
public import Idealize.ShloMosaic.Lib.Pointwise
public import Idealize.ShloMosaic.Lib.Pipeline.Value
public import Idealize.ShloMosaic.Lib.Pipeline.ReadBack

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One entry of the dequantised weight: the fp8 word widened, times its tile's scale rounded to bf16. -/
def wAll (x2 : Vec F S576x1024 .fp8e4m3) (x3 : Vec F S5x56 .f32) (y : S7x576x1024.Idx) : F .bf16 :=
  FloatOps.mulf (FloatOps.extf .bf16 bitsLt_fp8e4m3_bf16 (x2 (ix2 ⟨(y 1).val, (y 1).isLt⟩ ⟨(y 2).val, (y 2).isLt⟩)))
    (Scalar.truncf .bf16 bitsLt_bf16_f32 (x3 (ix2 (n0 := 5) (n1 := 56) ⟨(y 1).val / 128, by have h : (y 1).val < 576 := (y 1).isLt; omega⟩
      ⟨8 * (y 0).val + (y 2).val / 128, by have h : (y 2).val < 1024 := (y 2).isLt; have h0 : (y 0).val < 7 := (y 0).isLt; omega⟩)))

/-- One block of the dequantised input: the fp8 word widened, times the staged scale of its token and column group. -/
def xwBlk (n : ℕ) (xs : Vec F S1536x128 .bf16) (x0 : Vec F S6x256x1024 .fp8e4m3) : Vec F S1536x1024 .bf16 := fun y =>
  FloatOps.mulf (FloatOps.extf .bf16 bitsLt_fp8e4m3_bf16 (x0 (ix3 (n0 := 6) (n1 := 256) (n2 := 1024) ⟨(y 0).val / 256, by have h : (y 0).val < 1536 := (y 0).isLt; omega⟩ ⟨(y 0).val % 256, Nat.mod_lt _ (by decide)⟩ ⟨(y 1).val, (y 1).isLt⟩)))
    (FloatOps.truncf .bf16 bitsLt_bf16_f32 (FloatOps.extf .f32 bitsLt_bf16_f32 (xs (ix2 (n0 := 1536) (n1 := 128) ⟨(y 0).val, (y 0).isLt⟩
      ⟨(8 * n + (y 1).val / 128) % 128, Nat.mod_lt _ (by decide)⟩))))

theorem off_i (i : grid0.Coords) : BitVec.toNat (Scalar.indexCast (BitVec.ofNat 32 (i 0).val)) = (i 0).val := by
  have h : (i 0).val < 13 := (i 0).isLt
  simp [Scalar.indexCast]; omega

theorem off_col (i : grid0.Coords) (j : ℕ) (hj : j < 8) :
    BitVec.toNat (Scalar.indexCast (Scalar.addi (Scalar.muli (BitVec.ofNat 32 (i 0).val) 8#32) (BitVec.ofNat 32 j))) = 8 * (i 0).val + j := by
  have h : (i 0).val < 13 := (i 0).isLt
  simp [Scalar.indexCast, Scalar.addi, Scalar.muli, IntOp.addi, IntOp.muli]; omega

theorem ld_whole {κ : Kind} {sp : Space} {s : Shape} {e : EltTy} (m : Memref sig κ sp s e) (hm : m.IsWhole) (X : Vec F s e) (r : LoadRect s) (x : r.shape.Idx) :
    View.readAt (Elt F) m.view r (hm.unread X) x = X (r.idx x) := by
  rw [View.readAt_apply, hm.read_unread]

theorem wtile128 {arg3 : Memref sig .tc .vmem S576x1024 .fp8e4m3} (harg3 : arg3.IsWhole) {arg4 : Memref sig .tc .smem S5x56 .f32} (harg4 : arg4.IsWhole)
    (x2 : Vec F S576x1024 .fp8e4m3) (x3 : Vec F S5x56 .f32) (k r j : ℕ) {off : Fin 3 → ℕ} (hoff : off = ![k, 128 * r, 128 * j])
    {o3 : Fin 2 → ℕ} {inb3} (ho3 : o3 = ![128 * r, 128 * j]) {o4 : Fin 2 → ℕ} {inb4} (ho4 : o4 = ![r, 8 * k + j]) {h1} (x : S1x128x128.Idx) {y : S7x576x1024.Idx} (hy : ∀ a, (y a).val = off a + (x a).val) :
    k0_pay9 (View.readAt (Elt F) arg4.view (Rect.unit (s := S5x56) o4 S1x1.size inb4).toLoadRect (harg4.unread x3) (Shape.Idx.first h1))
      (View.readAt (Elt F) arg3.view (Rect.unit (s := S576x1024) o3 S128x128.size inb3).toLoadRect (harg3.unread x2)) x
    = wAll x2 x3 y := by
  subst hoff ho3 ho4
  have y0 : (y 0).val = k + (x 0).val := hy 0
  have y1 : (y 1).val = 128 * r + (x 1).val := hy 1
  have y2 : (y 2).val = 128 * j + (x 2).val := hy 2
  unfold k0_pay9 wAll
  simp only [ld_whole]
  pointwise
  rw [ld_whole]
  have b1 : (x 1).val < 128 := (x 1).isLt
  have b2 : (x 2).val < 128 := (x 2).isLt
  have b0 : (x 0).val < 1 := (x 0).isLt
  refine congrArg₂ FloatOps.mulf (congrArg _ (congrArg x2 (funext fun a => Fin.ext ?_))) (congrArg (Scalar.truncf FTy.bf16 bitsLt_bf16_f32) (congrArg x3 (funext fun a => Fin.ext ?_)))
  · fin_cases a <;> simp [y1, y2]
  · fin_cases a <;> simp [y0, y1, y2] <;> omega

theorem wtile64 {arg3 : Memref sig .tc .vmem S576x1024 .fp8e4m3} (harg3 : arg3.IsWhole) {arg4 : Memref sig .tc .smem S5x56 .f32} (harg4 : arg4.IsWhole)
    (x2 : Vec F S576x1024 .fp8e4m3) (x3 : Vec F S5x56 .f32) (k r j : ℕ) {off : Fin 3 → ℕ} (hoff : off = ![k, 128 * r, 128 * j])
    {o3 : Fin 2 → ℕ} {inb3} (ho3 : o3 = ![128 * r, 128 * j]) {o4 : Fin 2 → ℕ} {inb4} (ho4 : o4 = ![r, 8 * k + j]) {h1} (x : S1x64x128.Idx) {y : S7x576x1024.Idx} (hy : ∀ a, (y a).val = off a + (x a).val) :
    k0_pay13 (View.readAt (Elt F) arg4.view (Rect.unit (s := S5x56) o4 S1x1.size inb4).toLoadRect (harg4.unread x3) (Shape.Idx.first h1))
      (View.readAt (Elt F) arg3.view (Rect.unit (s := S576x1024) o3 S64x128.size inb3).toLoadRect (harg3.unread x2)) x
    = wAll x2 x3 y := by
  subst hoff ho3 ho4
  have y0 : (y 0).val = k + (x 0).val := hy 0
  have y1 : (y 1).val = 128 * r + (x 1).val := hy 1
  have y2 : (y 2).val = 128 * j + (x 2).val := hy 2
  unfold k0_pay13 wAll
  simp only [ld_whole]
  pointwise
  rw [ld_whole]
  have b1 : (x 1).val < 64 := (x 1).isLt
  have b2 : (x 2).val < 128 := (x 2).isLt
  have b0 : (x 0).val < 1 := (x 0).isLt
  refine congrArg₂ FloatOps.mulf (congrArg _ (congrArg x2 (funext fun a => Fin.ext ?_))) (congrArg (Scalar.truncf FTy.bf16 bitsLt_bf16_f32) (congrArg x3 (funext fun a => Fin.ext ?_)))
  · fin_cases a <;> simp [y1, y2]
  · fin_cases a <;> simp [y0, y1, y2] <;> omega

/-- One column group of the dequantised input, as the kernel writes it: group `j` of block `a0`. -/
noncomputable def xPay (a0 j : BitVec 32) (v9 : Vec F S1536x128 .bf16) (v23 : Vec F S6x256x128 .fp8e4m3) : FVec F S1536x128 .bf16 :=
  have v13 : IVec S1536x128 32 := broadcast S1536x128 (Scalar.addi (Scalar.muli a0 8#32) j)
  have v14 : IVec S1536x128 32 := broadcast S1536x128 0#32
  have v15 : IVec S1536x128 1 := cmpi .slt v13 v14
  have v16 : IVec S1536x128 32 := broadcast S1536x128 128#32
  have v17 : IVec S1536x128 32 := addi v13 v16
  have v18 : IVec S1536x128 32 := select v15 v17 v13
  have v19 : IVec S1536x128x1 32 := shapeCast S1536x128x1 v18 shapeCasts_S1536x128_S1536x128x1
  have v20 : IVec S1536x128 32 := shapeCast S1536x128 v19 shapeCasts_S1536x128x1_S1536x128
  have v21 : FVec F S1536x128 .f32 := dynamicGather 1 (k0_pay7 v9) v20
  have v22 : FVec F S1536x128 .bf16 := truncf .bf16 v21 bitsLt_bf16_f32
  have v24 : FVec F S1536x128 .fp8e4m3 := shapeCast S1536x128 v23 shapeCasts_S6x256x128_S1536x128
  have v25 : FVec F S1536x128 .bf16 := extf .bf16 v24 bitsLt_fp8e4m3_bf16
  have v26 : FVec F S1536x128 .bf16 := mulf v25 v22
  have v29 : FVec F S1536x128 .bf16 := shapeCast S1536x128 v26 shapeCasts_S1536x128_S1536x128
  v29

theorem xcol (i : grid0.Coords) (j : ℕ) (hj : j < 8) (hi : (i 0).val < 7) :
    Scalar.select (IntOp.cmpi .slt (Scalar.addi (Scalar.muli (BitVec.ofNat 32 (i 0).val) 8#32) (BitVec.ofNat 32 j)) 0#32)
      (IntOp.addi (Scalar.addi (Scalar.muli (BitVec.ofNat 32 (i 0).val) 8#32) (BitVec.ofNat 32 j)) 128#32)
      (Scalar.addi (Scalar.muli (BitVec.ofNat 32 (i 0).val) 8#32) (BitVec.ofNat 32 j))
    = BitVec.ofNat 32 (8 * (i 0).val + j) := by
  revert hi; generalize (i 0).val = n; intro hi
  interval_cases n <;> interval_cases j <;> decide

theorem xtile {arg1 : Memref sig .tc .vmem S6x256x1024 .fp8e4m3} (harg1 : arg1.IsWhole) (i : grid0.Coords) (hi : (i 0).val < 7) (xs : Vec F S1536x128 .bf16) {v9 : Vec F S1536x128 .bf16} (hv : v9 = xs)
    (x0 : Vec F S6x256x1024 .fp8e4m3) (j : ℕ) (hj : j < 8) {off : Fin 2 → ℕ} (hoff : off = ![0, 128 * j])
    {o1 : Fin 3 → ℕ} {inb1} (ho1 : o1 = ![0, 0, 128 * j]) (x : S1536x128.Idx) {y : S1536x1024.Idx} (hy : ∀ a, (y a).val = off a + (x a).val) :
    xPay (BitVec.ofNat 32 (i 0).val) (BitVec.ofNat 32 j) v9
      (View.readAt (Elt F) arg1.view (Rect.unit (s := S6x256x1024) o1 S6x256x128.size inb1).toLoadRect (harg1.unread x0)) x
    = xwBlk (i 0).val xs x0 y := by
  subst hoff ho1 hv
  have y0 : (y 0).val = (x 0).val := by have := hy 0; simpa using this
  have y1 : (y 1).val = 128 * j + (x 1).val := hy 1
  have b1 : (x 1).val < 128 := (x 1).isLt
  have b0 : (x 0).val < 1536 := (x 0).isLt
  unfold xPay xwBlk k0_pay7
  pointwise
  rw [ld_whole]
  refine congrArg₂ FloatOps.mulf (congrArg _ (congrArg x0 (funext fun a => Fin.ext ?_))) (congrArg (FloatOps.truncf FTy.bf16 bitsLt_bf16_f32) (congrArg (FloatOps.extf FTy.f32 bitsLt_bf16_f32) (congrArg v9 (funext fun a => Fin.ext ?_))))
  · fin_cases a <;> simp [y0, y1]
  · have e := congrArg (fun b : BitVec 32 => b.toNat % 128) (xcol i j hj hi)
    fin_cases a
    · simp [y0]
    · refine Eq.trans e ?_
      simp [y1]
      omega

theorem exists_mem_tail {α : Type _} {a : α} {L : List α} {P : α → Prop} (h : ∃ p ∈ L, P p) : ∃ p ∈ a :: L, P p := by
  obtain ⟨p, hp, h⟩ := h
  exact ⟨p, List.mem_cons_of_mem _ hp, h⟩

/-- The same past five elements at once. -/
theorem exists_mem_tail5 {α : Type _} {a b c d e : α} {L : List α} {P : α → Prop} (h : ∃ p ∈ L, P p) :
    ∃ p ∈ a :: b :: c :: d :: e :: L, P p :=
  exists_mem_tail (exists_mem_tail (exists_mem_tail (exists_mem_tail (exists_mem_tail h))))

theorem unitMem {s : Shape} (ρ : Rect s) (hst : ∀ a, ρ.stride a = 1) (y : s.Idx) : y ∈ ρ.set ↔ ∀ a, ρ.off a ≤ y a ∧ (y a).val < ρ.off a + ρ.size a := by
  simp only [LoadRect.mem_set]
  refine forall_congr' fun a => ?_
  have h1 := hst a
  simp only [h1, Nat.one_mul]
  exact ⟨fun ⟨j, hj, e⟩ => by omega, fun ⟨hlo, hhi⟩ => ⟨(y a).val - ρ.off a, by omega, by omega⟩⟩

theorem wmem (i : grid0.Coords) (y : S7x576x1024.Idx) (hy : (y 0).val = (i 0).val) {ρ : Rect S7x576x1024} {r n j m : ℕ}
    (hst : ∀ a, ρ.stride a = 1) (hs : ρ.size = ![1, n, m]) (h : r ≤ (y 1).val ∧ (y 1).val < r + n ∧ j ≤ (y 2).val ∧ (y 2).val < j + m) (hoff : ρ.off = ![(i 0).val, r, j]) :
    y ∈ ρ.set := by
  rw [unitMem ρ hst, hoff, hs]
  intro a
  fin_cases a
  · exact ⟨by simp [hy], by simp [hy]⟩
  · exact ⟨h.1, h.2.1⟩
  · exact ⟨h.2.2.1, h.2.2.2⟩

theorem wnot (i : grid0.Coords) (y : S7x576x1024.Idx) (hy : (y 0).val ≠ (i 0).val) {ρ : Rect S7x576x1024} {r j : ℕ}
    (hst : ∀ a, ρ.stride a = 1) (hs : ρ.size (0 : Fin 3) = 1) (hoff : ρ.off = ![(i 0).val, r, j]) :
    y ∉ ρ.set := by
  rw [unitMem ρ hst, hoff]
  intro h
  have h0 := h (0 : Fin 3)
  rw [hs] at h0
  have h1 : (i 0).val ≤ (y 0).val ∧ (y 0).val < (i 0).val + 1 := h0
  omega

theorem cond2_lt : ∀ i : grid0.Coords, cond2 i → (i 0).val < 7 := by decide +kernel

theorem whole2 {d : Fin 2 → ℕ} (y : (⟨2, d⟩ : Shape).Idx) {inb : ∀ a, ![0, 0] a + (⟨2, d⟩ : Shape).size a ≤ (⟨2, d⟩ : Shape).size a} :
    y ∈ (Rect.unit (s := ⟨2, d⟩) ![0, 0] (⟨2, d⟩ : Shape).size inb).set := by
  rw [Rect.mem_set_unit]
  intro a
  have h := (y a).isLt
  fin_cases a
  · exact ⟨Nat.zero_le _, by simpa using h⟩
  · exact ⟨Nat.zero_le _, by simpa using h⟩

/-- The projection's rows of one block of the dequantised weight. -/
def wRows (x2 : Vec F S576x1024 .fp8e4m3) (x3 : Vec F S5x56 .f32) (n : ℕ) (hn : n < 7) : Vec F S1x512x1024 .bf16 := fun y =>
  wAll x2 x3 (ix3 (n0 := 7) (n1 := 576) (n2 := 1024) ⟨n, hn⟩ ⟨(y 1).val, lt_trans (y 1).isLt (by decide)⟩ ⟨(y 2).val, (y 2).isLt⟩)

/-- The staged token scales: the scales rounded to bf16 in the first 56 lanes, zeros in the others. -/
def xsv (x1 : Vec F S6x256x56 .f32) : Vec F S1536x128 .bf16 :=
  View.canon (Val := Elt F) [⟨Rect.unit ![0, 0] S1536x56.size inb_S1536x128_S1536x56_0_0, k0_pay3 x1⟩, ⟨Rect.unit ![0, 0] S1536x128.size inb_S1536x128_S1536x128_0_0, k0_pay2⟩]
end Cert.Kernel.Run

end
-- ==== Proof.Rounded.WeightA.lean ====
module

public import proofs.«01_k».proof.Proof.Rounded.RunA
public import proofs.«01_k».proof.Proof.Rounded.Tiles

@[expose] public section

set_option maxRecDepth 16384
set_option maxHeartbeats 4000000
set_option pp.maxSteps 150

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the point writes into the weight scratch: every piece is a tile of the dequantised weight. -/
theorem runA_wpieces (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) :
    ∀ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1, ∀ x : p.1.shape.Idx, p.2 x = wAll x2 x3 (p.1.emb x) := by
  simp only [runA]
  sl_unfold_words
  refine List.forall_mem_cons.2 ⟨fun x => wtile64 harg3 harg4 x2 x3 (i 0).val 4 7 (by exact congrArg (fun n => ![n, 512, 896]) (off_i i)) (by rfl) (by exact congrArg (fun n => ![4, n]) (off_col i 7 (by decide))) x (fun a => by rw [Rect.emb_apply]; exact congrArg (_ + ·) (Nat.one_mul _)), ?_⟩
  refine List.forall_mem_cons.2 ⟨fun x => wtile128 harg3 harg4 x2 x3 (i 0).val 3 7 (by exact congrArg (fun n => ![n, 384, 896]) (off_i i)) (by rfl) (by exact congrArg (fun n => ![3, n]) (off_col i 7 (by decide))) x (fun a => by rw [Rect.emb_apply]; exact congrArg (_ + ·) (Nat.one_mul _)), ?_⟩
  refine List.forall_mem_cons.2 ⟨fun x => wtile128 harg3 harg4 x2 x3 (i 0).val 2 7 (by exact congrArg (fun n => ![n, 256, 896]) (off_i i)) (by rfl) (by exact congrArg (fun n => ![2, n]) (off_col i 7 (by decide))) x (fun a => by rw [Rect.emb_apply]; exact congrArg (_ + ·) (Nat.one_mul _)), ?_⟩
  refine List.forall_mem_cons.2 ⟨fun x => wtile128 harg3 harg4 x2 x3 (i 0).val 1 7 (by exact congrArg (fun n => ![n, 128, 896]) (off_i i)) (by rfl) (by exact congrArg (fun n => ![1, n]) (off_col i 7 (by decide))) x (fun a => by rw [Rect.emb_apply]; exact congrArg (_ + ·) (Nat.one_mul _)), ?_⟩
  refine List.forall_mem_cons.2 ⟨fun x => wtile128 harg3 harg4 x2 x3 (i 0).val 0 7 (by exact congrArg (fun n => ![n, 0, 896]) (off_i i)) (by rfl) (by exact congrArg (fun n => ![0, n]) (off_col i 7 (by decide))) x (fun a => by rw [Rect.emb_apply]; exact congrArg (_ + ·) (Nat.one_mul _)), ?_⟩
  refine List.forall_mem_cons.2 ⟨fun x => wtile64 harg3 harg4 x2 x3 (i 0).val 4 6 (by exact congrArg (fun n => ![n, 512, 768]) (off_i i)) (by rfl) (by exact congrArg (fun n => ![4, n]) (off_col i 6 (by decide))) x (fun a => by rw [Rect.emb_apply]; exact congrArg (_ + ·) (Nat.one_mul _)), ?_⟩
  refine List.forall_mem_cons.2 ⟨fun x => wtile128 harg3 harg4 x2 x3 (i 0).val 3 6 (by exact congrArg (fun n => ![n, 384, 768]) (off_i i)) (by rfl) (by exact congrArg (fun n => ![3, n]) (off_col i 6 (by decide))) x (fun a => by rw [Rect.emb_apply]; exact congrArg (_ + ·) (Nat.one_mul _)), ?_⟩
  refine List.forall_mem_cons.2 ⟨fun x => wtile128 harg3 harg4 x2 x3 (i 0).val 2 6 (by exact congrArg (fun n => ![n, 256, 768]) (off_i i)) (by rfl) (by exact congrArg (fun n => ![2, n]) (off_col i 6 (by decide))) x (fun a => by rw [Rect.emb_apply]; exact congrArg (_ + ·) (Nat.one_mul _)), ?_⟩
  refine List.forall_mem_cons.2 ⟨fun x => wtile128 harg3 harg4 x2 x3 (i 0).val 1 6 (by exact congrArg (fun n => ![n, 128, 768]) (off_i i)) (by rfl) (by exact congrArg (fun n => ![1, n]) (off_col i 6 (by decide))) x (fun a => by rw [Rect.emb_apply]; exact congrArg (_ + ·) (Nat.one_mul _)), ?_⟩
  refine List.forall_mem_cons.2 ⟨fun x => wtile128 harg3 harg4 x2 x3 (i 0).val 0 6 (by exact congrArg (fun n => ![n, 0, 768]) (off_i i)) (by rfl) (by exact congrArg (fun n => ![0, n]) (off_col i 6 (by decide))) x (fun a => by rw [Rect.emb_apply]; exact congrArg (_ + ·) (Nat.one_mul _)), ?_⟩
  refine List.forall_mem_cons.2 ⟨fun x => wtile64 harg3 harg4 x2 x3 (i 0).val 4 5 (by exact congrArg (fun n => ![n, 512, 640]) (off_i i)) (by rfl) (by exact congrArg (fun n => ![4, n]) (off_col i 5 (by decide))) x (fun a => by rw [Rect.emb_apply]; exact congrArg (_ + ·) (Nat.one_mul _)), ?_⟩
  refine List.forall_mem_cons.2 ⟨fun x => wtile128 harg3 harg4 x2 x3 (i 0).val 3 5 (by exact congrArg (fun n => ![n, 384, 640]) (off_i i)) (by rfl) (by exact congrArg (fun n => ![3, n]) (off_col i 5 (by decide))) x (fun a => by rw [Rect.emb_apply]; exact congrArg (_ + ·) (Nat.one_mul _)), ?_⟩
  refine List.forall_mem_cons.2 ⟨fun x => wtile128 harg3 harg4 x2 x3 (i 0).val 2 5 (by exact congrArg (fun n => ![n, 256, 640]) (off_i i)) (by rfl) (by exact congrArg (fun n => ![2, n]) (off_col i 5 (by decide))) x (fun a => by rw [Rect.emb_apply]; exact congrArg (_ + ·) (Nat.one_mul _)), ?_⟩
  refine List.forall_mem_cons.2 ⟨fun x => wtile128 harg3 harg4 x2 x3 (i 0).val 1 5 (by exact congrArg (fun n => ![n, 128, 640]) (off_i i)) (by rfl) (by exact congrArg (fun n => ![1, n]) (off_col i 5 (by decide))) x (fun a => by rw [Rect.emb_apply]; exact congrArg (_ + ·) (Nat.one_mul _)), ?_⟩
  refine List.forall_mem_cons.2 ⟨fun x => wtile128 harg3 harg4 x2 x3 (i 0).val 0 5 (by exact congrArg (fun n => ![n, 0, 640]) (off_i i)) (by rfl) (by exact congrArg (fun n => ![0, n]) (off_col i 5 (by decide))) x (fun a => by rw [Rect.emb_apply]; exact congrArg (_ + ·) (Nat.one_mul _)), ?_⟩
  refine List.forall_mem_cons.2 ⟨fun x => wtile64 harg3 harg4 x2 x3 (i 0).val 4 4 (by exact congrArg (fun n => ![n, 512, 512]) (off_i i)) (by rfl) (by exact congrArg (fun n => ![4, n]) (off_col i 4 (by decide))) x (fun a => by rw [Rect.emb_apply]; exact congrArg (_ + ·) (Nat.one_mul _)), ?_⟩
  refine List.forall_mem_cons.2 ⟨fun x => wtile128 harg3 harg4 x2 x3 (i 0).val 3 4 (by exact congrArg (fun n => ![n, 384, 512]) (off_i i)) (by rfl) (by exact congrArg (fun n => ![3, n]) (off_col i 4 (by decide))) x (fun a => by rw [Rect.emb_apply]; exact congrArg (_ + ·) (Nat.one_mul _)), ?_⟩
  refine List.forall_mem_cons.2 ⟨fun x => wtile128 harg3 harg4 x2 x3 (i 0).val 2 4 (by exact congrArg (fun n => ![n, 256, 512]) (off_i i)) (by rfl) (by exact congrArg (fun n => ![2, n]) (off_col i 4 (by decide))) x (fun a => by rw [Rect.emb_apply]; exact congrArg (_ + ·) (Nat.one_mul _)), ?_⟩
  refine List.forall_mem_cons.2 ⟨fun x => wtile128 harg3 harg4 x2 x3 (i 0).val 1 4 (by exact congrArg (fun n => ![n, 128, 512]) (off_i i)) (by rfl) (by exact congrArg (fun n => ![1, n]) (off_col i 4 (by decide))) x (fun a => by rw [Rect.emb_apply]; exact congrArg (_ + ·) (Nat.one_mul _)), ?_⟩
  refine List.forall_mem_cons.2 ⟨fun x => wtile128 harg3 harg4 x2 x3 (i 0).val 0 4 (by exact congrArg (fun n => ![n, 0, 512]) (off_i i)) (by rfl) (by exact congrArg (fun n => ![0, n]) (off_col i 4 (by decide))) x (fun a => by rw [Rect.emb_apply]; exact congrArg (_ + ·) (Nat.one_mul _)), ?_⟩
  refine List.forall_mem_cons.2 ⟨fun x => wtile64 harg3 harg4 x2 x3 (i 0).val 4 3 (by exact congrArg (fun n => ![n, 512, 384]) (off_i i)) (by rfl) (by exact congrArg (fun n => ![4, n]) (off_col i 3 (by decide))) x (fun a => by rw [Rect.emb_apply]; exact congrArg (_ + ·) (Nat.one_mul _)), ?_⟩
  refine List.forall_mem_cons.2 ⟨fun x => wtile128 harg3 harg4 x2 x3 (i 0).val 3 3 (by exact congrArg (fun n => ![n, 384, 384]) (off_i i)) (by rfl) (by exact congrArg (fun n => ![3, n]) (off_col i 3 (by decide))) x (fun a => by rw [Rect.emb_apply]; exact congrArg (_ + ·) (Nat.one_mul _)), ?_⟩
  refine List.forall_mem_cons.2 ⟨fun x => wtile128 harg3 harg4 x2 x3 (i 0).val 2 3 (by exact congrArg (fun n => ![n, 256, 384]) (off_i i)) (by rfl) (by exact congrArg (fun n => ![2, n]) (off_col i 3 (by decide))) x (fun a => by rw [Rect.emb_apply]; exact congrArg (_ + ·) (Nat.one_mul _)), ?_⟩
  refine List.forall_mem_cons.2 ⟨fun x => wtile128 harg3 harg4 x2 x3 (i 0).val 1 3 (by exact congrArg (fun n => ![n, 128, 384]) (off_i i)) (by rfl) (by exact congrArg (fun n => ![1, n]) (off_col i 3 (by decide))) x (fun a => by rw [Rect.emb_apply]; exact congrArg (_ + ·) (Nat.one_mul _)), ?_⟩
  refine List.forall_mem_cons.2 ⟨fun x => wtile128 harg3 harg4 x2 x3 (i 0).val 0 3 (by exact congrArg (fun n => ![n, 0, 384]) (off_i i)) (by rfl) (by exact congrArg (fun n => ![0, n]) (off_col i 3 (by decide))) x (fun a => by rw [Rect.emb_apply]; exact congrArg (_ + ·) (Nat.one_mul _)), ?_⟩
  refine List.forall_mem_cons.2 ⟨fun x => wtile64 harg3 harg4 x2 x3 (i 0).val 4 2 (by exact congrArg (fun n => ![n, 512, 256]) (off_i i)) (by rfl) (by exact congrArg (fun n => ![4, n]) (off_col i 2 (by decide))) x (fun a => by rw [Rect.emb_apply]; exact congrArg (_ + ·) (Nat.one_mul _)), ?_⟩
  refine List.forall_mem_cons.2 ⟨fun x => wtile128 harg3 harg4 x2 x3 (i 0).val 3 2 (by exact congrArg (fun n => ![n, 384, 256]) (off_i i)) (by rfl) (by exact congrArg (fun n => ![3, n]) (off_col i 2 (by decide))) x (fun a => by rw [Rect.emb_apply]; exact congrArg (_ + ·) (Nat.one_mul _)), ?_⟩
  refine List.forall_mem_cons.2 ⟨fun x => wtile128 harg3 harg4 x2 x3 (i 0).val 2 2 (by exact congrArg (fun n => ![n, 256, 256]) (off_i i)) (by rfl) (by exact congrArg (fun n => ![2, n]) (off_col i 2 (by decide))) x (fun a => by rw [Rect.emb_apply]; exact congrArg (_ + ·) (Nat.one_mul _)), ?_⟩
  refine List.forall_mem_cons.2 ⟨fun x => wtile128 harg3 harg4 x2 x3 (i 0).val 1 2 (by exact congrArg (fun n => ![n, 128, 256]) (off_i i)) (by rfl) (by exact congrArg (fun n => ![1, n]) (off_col i 2 (by decide))) x (fun a => by rw [Rect.emb_apply]; exact congrArg (_ + ·) (Nat.one_mul _)), ?_⟩
  refine List.forall_mem_cons.2 ⟨fun x => wtile128 harg3 harg4 x2 x3 (i 0).val 0 2 (by exact congrArg (fun n => ![n, 0, 256]) (off_i i)) (by rfl) (by exact congrArg (fun n => ![0, n]) (off_col i 2 (by decide))) x (fun a => by rw [Rect.emb_apply]; exact congrArg (_ + ·) (Nat.one_mul _)), ?_⟩
  refine List.forall_mem_cons.2 ⟨fun x => wtile64 harg3 harg4 x2 x3 (i 0).val 4 1 (by exact congrArg (fun n => ![n, 512, 128]) (off_i i)) (by rfl) (by exact congrArg (fun n => ![4, n]) (off_col i 1 (by decide))) x (fun a => by rw [Rect.emb_apply]; exact congrArg (_ + ·) (Nat.one_mul _)), ?_⟩
  refine List.forall_mem_cons.2 ⟨fun x => wtile128 harg3 harg4 x2 x3 (i 0).val 3 1 (by exact congrArg (fun n => ![n, 384, 128]) (off_i i)) (by rfl) (by exact congrArg (fun n => ![3, n]) (off_col i 1 (by decide))) x (fun a => by rw [Rect.emb_apply]; exact congrArg (_ + ·) (Nat.one_mul _)), ?_⟩
  refine List.forall_mem_cons.2 ⟨fun x => wtile128 harg3 harg4 x2 x3 (i 0).val 2 1 (by exact congrArg (fun n => ![n, 256, 128]) (off_i i)) (by rfl) (by exact congrArg (fun n => ![2, n]) (off_col i 1 (by decide))) x (fun a => by rw [Rect.emb_apply]; exact congrArg (_ + ·) (Nat.one_mul _)), ?_⟩
  refine List.forall_mem_cons.2 ⟨fun x => wtile128 harg3 harg4 x2 x3 (i 0).val 1 1 (by exact congrArg (fun n => ![n, 128, 128]) (off_i i)) (by rfl) (by exact congrArg (fun n => ![1, n]) (off_col i 1 (by decide))) x (fun a => by rw [Rect.emb_apply]; exact congrArg (_ + ·) (Nat.one_mul _)), ?_⟩
  refine List.forall_mem_cons.2 ⟨fun x => wtile128 harg3 harg4 x2 x3 (i 0).val 0 1 (by exact congrArg (fun n => ![n, 0, 128]) (off_i i)) (by rfl) (by exact congrArg (fun n => ![0, n]) (off_col i 1 (by decide))) x (fun a => by rw [Rect.emb_apply]; exact congrArg (_ + ·) (Nat.one_mul _)), ?_⟩
  refine List.forall_mem_cons.2 ⟨fun x => wtile64 harg3 harg4 x2 x3 (i 0).val 4 0 (by exact congrArg (fun n => ![n, 512, 0]) (off_i i)) (by rfl) (by exact congrArg (fun n => ![4, n]) (off_col i 0 (by decide))) x (fun a => by rw [Rect.emb_apply]; exact congrArg (_ + ·) (Nat.one_mul _)), ?_⟩
  refine List.forall_mem_cons.2 ⟨fun x => wtile128 harg3 harg4 x2 x3 (i 0).val 3 0 (by exact congrArg (fun n => ![n, 384, 0]) (off_i i)) (by rfl) (by exact congrArg (fun n => ![3, n]) (off_col i 0 (by decide))) x (fun a => by rw [Rect.emb_apply]; exact congrArg (_ + ·) (Nat.one_mul _)), ?_⟩
  refine List.forall_mem_cons.2 ⟨fun x => wtile128 harg3 harg4 x2 x3 (i 0).val 2 0 (by exact congrArg (fun n => ![n, 256, 0]) (off_i i)) (by rfl) (by exact congrArg (fun n => ![2, n]) (off_col i 0 (by decide))) x (fun a => by rw [Rect.emb_apply]; exact congrArg (_ + ·) (Nat.one_mul _)), ?_⟩
  refine List.forall_mem_cons.2 ⟨fun x => wtile128 harg3 harg4 x2 x3 (i 0).val 1 0 (by exact congrArg (fun n => ![n, 128, 0]) (off_i i)) (by rfl) (by exact congrArg (fun n => ![1, n]) (off_col i 0 (by decide))) x (fun a => by rw [Rect.emb_apply]; exact congrArg (_ + ·) (Nat.one_mul _)), ?_⟩
  refine List.forall_mem_cons.2 ⟨fun x => wtile128 harg3 harg4 x2 x3 (i 0).val 0 0 (by exact congrArg (fun n => ![n, 0, 0]) (off_i i)) (by rfl) (by exact congrArg (fun n => ![0, n]) (off_col i 0 (by decide))) x (fun a => by rw [Rect.emb_apply]; exact congrArg (_ + ·) (Nat.one_mul _)), ?_⟩
  exact fun p hp => absurd hp List.not_mem_nil

/-- Every index of the point's own block lies in one of the pieces. -/
theorem runA_wcover (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (y : S7x576x1024.Idx) (hy : (y 0).val = (i 0).val) :
    ∃ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1, y ∈ p.1.set := by
  have b1 : (y 1).val < 576 := (y 1).isLt
  have b2 : (y 2).val < 1024 := (y 2).isLt
  simp only [runA]
  sl_unfold_words
  obtain ⟨j, hj⟩ : ∃ j, j = (y 2).val / 128 := ⟨_, rfl⟩
  obtain ⟨r, hr⟩ : ∃ r, r = (y 1).val / 128 := ⟨_, rfl⟩
  have hj8 : j < 8 := by omega
  have hr5 : r < 5 := by omega
  interval_cases j <;> interval_cases r
  · exact exists_mem_tail5 (exists_mem_tail5 (exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 0) (m := 128) (fun _ => by rfl) (by rfl) (by omega) (by exact congrArg (fun n => ![n, 0, 0]) (off_i i)))⟩)))))))))))
  · exact exists_mem_tail5 (exists_mem_tail5 (exists_mem_tail5 (exists_mem_tail5 (exists_mem_tail5 (exists_mem_tail5 (exists_mem_tail5 (exists_mem_tail (exists_mem_tail (exists_mem_tail (⟨_, List.mem_cons_self, (wmem i y hy (r := 128) (n := 128) (j := 0) (m := 128) (fun _ => by rfl) (by rfl) (by omega) (by exact congrArg (fun n => ![n, 128, 0]) (off_i i)))⟩))))))))))
  · exact exists_mem_tail5 (exists_mem_tail5 (exists_mem_tail5 (exists_mem_tail5 (exists_mem_tail5 (exists_mem_tail5 (exists_mem_tail5 (exists_mem_tail (exists_mem_tail (⟨_, List.mem_cons_self, (wmem i y hy (r := 256) (n := 128) (j := 0) (m := 128) (fun _ => by rfl) (by rfl) (by omega) (by exact congrArg (fun n => ![n, 256, 0]) (off_i i)))⟩)))))))))
  · exact exists_mem_tail5 (exists_mem_tail5 (exists_mem_tail5 (exists_mem_tail5 (exists_mem_tail5 (exists_mem_tail5 (exists_mem_tail5 (exists_mem_tail (⟨_, List.mem_cons_self, (wmem i y hy (r := 384) (n := 128) (j := 0) (m := 128) (fun _ => by rfl) (by rfl) (by omega) (by exact congrArg (fun n => ![n, 384, 0]) (off_i i)))⟩))))))))
  · exact exists_mem_tail5 (exists_mem_tail5 (exists_mem_tail5 (exists_mem_tail5 (exists_mem_tail5 (exists_mem_tail5 (exists_mem_tail5 (⟨_, List.mem_cons_self, (wmem i y hy (r := 512) (n := 64) (j := 0) (m := 128) (fun _ => by rfl) (by rfl) (by omega) (by exact congrArg (fun n => ![n, 512, 0]) (off_i i)))⟩)))))))
  · exact exists_mem_tail5 (exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 128) (m := 128) (fun _ => by rfl) (by rfl) (by omega) (by exact congrArg (fun n => ![n, 0, 128]) (off_i i)))⟩))))))))))
  · exact exists_mem_tail5 (exists_mem_tail5 (exists_mem_tail5 (exists_mem_tail5 (exists_mem_tail5 (exists_mem_tail5 (exists_mem_tail (exists_mem_tail (exists_mem_tail (⟨_, List.mem_cons_self, (wmem i y hy (r := 128) (n := 128) (j := 128) (m := 128) (fun _ => by rfl) (by rfl) (by omega) (by exact congrArg (fun n => ![n, 128, 128]) (off_i i)))⟩)))))))))
  · exact exists_mem_tail5 (exists_mem_tail5 (exists_mem_tail5 (exists_mem_tail5 (exists_mem_tail5 (exists_mem_tail5 (exists_mem_tail (exists_mem_tail (⟨_, List.mem_cons_self, (wmem i y hy (r := 256) (n := 128) (j := 128) (m := 128) (fun _ => by rfl) (by rfl) (by omega) (by exact congrArg (fun n => ![n, 256, 128]) (off_i i)))⟩))))))))
  · exact exists_mem_tail5 (exists_mem_tail5 (exists_mem_tail5 (exists_mem_tail5 (exists_mem_tail5 (exists_mem_tail5 (exists_mem_tail (⟨_, List.mem_cons_self, (wmem i y hy (r := 384) (n := 128) (j := 128) (m := 128) (fun _ => by rfl) (by rfl) (by omega) (by exact congrArg (fun n => ![n, 384, 128]) (off_i i)))⟩)))))))
  · exact exists_mem_tail5 (exists_mem_tail5 (exists_mem_tail5 (exists_mem_tail5 (exists_mem_tail5 (exists_mem_tail5 (⟨_, List.mem_cons_self, (wmem i y hy (r := 512) (n := 64) (j := 128) (m := 128) (fun _ => by rfl) (by rfl) (by omega) (by exact congrArg (fun n => ![n, 512, 128]) (off_i i)))⟩))))))
  · exact exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 256) (m := 128) (fun _ => by rfl) (by rfl) (by omega) (by exact congrArg (fun n => ![n, 0, 256]) (off_i i)))⟩)))))))))
  · exact exists_mem_tail5 (exists_mem_tail5 (exists_mem_tail5 (exists_mem_tail5 (exists_mem_tail5 (exists_mem_tail (exists_mem_tail (exists_mem_tail (⟨_, List.mem_cons_self, (wmem i y hy (r := 128) (n := 128) (j := 256) (m := 128) (fun _ => by rfl) (by rfl) (by omega) (by exact congrArg (fun n => ![n, 128, 256]) (off_i i)))⟩))))))))
  · exact exists_mem_tail5 (exists_mem_tail5 (exists_mem_tail5 (exists_mem_tail5 (exists_mem_tail5 (exists_mem_tail (exists_mem_tail (⟨_, List.mem_cons_self, (wmem i y hy (r := 256) (n := 128) (j := 256) (m := 128) (fun _ => by rfl) (by rfl) (by omega) (by exact congrArg (fun n => ![n, 256, 256]) (off_i i)))⟩)))))))
  · exact exists_mem_tail5 (exists_mem_tail5 (exists_mem_tail5 (exists_mem_tail5 (exists_mem_tail5 (exists_mem_tail (⟨_, List.mem_cons_self, (wmem i y hy (r := 384) (n := 128) (j := 256) (m := 128) (fun _ => by rfl) (by rfl) (by omega) (by exact congrArg (fun n => ![n, 384, 256]) (off_i i)))⟩))))))
  · exact exists_mem_tail5 (exists_mem_tail5 (exists_mem_tail5 (exists_mem_tail5 (exists_mem_tail5 (⟨_, List.mem_cons_self, (wmem i y hy (r := 512) (n := 64) (j := 256) (m := 128) (fun _ => by rfl) (by rfl) (by omega) (by exact congrArg (fun n => ![n, 512, 256]) (off_i i)))⟩)))))
  · exact exists_mem_tail5 (exists_mem_tail5 (exists_mem_tail5 (exists_mem_tail5 (exists_mem_tail (exists_mem_tail (exists_mem_tail (exists_mem_tail (⟨_, List.mem_cons_self, (wmem i y hy (r := 0) (n := 128) (j := 384) (m := 128) (fun _ => by rfl) (by rfl) (by omega) (by exact congrArg (fun n => ![n, 0, 384]) (off_i i)))⟩))))))))
  · exact exists_mem_tail5 (exists_mem_tail5 (exists_mem_tail5 (exists_mem_tail5 (exists_mem_tail (exists_mem_tail (exists_mem_tail (⟨_, List.mem_cons_self, (wmem i y hy (r := 128) (n := 128) (j := 384) (m := 128) (fun _ => by rfl) (by rfl) (by omega) (by exact congrArg (fun n => ![n, 128, 384]) (off_i i)))⟩)))))))
  · exact exists_mem_tail5 (exists_mem_tail5 (exists_mem_tail5 (exists_mem_tail5 (exists_mem_tail (exists_mem_tail (⟨_, List.mem_cons_self, (wmem i y hy (r := 256) (n := 128) (j := 384) (m := 128) (fun _ => by rfl) (by rfl) (by omega) (by exact congrArg (fun n => ![n, 256, 384]) (off_i i)))⟩))))))
  · exact exists_mem_tail5 (exists_mem_tail5 (exists_mem_tail5 (exists_mem_tail5 (exists_mem_tail (⟨_, List.mem_cons_self, (wmem i y hy (r := 384) (n := 128) (j := 384) (m := 128) (fun _ => by rfl) (by rfl) (by omega) (by exact congrArg (fun n => ![n, 384, 384]) (off_i i)))⟩)))))
  · exact exists_mem_tail5 (exists_mem_tail5 (exists_mem_tail5 (exists_mem_tail5 (⟨_, List.mem_cons_self, (wmem i y hy (r := 512) (n := 64) (j := 384) (m := 128) (fun _ => by rfl) (by rfl) (by omega) (by exact congrArg (fun n => ![n, 512, 384]) (off_i i)))⟩))))
  · exact exists_mem_tail5 (exists_mem_tail5 (exists_mem_tail5 (exists_mem_tail (exists_mem_tail (exists_mem_tail (exists_mem_tail (⟨_, List.mem_cons_self, (wmem i y hy (r := 0) (n := 128) (j := 512) (m := 128) (fun _ => by rfl) (by rfl) (by omega) (by exact congrArg (fun n => ![n, 0, 512]) (off_i i)))⟩)))))))
  · exact exists_mem_tail5 (exists_mem_tail5 (exists_mem_tail5 (exists_mem_tail (exists_mem_tail (exists_mem_tail (⟨_, List.mem_cons_self, (wmem i y hy (r := 128) (n := 128) (j := 512) (m := 128) (fun _ => by rfl) (by rfl) (by omega) (by exact congrArg (fun n => ![n, 128, 512]) (off_i i)))⟩))))))
  · exact exists_mem_tail5 (exists_mem_tail5 (exists_mem_tail5 (exists_mem_tail (exists_mem_tail (⟨_, List.mem_cons_self, (wmem i y hy (r := 256) (n := 128) (j := 512) (m := 128) (fun _ => by rfl) (by rfl) (by omega) (by exact congrArg (fun n => ![n, 256, 512]) (off_i i)))⟩)))))
  · exact exists_mem_tail5 (exists_mem_tail5 (exists_mem_tail5 (exists_mem_tail (⟨_, List.mem_cons_self, (wmem i y hy (r := 384) (n := 128) (j := 512) (m := 128) (fun _ => by rfl) (by rfl) (by omega) (by exact congrArg (fun n => ![n, 384, 512]) (off_i i)))⟩))))
  · exact exists_mem_tail5 (exists_mem_tail5 (exists_mem_tail5 (⟨_, List.mem_cons_self, (wmem i y hy (r := 512) (n := 64) (j := 512) (m := 128) (fun _ => by rfl) (by rfl) (by omega) (by exact congrArg (fun n => ![n, 512, 512]) (off_i i)))⟩)))
  · exact exists_mem_tail5 (exists_mem_tail5 (exists_mem_tail (exists_mem_tail (exists_mem_tail (exists_mem_tail (⟨_, List.mem_cons_self, (wmem i y hy (r := 0) (n := 128) (j := 640) (m := 128) (fun _ => by rfl) (by rfl) (by omega) (by exact congrArg (fun n => ![n, 0, 640]) (off_i i)))⟩))))))
  · exact exists_mem_tail5 (exists_mem_tail5 (exists_mem_tail (exists_mem_tail (exists_mem_tail (⟨_, List.mem_cons_self, (wmem i y hy (r := 128) (n := 128) (j := 640) (m := 128) (fun _ => by rfl) (by rfl) (by omega) (by exact congrArg (fun n => ![n, 128, 640]) (off_i i)))⟩)))))
  · exact exists_mem_tail5 (exists_mem_tail5 (exists_mem_tail (exists_mem_tail (⟨_, List.mem_cons_self, (wmem i y hy (r := 256) (n := 128) (j := 640) (m := 128) (fun _ => by rfl) (by rfl) (by omega) (by exact congrArg (fun n => ![n, 256, 640]) (off_i i)))⟩))))
  · exact exists_mem_tail5 (exists_mem_tail5 (exists_mem_tail (⟨_, List.mem_cons_self, (wmem i y hy (r := 384) (n := 128) (j := 640) (m := 128) (fun _ => by rfl) (by rfl) (by omega) (by exact congrArg (fun n => ![n, 384, 640]) (off_i i)))⟩)))
  · exact exists_mem_tail5 (exists_mem_tail5 (⟨_, List.mem_cons_self, (wmem i y hy (r := 512) (n := 64) (j := 640) (m := 128) (fun _ => by rfl) (by rfl) (by omega) (by exact congrArg (fun n => ![n, 512, 640]) (off_i i)))⟩))
  · exact exists_mem_tail5 (exists_mem_tail (exists_mem_tail (exists_mem_tail (exists_mem_tail (⟨_, List.mem_cons_self, (wmem i y hy (r := 0) (n := 128) (j := 768) (m := 128) (fun _ => by rfl) (by rfl) (by omega) (by exact congrArg (fun n => ![n, 0, 768]) (off_i i)))⟩)))))
  · exact exists_mem_tail5 (exists_mem_tail (exists_mem_tail (exists_mem_tail (⟨_, List.mem_cons_self, (wmem i y hy (r := 128) (n := 128) (j := 768) (m := 128) (fun _ => by rfl) (by rfl) (by omega) (by exact congrArg (fun n => ![n, 128, 768]) (off_i i)))⟩))))
  · exact exists_mem_tail5 (exists_mem_tail (exists_mem_tail (⟨_, List.mem_cons_self, (wmem i y hy (r := 256) (n := 128) (j := 768) (m := 128) (fun _ => by rfl) (by rfl) (by omega) (by exact congrArg (fun n => ![n, 256, 768]) (off_i i)))⟩)))
  · exact exists_mem_tail5 (exists_mem_tail (⟨_, List.mem_cons_self, (wmem i y hy (r := 384) (n := 128) (j := 768) (m := 128) (fun _ => by rfl) (by rfl) (by omega) (by exact congrArg (fun n => ![n, 384, 768]) (off_i i)))⟩))
  · exact exists_mem_tail5 (⟨_, List.mem_cons_self, (wmem i y hy (r := 512) (n := 64) (j := 768) (m := 128) (fun _ => by rfl) (by rfl) (by omega) (by exact congrArg (fun n => ![n, 512, 768]) (off_i i)))⟩)
  · exact exists_mem_tail (exists_mem_tail (exists_mem_tail (exists_mem_tail (⟨_, List.mem_cons_self, (wmem i y hy (r := 0) (n := 128) (j := 896) (m := 128) (fun _ => by rfl) (by rfl) (by omega) (by exact congrArg (fun n => ![n, 0, 896]) (off_i i)))⟩))))
  · exact exists_mem_tail (exists_mem_tail (exists_mem_tail (⟨_, List.mem_cons_self, (wmem i y hy (r := 128) (n := 128) (j := 896) (m := 128) (fun _ => by rfl) (by rfl) (by omega) (by exact congrArg (fun n => ![n, 128, 896]) (off_i i)))⟩)))
  · exact exists_mem_tail (exists_mem_tail (⟨_, List.mem_cons_self, (wmem i y hy (r := 256) (n := 128) (j := 896) (m := 128) (fun _ => by rfl) (by rfl) (by omega) (by exact congrArg (fun n => ![n, 256, 896]) (off_i i)))⟩))
  · exact exists_mem_tail (⟨_, List.mem_cons_self, (wmem i y hy (r := 384) (n := 128) (j := 896) (m := 128) (fun _ => by rfl) (by rfl) (by omega) (by exact congrArg (fun n => ![n, 384, 896]) (off_i i)))⟩)
  · exact ⟨_, List.mem_cons_self, (wmem i y hy (r := 512) (n := 64) (j := 896) (m := 128) (fun _ => by rfl) (by rfl) (by omega) (by exact congrArg (fun n => ![n, 512, 896]) (off_i i)))⟩

/-- No index of another block does. -/
theorem runA_wmiss (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (y : S7x576x1024.Idx) (hy : (y 0).val ≠ (i 0).val) :
    ∀ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1, y ∉ p.1.set := by
  simp only [runA]
  sl_unfold_words
  refine List.forall_mem_cons.2 ⟨wnot i y hy (fun _ => by rfl) (by rfl) (by exact congrArg (fun n => ![n, 512, 896]) (off_i i)), ?_⟩
  refine List.forall_mem_cons.2 ⟨wnot i y hy (fun _ => by rfl) (by rfl) (by exact congrArg (fun n => ![n, 384, 896]) (off_i i)), ?_⟩
  refine List.forall_mem_cons.2 ⟨wnot i y hy (fun _ => by rfl) (by rfl) (by exact congrArg (fun n => ![n, 256, 896]) (off_i i)), ?_⟩
  refine List.forall_mem_cons.2 ⟨wnot i y hy (fun _ => by rfl) (by rfl) (by exact congrArg (fun n => ![n, 128, 896]) (off_i i)), ?_⟩
  refine List.forall_mem_cons.2 ⟨wnot i y hy (fun _ => by rfl) (by rfl) (by exact congrArg (fun n => ![n, 0, 896]) (off_i i)), ?_⟩
  refine List.forall_mem_cons.2 ⟨wnot i y hy (fun _ => by rfl) (by rfl) (by exact congrArg (fun n => ![n, 512, 768]) (off_i i)), ?_⟩
  refine List.forall_mem_cons.2 ⟨wnot i y hy (fun _ => by rfl) (by rfl) (by exact congrArg (fun n => ![n, 384, 768]) (off_i i)), ?_⟩
  refine List.forall_mem_cons.2 ⟨wnot i y hy (fun _ => by rfl) (by rfl) (by exact congrArg (fun n => ![n, 256, 768]) (off_i i)), ?_⟩
  refine List.forall_mem_cons.2 ⟨wnot i y hy (fun _ => by rfl) (by rfl) (by exact congrArg (fun n => ![n, 128, 768]) (off_i i)), ?_⟩
  refine List.forall_mem_cons.2 ⟨wnot i y hy (fun _ => by rfl) (by rfl) (by exact congrArg (fun n => ![n, 0, 768]) (off_i i)), ?_⟩
  refine List.forall_mem_cons.2 ⟨wnot i y hy (fun _ => by rfl) (by rfl) (by exact congrArg (fun n => ![n, 512, 640]) (off_i i)), ?_⟩
  refine List.forall_mem_cons.2 ⟨wnot i y hy (fun _ => by rfl) (by rfl) (by exact congrArg (fun n => ![n, 384, 640]) (off_i i)), ?_⟩
  refine List.forall_mem_cons.2 ⟨wnot i y hy (fun _ => by rfl) (by rfl) (by exact congrArg (fun n => ![n, 256, 640]) (off_i i)), ?_⟩
  refine List.forall_mem_cons.2 ⟨wnot i y hy (fun _ => by rfl) (by rfl) (by exact congrArg (fun n => ![n, 128, 640]) (off_i i)), ?_⟩
  refine List.forall_mem_cons.2 ⟨wnot i y hy (fun _ => by rfl) (by rfl) (by exact congrArg (fun n => ![n, 0, 640]) (off_i i)), ?_⟩
  refine List.forall_mem_cons.2 ⟨wnot i y hy (fun _ => by rfl) (by rfl) (by exact congrArg (fun n => ![n, 512, 512]) (off_i i)), ?_⟩
  refine List.forall_mem_cons.2 ⟨wnot i y hy (fun _ => by rfl) (by rfl) (by exact congrArg (fun n => ![n, 384, 512]) (off_i i)), ?_⟩
  refine List.forall_mem_cons.2 ⟨wnot i y hy (fun _ => by rfl) (by rfl) (by exact congrArg (fun n => ![n, 256, 512]) (off_i i)), ?_⟩
  refine List.forall_mem_cons.2 ⟨wnot i y hy (fun _ => by rfl) (by rfl) (by exact congrArg (fun n => ![n, 128, 512]) (off_i i)), ?_⟩
  refine List.forall_mem_cons.2 ⟨wnot i y hy (fun _ => by rfl) (by rfl) (by exact congrArg (fun n => ![n, 0, 512]) (off_i i)), ?_⟩
  refine List.forall_mem_cons.2 ⟨wnot i y hy (fun _ => by rfl) (by rfl) (by exact congrArg (fun n => ![n, 512, 384]) (off_i i)), ?_⟩
  refine List.forall_mem_cons.2 ⟨wnot i y hy (fun _ => by rfl) (by rfl) (by exact congrArg (fun n => ![n, 384, 384]) (off_i i)), ?_⟩
  refine List.forall_mem_cons.2 ⟨wnot i y hy (fun _ => by rfl) (by rfl) (by exact congrArg (fun n => ![n, 256, 384]) (off_i i)), ?_⟩
  refine List.forall_mem_cons.2 ⟨wnot i y hy (fun _ => by rfl) (by rfl) (by exact congrArg (fun n => ![n, 128, 384]) (off_i i)), ?_⟩
  refine List.forall_mem_cons.2 ⟨wnot i y hy (fun _ => by rfl) (by rfl) (by exact congrArg (fun n => ![n, 0, 384]) (off_i i)), ?_⟩
  refine List.forall_mem_cons.2 ⟨wnot i y hy (fun _ => by rfl) (by rfl) (by exact congrArg (fun n => ![n, 512, 256]) (off_i i)), ?_⟩
  refine List.forall_mem_cons.2 ⟨wnot i y hy (fun _ => by rfl) (by rfl) (by exact congrArg (fun n => ![n, 384, 256]) (off_i i)), ?_⟩
  refine List.forall_mem_cons.2 ⟨wnot i y hy (fun _ => by rfl) (by rfl) (by exact congrArg (fun n => ![n, 256, 256]) (off_i i)), ?_⟩
  refine List.forall_mem_cons.2 ⟨wnot i y hy (fun _ => by rfl) (by rfl) (by exact congrArg (fun n => ![n, 128, 256]) (off_i i)), ?_⟩
  refine List.forall_mem_cons.2 ⟨wnot i y hy (fun _ => by rfl) (by rfl) (by exact congrArg (fun n => ![n, 0, 256]) (off_i i)), ?_⟩
  refine List.forall_mem_cons.2 ⟨wnot i y hy (fun _ => by rfl) (by rfl) (by exact congrArg (fun n => ![n, 512, 128]) (off_i i)), ?_⟩
  refine List.forall_mem_cons.2 ⟨wnot i y hy (fun _ => by rfl) (by rfl) (by exact congrArg (fun n => ![n, 384, 128]) (off_i i)), ?_⟩
  refine List.forall_mem_cons.2 ⟨wnot i y hy (fun _ => by rfl) (by rfl) (by exact congrArg (fun n => ![n, 256, 128]) (off_i i)), ?_⟩
  refine List.forall_mem_cons.2 ⟨wnot i y hy (fun _ => by rfl) (by rfl) (by exact congrArg (fun n => ![n, 128, 128]) (off_i i)), ?_⟩
  refine List.forall_mem_cons.2 ⟨wnot i y hy (fun _ => by rfl) (by rfl) (by exact congrArg (fun n => ![n, 0, 128]) (off_i i)), ?_⟩
  refine List.forall_mem_cons.2 ⟨wnot i y hy (fun _ => by rfl) (by rfl) (by exact congrArg (fun n => ![n, 512, 0]) (off_i i)), ?_⟩
  refine List.forall_mem_cons.2 ⟨wnot i y hy (fun _ => by rfl) (by rfl) (by exact congrArg (fun n => ![n, 384, 0]) (off_i i)), ?_⟩
  refine List.forall_mem_cons.2 ⟨wnot i y hy (fun _ => by rfl) (by rfl) (by exact congrArg (fun n => ![n, 256, 0]) (off_i i)), ?_⟩
  refine List.forall_mem_cons.2 ⟨wnot i y hy (fun _ => by rfl) (by rfl) (by exact congrArg (fun n => ![n, 128, 0]) (off_i i)), ?_⟩
  refine List.forall_mem_cons.2 ⟨wnot i y hy (fun _ => by rfl) (by rfl) (by exact congrArg (fun n => ![n, 0, 0]) (off_i i)), ?_⟩
  exact fun p hp => absurd hp List.not_mem_nil
end Cert.Kernel.Run

end
-- ==== Proof.Rounded.ValuesA.lean ====
module

public import proofs.«01_k».proof.Proof.Rounded.WeightA
public import proofs.«01_k».proof.Proof.Rounded.Tiles

@[expose] public section

set_option maxRecDepth 16384
set_option maxHeartbeats 400000
set_option pp.maxSteps 150

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runA_xs (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) : View.canon (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).1 = xsv x1 := by
  have hL : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).1 = [⟨Rect.unit ![0, 0] S1536x56.size inb_S1536x128_S1536x56_0_0, k0_pay3 (View.readAt (Elt F) arg2.view (Rect.unit ![0, 0, 0] S6x256x56.size inb_S6x256x56_S6x256x56_0_0_0).toLoadRect (harg2.unread x1))⟩, ⟨Rect.unit ![0, 0] S1536x128.size inb_S1536x128_S1536x128_0_0, k0_pay2⟩] := rfl
  have h1 : View.readAt (Elt F) arg2.view (Rect.unit ![0, 0, 0] S6x256x56.size inb_S6x256x56_S6x256x56_0_0_0).toLoadRect (harg2.unread x1) = x1 := by
    rw [View.readAt_eq_ld, harg2.read_unread]; exact View.ld_unit_zero (by decide) _ _
  rw [hL, h1]; rfl

theorem runA_xpieces (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) :
    ∀ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.1, ∀ x : p.1.shape.Idx, p.2 x = xwBlk (i 0).val (xsv x1) x0 (p.1.emb x) := by
  have hi := cond2_lt i hc2
  have hx : arg14.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).1 (Rect.unit ![0, 0] S1536x128.size inb_S1536x128_S1536x128_0_0).toLoadRect = xsv x1 := by
    rw [View.readCov_eq_canon', runA_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w]; funext j; exact congrArg (xsv x1) (funext fun a => Fin.ext (by fin_cases a <;> exact (Nat.zero_add _).trans (Nat.one_mul _)))
  simp only [runA]
  sl_unfold_words
  refine List.forall_mem_cons.2 ⟨fun x => xtile harg1 i hi (xsv x1) hx x0 7 (by decide) (off := ![0, 896]) (by rfl) (by rfl) x (fun a => by rw [Rect.emb_apply]; exact congrArg (_ + ·) (Nat.one_mul _)), ?_⟩
  refine List.forall_mem_cons.2 ⟨fun x => xtile harg1 i hi (xsv x1) hx x0 6 (by decide) (off := ![0, 768]) (by rfl) (by rfl) x (fun a => by rw [Rect.emb_apply]; exact congrArg (_ + ·) (Nat.one_mul _)), ?_⟩
  refine List.forall_mem_cons.2 ⟨fun x => xtile harg1 i hi (xsv x1) hx x0 5 (by decide) (off := ![0, 640]) (by rfl) (by rfl) x (fun a => by rw [Rect.emb_apply]; exact congrArg (_ + ·) (Nat.one_mul _)), ?_⟩
  refine List.forall_mem_cons.2 ⟨fun x => xtile harg1 i hi (xsv x1) hx x0 4 (by decide) (off := ![0, 512]) (by rfl) (by rfl) x (fun a => by rw [Rect.emb_apply]; exact congrArg (_ + ·) (Nat.one_mul _)), ?_⟩
  refine List.forall_mem_cons.2 ⟨fun x => xtile harg1 i hi (xsv x1) hx x0 3 (by decide) (off := ![0, 384]) (by rfl) (by rfl) x (fun a => by rw [Rect.emb_apply]; exact congrArg (_ + ·) (Nat.one_mul _)), ?_⟩
  refine List.forall_mem_cons.2 ⟨fun x => xtile harg1 i hi (xsv x1) hx x0 2 (by decide) (off := ![0, 256]) (by rfl) (by rfl) x (fun a => by rw [Rect.emb_apply]; exact congrArg (_ + ·) (Nat.one_mul _)), ?_⟩
  refine List.forall_mem_cons.2 ⟨fun x => xtile harg1 i hi (xsv x1) hx x0 1 (by decide) (off := ![0, 128]) (by rfl) (by rfl) x (fun a => by rw [Rect.emb_apply]; exact congrArg (_ + ·) (Nat.one_mul _)), ?_⟩
  refine List.forall_mem_cons.2 ⟨fun x => xtile harg1 i hi (xsv x1) hx x0 0 (by decide) (off := ![0, 0]) (by rfl) (by rfl) x (fun a => by rw [Rect.emb_apply]; exact congrArg (_ + ·) (Nat.one_mul _)), ?_⟩
  exact fun p hp => absurd hp List.not_mem_nil

theorem runA_xw (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) : View.canon (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.1 = xwBlk (i 0).val (xsv x1) x0 := by
  funext y
  have h := View.canon_append_of_pieces (xwBlk (i 0).val (xsv x1) x0) [] _ (runA_xpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w) y (View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.1 S1536x128.size (by sl_kernel_rfl) y)
  rwa [List.append_nil] at h

theorem runA_cs (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) :
    View.canon (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.2.1 = k0_pay4 (k0_pay1 (F := F)) (xwBlk (i 0).val (xsv x1) x0) (wRows x2 x3 (i 0).val (cond2_lt i hc2)) := by
  have hL : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.2.1 = ⟨Rect.unit ![0, 0] S1536x512.size inb_S1536x512_S1536x512_0_0, k0_pay4 (arg17.view.readCov (Val := Elt F) [⟨Rect.unit ![0, 0] S1536x512.size inb_S1536x512_S1536x512_0_0, (k0_pay1 (F := F))⟩] (Rect.unit ![0, 0] S1536x512.size inb_S1536x512_S1536x512_0_0).toLoadRect) (arg15.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.1 (Rect.unit ![0, 0] S1536x1024.size inb_S1536x1024_S1536x1024_0_0).toLoadRect) (arg16.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1 (Rect.unit (s := S7x576x1024) (k0_off46 i) S1x512x1024.size (k0_off46_inb i hc2)).toLoadRect)⟩ :: [⟨Rect.unit ![0, 0] S1536x512.size inb_S1536x512_S1536x512_0_0, (k0_pay1 (F := F))⟩] := rfl
  have h0 : arg17.view.readCov (Val := Elt F) [⟨Rect.unit ![0, 0] S1536x512.size inb_S1536x512_S1536x512_0_0, (k0_pay1 (F := F))⟩] (Rect.unit ![0, 0] S1536x512.size inb_S1536x512_S1536x512_0_0).toLoadRect = (k0_pay1 (F := F)) := by
    rw [View.readCov_fill _ _ _ _ _ (by decide)]; exact View.ld_unit_zero (by decide) _ _
  have h1 : arg15.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.1 (Rect.unit ![0, 0] S1536x1024.size inb_S1536x1024_S1536x1024_0_0).toLoadRect = xwBlk (i 0).val (xsv x1) x0 := by
    rw [View.readCov_eq_canon', runA_xw c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w]; funext j; exact congrArg (xwBlk (i 0).val (xsv x1) x0) (funext fun a => Fin.ext (by fin_cases a <;> exact (Nat.zero_add _).trans (Nat.one_mul _)))
  have h2 : arg16.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1 (Rect.unit (s := S7x576x1024) (k0_off46 i) S1x512x1024.size (k0_off46_inb i hc2)).toLoadRect = wRows x2 x3 (i 0).val (cond2_lt i hc2) := by
    rw [View.readCov_eq_canon']; funext j
    have e0 : ((Rect.unit (s := S7x576x1024) (k0_off46 i) S1x512x1024.size (k0_off46_inb i hc2)).toLoadRect.idx j 0).val = (i 0).val := by
      have : (j 0).val < 1 := (j 0).isLt
      show k0_off46 i 0 + 1 * (j 0).val = _
      have := off_i i
      show BitVec.toNat (Scalar.indexCast (BitVec.ofNat 32 (i 0).val)) + 1 * (j 0).val = _
      omega
    have h := View.canon_append_of_pieces (wAll x2 x3) [] _ (runA_wpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w) _ (runA_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w _ e0)
    rw [List.append_nil] at h
    rw [h]
    refine congrArg (wAll x2 x3) (funext fun a => Fin.ext ?_)
    fin_cases a
    · exact e0
    · exact (Nat.zero_add _).trans (Nat.one_mul _)
    · exact (Nat.zero_add _).trans (Nat.one_mul _)
  rw [hL, h0, h1, h2]
  exact View.canon_cons_unit_lit _ _ _ (by decide)
end Cert.Kernel.Run

end
-- ==== Proof.Rounded.StepA.lean ====
module

public import proofs.«01_k».proof.Proof.Rounded.ValuesA
public import proofs.«01_k».proof.Proof.Rounded.Tiles

@[expose] public section

set_option maxRecDepth 16384
set_option maxHeartbeats 1000000
set_option pp.maxSteps 150

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runA_wread (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (y : S7x576x1024.Idx) :
    arg16.view.read (Elt F) (arg16.view.writes (Elt F) (harg16.unread w) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1) y = if (y 0).val = (i 0).val then wAll x2 x3 y else w y := by
  split
  · rename_i hy
    rw [View.read_writes_apply_eq_canon _ _ _ _ (runA_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w y hy)]
    have h := View.canon_append_of_pieces (wAll x2 x3) [] _ (runA_wpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w) _ (runA_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w y hy)
    rwa [List.append_nil] at h
  · rename_i hy
    rw [View.read_writes_apply_of_forall_not_mem _ _ _ _ (runA_wmiss c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w y hy), harg16.read_unread]

theorem runA_ccover (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (y : S1536x512.Idx) : ∃ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.2.1, y ∈ p.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.2.1 S1536x512.size (by sl_kernel_rfl) y

theorem runA_scover (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (y : S1536x128.Idx) : ∃ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).1, y ∈ p.1.set := by
  have hL : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).1 = [⟨Rect.unit ![0, 0] S1536x56.size inb_S1536x128_S1536x56_0_0, k0_pay3 (View.readAt (Elt F) arg2.view (Rect.unit ![0, 0, 0] S6x256x56.size inb_S6x256x56_S6x256x56_0_0_0).toLoadRect (harg2.unread x1))⟩, ⟨Rect.unit ![0, 0] S1536x128.size inb_S1536x128_S1536x128_0_0, k0_pay2⟩] := rfl
  rw [hL]
  exact exists_mem_tail ⟨_, List.mem_cons_self, whole2 y (inb := inb_S1536x128_S1536x128_0_0)⟩

set_option maxHeartbeats 4000000 in
/-- The body's triple at such a point, each buffer it touches held whole before and after. -/
theorem stepA (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg14 fullShare d) ∗ (∃ d, owns (c : Thread nD τ) arg15 fullShare d) ∗ owns (c : Thread nD τ) arg16 fullShare w ∗ (∃ d, owns (c : Thread nD τ) arg17 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg14 fullShare (xsv x1) ∗ (∃ d, owns (c : Thread nD τ) arg15 fullShare d) ∗ (∃ w2 : Vec F S7x576x1024 .bf16, ⌜∀ y, w2 y = if (y 0).val = (i 0).val then wAll x2 x3 y else w y⌝ ∗ owns (c : Thread nD τ) arg16 fullShare w2) ∗ owns (c : Thread nD τ) arg17 fullShare (k0_pay4 (k0_pay1 (F := F)) (xwBlk (i 0).val (xsv x1) x0) (wRows x2 x3 (i 0).val (cond2_lt i hc2)))) -∗ K ⟨⟩))
    ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H1, H2, H3, H4, H14, H15, H16, H17, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.2.2 E K)
  isplitl [H1]; · iexact H1
  isplitl [H2]; · iexact H2
  isplitl [H3]; · iexact H3
  isplitl [H4]; · iexact H4
  isplitl [H14]; · iexact H14
  isplitl [H15]; · iexact H15
  isplitl [H16]; · iexact H16
  isplitl [H17]; · iexact H17
  iintro ⟨H1, H2, H3, H4, ⟨%f14, H14⟩, ⟨%f15, H15⟩, H16, ⟨%f17, H17⟩⟩
  iapply Hk
  isplitl [H1]
  · iexact H1
  isplitl [H2]
  · iexact H2
  isplitl [H3]
  · iexact H3
  isplitl [H4]
  · iexact H4
  isplitl [H14]
  · unfold owns; iexists _; isplitr
    swap; · iexact H14
    ipureintro; exact (View.read_writes_eq_canon _ _ _ (runA_scover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w)).trans (runA_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w)
  isplitl [H15]
  · iexists _; unfold owns; iexists _; isplitr
    swap; · iexact H15
    ipureintro; rfl
  isplitl [H16]
  · iexists _; isplitr
    swap
    · unfold owns; iexists _; isplitr
      swap; · iexact H16
      ipureintro; rfl
    ipureintro; exact runA_wread c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w
  unfold owns; iexists _; isplitr
  swap; · iexact H17
  ipureintro; exact (View.read_writes_eq_canon _ _ _ (runA_ccover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w)).trans (runA_cs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w)

end Cert.Kernel.Run

end
-- ==== Proof.Rounded.RunB.lean ====
module

public import proofs.«01_k».proof.Proof.Rounded.Cond

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a point of the first phase but the first. -/
noncomputable def runB (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) :
    Σ' (L15 : List (View.Piece (Elt F) S1536x1024 .bf16)), Σ' (L16 : List (View.Piece (Elt F) S7x576x1024 .bf16)), { L17 : List (View.Piece (Elt F) S1536x512 .f32) //
      ∀ (E : Set ℕ) (K : PUnit → sProp 𝕄),
        iprop(owns (c : Thread nD τ) arg1 fullShare x0 ∗ owns (c : Thread nD τ) arg3 fullShare x2 ∗ owns (c : Thread nD τ) arg4 fullShare x3 ∗ owns (c : Thread nD τ) arg14 fullShare xs ∗ (∃ d, owns (c : Thread nD τ) arg15 fullShare d) ∗ owns (c : Thread nD τ) arg16 fullShare w ∗ owns (c : Thread nD τ) arg17 fullShare cs
            ∗ (iprop(owns (c : Thread nD τ) arg1 fullShare x0 ∗ owns (c : Thread nD τ) arg3 fullShare x2 ∗ owns (c : Thread nD τ) arg4 fullShare x3 ∗ owns (c : Thread nD τ) arg14 fullShare xs ∗ (∃ f, arg15.view.loc (c : Thread nD τ) ↦[arg15.view.set]{fullShare} arg15.view.writes (Elt F) f L15) ∗ (arg16.view.loc (c : Thread nD τ) ↦[arg16.view.set]{fullShare} arg16.view.writes (Elt F) (harg16.unread w) L16) ∗ (arg17.view.loc (c : Thread nD τ) ↦[arg17.view.set]{fullShare} arg17.view.writes (Elt F) (harg17.unread cs) L17)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_mla_kv_bwd_eq_skeleton]; unfold cc0_mla_kv_bwd_skel
    unfold owns
    iintro ⟨⟨%f1, %hf1, H1⟩, ⟨%f3, %hf3, H3⟩, ⟨%f4, %hf4, H4⟩, ⟨%f14, %hf14, H14⟩, ⟨%d15, %f15, -, H15⟩, ⟨%f16, %hf16, H16⟩, ⟨%f17, %hf17, H17⟩, Hk⟩
    obtain rfl := harg1.eq_unread hf1; obtain rfl := harg3.eq_unread hf3; obtain rfl := harg4.eq_unread hf4; obtain rfl := harg14.eq_unread hf14; obtain rfl := harg16.eq_unread hf16; obtain rfl := harg17.eq_unread hf17
    sl_exec (disch := first | sl_exact hc1 | sl_exact hc2 | sl_exact hc3)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H14]
    · iexists _; isplitr; · ipureintro; exact harg14.read_unread _
      iexact H14
    isplitl [H15]
    · iexists _; iexact H15
    isplitl [H16]
    · iexact H16
    iexact H17

end Cert.Kernel.Run

end
-- ==== Proof.Rounded.WeightB.lean ====
module

public import proofs.«01_k».proof.Proof.Rounded.RunB
public import proofs.«01_k».proof.Proof.Rounded.Tiles

@[expose] public section

set_option maxRecDepth 16384
set_option maxHeartbeats 4000000
set_option pp.maxSteps 150

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the point writes into the weight scratch: every piece is a tile of the dequantised weight. -/
theorem runB_wpieces (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) :
    ∀ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1, ∀ x : p.1.shape.Idx, p.2 x = wAll x2 x3 (p.1.emb x) := by
  simp only [runB]
  sl_unfold_words
  refine List.forall_mem_cons.2 ⟨fun x => wtile64 harg3 harg4 x2 x3 (i 0).val 4 7 (by exact congrArg (fun n => ![n, 512, 896]) (off_i i)) (by rfl) (by exact congrArg (fun n => ![4, n]) (off_col i 7 (by decide))) x (fun a => by rw [Rect.emb_apply]; exact congrArg (_ + ·) (Nat.one_mul _)), ?_⟩
  refine List.forall_mem_cons.2 ⟨fun x => wtile128 harg3 harg4 x2 x3 (i 0).val 3 7 (by exact congrArg (fun n => ![n, 384, 896]) (off_i i)) (by rfl) (by exact congrArg (fun n => ![3, n]) (off_col i 7 (by decide))) x (fun a => by rw [Rect.emb_apply]; exact congrArg (_ + ·) (Nat.one_mul _)), ?_⟩
  refine List.forall_mem_cons.2 ⟨fun x => wtile128 harg3 harg4 x2 x3 (i 0).val 2 7 (by exact congrArg (fun n => ![n, 256, 896]) (off_i i)) (by rfl) (by exact congrArg (fun n => ![2, n]) (off_col i 7 (by decide))) x (fun a => by rw [Rect.emb_apply]; exact congrArg (_ + ·) (Nat.one_mul _)), ?_⟩
  refine List.forall_mem_cons.2 ⟨fun x => wtile128 harg3 harg4 x2 x3 (i 0).val 1 7 (by exact congrArg (fun n => ![n, 128, 896]) (off_i i)) (by rfl) (by exact congrArg (fun n => ![1, n]) (off_col i 7 (by decide))) x (fun a => by rw [Rect.emb_apply]; exact congrArg (_ + ·) (Nat.one_mul _)), ?_⟩
  refine List.forall_mem_cons.2 ⟨fun x => wtile128 harg3 harg4 x2 x3 (i 0).val 0 7 (by exact congrArg (fun n => ![n, 0, 896]) (off_i i)) (by rfl) (by exact congrArg (fun n => ![0, n]) (off_col i 7 (by decide))) x (fun a => by rw [Rect.emb_apply]; exact congrArg (_ + ·) (Nat.one_mul _)), ?_⟩
  refine List.forall_mem_cons.2 ⟨fun x => wtile64 harg3 harg4 x2 x3 (i 0).val 4 6 (by exact congrArg (fun n => ![n, 512, 768]) (off_i i)) (by rfl) (by exact congrArg (fun n => ![4, n]) (off_col i 6 (by decide))) x (fun a => by rw [Rect.emb_apply]; exact congrArg (_ + ·) (Nat.one_mul _)), ?_⟩
  refine List.forall_mem_cons.2 ⟨fun x => wtile128 harg3 harg4 x2 x3 (i 0).val 3 6 (by exact congrArg (fun n => ![n, 384, 768]) (off_i i)) (by rfl) (by exact congrArg (fun n => ![3, n]) (off_col i 6 (by decide))) x (fun a => by rw [Rect.emb_apply]; exact congrArg (_ + ·) (Nat.one_mul _)), ?_⟩
  refine List.forall_mem_cons.2 ⟨fun x => wtile128 harg3 harg4 x2 x3 (i 0).val 2 6 (by exact congrArg (fun n => ![n, 256, 768]) (off_i i)) (by rfl) (by exact congrArg (fun n => ![2, n]) (off_col i 6 (by decide))) x (fun a => by rw [Rect.emb_apply]; exact congrArg (_ + ·) (Nat.one_mul _)), ?_⟩
  refine List.forall_mem_cons.2 ⟨fun x => wtile128 harg3 harg4 x2 x3 (i 0).val 1 6 (by exact congrArg (fun n => ![n, 128, 768]) (off_i i)) (by rfl) (by exact congrArg (fun n => ![1, n]) (off_col i 6 (by decide))) x (fun a => by rw [Rect.emb_apply]; exact congrArg (_ + ·) (Nat.one_mul _)), ?_⟩
  refine List.forall_mem_cons.2 ⟨fun x => wtile128 harg3 harg4 x2 x3 (i 0).val 0 6 (by exact congrArg (fun n => ![n, 0, 768]) (off_i i)) (by rfl) (by exact congrArg (fun n => ![0, n]) (off_col i 6 (by decide))) x (fun a => by rw [Rect.emb_apply]; exact congrArg (_ + ·) (Nat.one_mul _)), ?_⟩
  refine List.forall_mem_cons.2 ⟨fun x => wtile64 harg3 harg4 x2 x3 (i 0).val 4 5 (by exact congrArg (fun n => ![n, 512, 640]) (off_i i)) (by rfl) (by exact congrArg (fun n => ![4, n]) (off_col i 5 (by decide))) x (fun a => by rw [Rect.emb_apply]; exact congrArg (_ + ·) (Nat.one_mul _)), ?_⟩
  refine List.forall_mem_cons.2 ⟨fun x => wtile128 harg3 harg4 x2 x3 (i 0).val 3 5 (by exact congrArg (fun n => ![n, 384, 640]) (off_i i)) (by rfl) (by exact congrArg (fun n => ![3, n]) (off_col i 5 (by decide))) x (fun a => by rw [Rect.emb_apply]; exact congrArg (_ + ·) (Nat.one_mul _)), ?_⟩
  refine List.forall_mem_cons.2 ⟨fun x => wtile128 harg3 harg4 x2 x3 (i 0).val 2 5 (by exact congrArg (fun n => ![n, 256, 640]) (off_i i)) (by rfl) (by exact congrArg (fun n => ![2, n]) (off_col i 5 (by decide))) x (fun a => by rw [Rect.emb_apply]; exact congrArg (_ + ·) (Nat.one_mul _)), ?_⟩
  refine List.forall_mem_cons.2 ⟨fun x => wtile128 harg3 harg4 x2 x3 (i 0).val 1 5 (by exact congrArg (fun n => ![n, 128, 640]) (off_i i)) (by rfl) (by exact congrArg (fun n => ![1, n]) (off_col i 5 (by decide))) x (fun a => by rw [Rect.emb_apply]; exact congrArg (_ + ·) (Nat.one_mul _)), ?_⟩
  refine List.forall_mem_cons.2 ⟨fun x => wtile128 harg3 harg4 x2 x3 (i 0).val 0 5 (by exact congrArg (fun n => ![n, 0, 640]) (off_i i)) (by rfl) (by exact congrArg (fun n => ![0, n]) (off_col i 5 (by decide))) x (fun a => by rw [Rect.emb_apply]; exact congrArg (_ + ·) (Nat.one_mul _)), ?_⟩
  refine List.forall_mem_cons.2 ⟨fun x => wtile64 harg3 harg4 x2 x3 (i 0).val 4 4 (by exact congrArg (fun n => ![n, 512, 512]) (off_i i)) (by rfl) (by exact congrArg (fun n => ![4, n]) (off_col i 4 (by decide))) x (fun a => by rw [Rect.emb_apply]; exact congrArg (_ + ·) (Nat.one_mul _)), ?_⟩
  refine List.forall_mem_cons.2 ⟨fun x => wtile128 harg3 harg4 x2 x3 (i 0).val 3 4 (by exact congrArg (fun n => ![n, 384, 512]) (off_i i)) (by rfl) (by exact congrArg (fun n => ![3, n]) (off_col i 4 (by decide))) x (fun a => by rw [Rect.emb_apply]; exact congrArg (_ + ·) (Nat.one_mul _)), ?_⟩
  refine List.forall_mem_cons.2 ⟨fun x => wtile128 harg3 harg4 x2 x3 (i 0).val 2 4 (by exact congrArg (fun n => ![n, 256, 512]) (off_i i)) (by rfl) (by exact congrArg (fun n => ![2, n]) (off_col i 4 (by decide))) x (fun a => by rw [Rect.emb_apply]; exact congrArg (_ + ·) (Nat.one_mul _)), ?_⟩
  refine List.forall_mem_cons.2 ⟨fun x => wtile128 harg3 harg4 x2 x3 (i 0).val 1 4 (by exact congrArg (fun n => ![n, 128, 512]) (off_i i)) (by rfl) (by exact congrArg (fun n => ![1, n]) (off_col i 4 (by decide))) x (fun a => by rw [Rect.emb_apply]; exact congrArg (_ + ·) (Nat.one_mul _)), ?_⟩
  refine List.forall_mem_cons.2 ⟨fun x => wtile128 harg3 harg4 x2 x3 (i 0).val 0 4 (by exact congrArg (fun n => ![n, 0, 512]) (off_i i)) (by rfl) (by exact congrArg (fun n => ![0, n]) (off_col i 4 (by decide))) x (fun a => by rw [Rect.emb_apply]; exact congrArg (_ + ·) (Nat.one_mul _)), ?_⟩
  refine List.forall_mem_cons.2 ⟨fun x => wtile64 harg3 harg4 x2 x3 (i 0).val 4 3 (by exact congrArg (fun n => ![n, 512, 384]) (off_i i)) (by rfl) (by exact congrArg (fun n => ![4, n]) (off_col i 3 (by decide))) x (fun a => by rw [Rect.emb_apply]; exact congrArg (_ + ·) (Nat.one_mul _)), ?_⟩
  refine List.forall_mem_cons.2 ⟨fun x => wtile128 harg3 harg4 x2 x3 (i 0).val 3 3 (by exact congrArg (fun n => ![n, 384, 384]) (off_i i)) (by rfl) (by exact congrArg (fun n => ![3, n]) (off_col i 3 (by decide))) x (fun a => by rw [Rect.emb_apply]; exact congrArg (_ + ·) (Nat.one_mul _)), ?_⟩
  refine List.forall_mem_cons.2 ⟨fun x => wtile128 harg3 harg4 x2 x3 (i 0).val 2 3 (by exact congrArg (fun n => ![n, 256, 384]) (off_i i)) (by rfl) (by exact congrArg (fun n => ![2, n]) (off_col i 3 (by decide))) x (fun a => by rw [Rect.emb_apply]; exact congrArg (_ + ·) (Nat.one_mul _)), ?_⟩
  refine List.forall_mem_cons.2 ⟨fun x => wtile128 harg3 harg4 x2 x3 (i 0).val 1 3 (by exact congrArg (fun n => ![n, 128, 384]) (off_i i)) (by rfl) (by exact congrArg (fun n => ![1, n]) (off_col i 3 (by decide))) x (fun a => by rw [Rect.emb_apply]; exact congrArg (_ + ·) (Nat.one_mul _)), ?_⟩
  refine List.forall_mem_cons.2 ⟨fun x => wtile128 harg3 harg4 x2 x3 (i 0).val 0 3 (by exact congrArg (fun n => ![n, 0, 384]) (off_i i)) (by rfl) (by exact congrArg (fun n => ![0, n]) (off_col i 3 (by decide))) x (fun a => by rw [Rect.emb_apply]; exact congrArg (_ + ·) (Nat.one_mul _)), ?_⟩
  refine List.forall_mem_cons.2 ⟨fun x => wtile64 harg3 harg4 x2 x3 (i 0).val 4 2 (by exact congrArg (fun n => ![n, 512, 256]) (off_i i)) (by rfl) (by exact congrArg (fun n => ![4, n]) (off_col i 2 (by decide))) x (fun a => by rw [Rect.emb_apply]; exact congrArg (_ + ·) (Nat.one_mul _)), ?_⟩
  refine List.forall_mem_cons.2 ⟨fun x => wtile128 harg3 harg4 x2 x3 (i 0).val 3 2 (by exact congrArg (fun n => ![n, 384, 256]) (off_i i)) (by rfl) (by exact congrArg (fun n => ![3, n]) (off_col i 2 (by decide))) x (fun a => by rw [Rect.emb_apply]; exact congrArg (_ + ·) (Nat.one_mul _)), ?_⟩
  refine List.forall_mem_cons.2 ⟨fun x => wtile128 harg3 harg4 x2 x3 (i 0).val 2 2 (by exact congrArg (fun n => ![n, 256, 256]) (off_i i)) (by rfl) (by exact congrArg (fun n => ![2, n]) (off_col i 2 (by decide))) x (fun a => by rw [Rect.emb_apply]; exact congrArg (_ + ·) (Nat.one_mul _)), ?_⟩
  refine List.forall_mem_cons.2 ⟨fun x => wtile128 harg3 harg4 x2 x3 (i 0).val 1 2 (by exact congrArg (fun n => ![n, 128, 256]) (off_i i)) (by rfl) (by exact congrArg (fun n => ![1, n]) (off_col i 2 (by decide))) x (fun a => by rw [Rect.emb_apply]; exact congrArg (_ + ·) (Nat.one_mul _)), ?_⟩
  refine List.forall_mem_cons.2 ⟨fun x => wtile128 harg3 harg4 x2 x3 (i 0).val 0 2 (by exact congrArg (fun n => ![n, 0, 256]) (off_i i)) (by rfl) (by exact congrArg (fun n => ![0, n]) (off_col i 2 (by decide))) x (fun a => by rw [Rect.emb_apply]; exact congrArg (_ + ·) (Nat.one_mul _)), ?_⟩
  refine List.forall_mem_cons.2 ⟨fun x => wtile64 harg3 harg4 x2 x3 (i 0).val 4 1 (by exact congrArg (fun n => ![n, 512, 128]) (off_i i)) (by rfl) (by exact congrArg (fun n => ![4, n]) (off_col i 1 (by decide))) x (fun a => by rw [Rect.emb_apply]; exact congrArg (_ + ·) (Nat.one_mul _)), ?_⟩
  refine List.forall_mem_cons.2 ⟨fun x => wtile128 harg3 harg4 x2 x3 (i 0).val 3 1 (by exact congrArg (fun n => ![n, 384, 128]) (off_i i)) (by rfl) (by exact congrArg (fun n => ![3, n]) (off_col i 1 (by decide))) x (fun a => by rw [Rect.emb_apply]; exact congrArg (_ + ·) (Nat.one_mul _)), ?_⟩
  refine List.forall_mem_cons.2 ⟨fun x => wtile128 harg3 harg4 x2 x3 (i 0).val 2 1 (by exact congrArg (fun n => ![n, 256, 128]) (off_i i)) (by rfl) (by exact congrArg (fun n => ![2, n]) (off_col i 1 (by decide))) x (fun a => by rw [Rect.emb_apply]; exact congrArg (_ + ·) (Nat.one_mul _)), ?_⟩
  refine List.forall_mem_cons.2 ⟨fun x => wtile128 harg3 harg4 x2 x3 (i 0).val 1 1 (by exact congrArg (fun n => ![n, 128, 128]) (off_i i)) (by rfl) (by exact congrArg (fun n => ![1, n]) (off_col i 1 (by decide))) x (fun a => by rw [Rect.emb_apply]; exact congrArg (_ + ·) (Nat.one_mul _)), ?_⟩
  refine List.forall_mem_cons.2 ⟨fun x => wtile128 harg3 harg4 x2 x3 (i 0).val 0 1 (by exact congrArg (fun n => ![n, 0, 128]) (off_i i)) (by rfl) (by exact congrArg (fun n => ![0, n]) (off_col i 1 (by decide))) x (fun a => by rw [Rect.emb_apply]; exact congrArg (_ + ·) (Nat.one_mul _)), ?_⟩
  refine List.forall_mem_cons.2 ⟨fun x => wtile64 harg3 harg4 x2 x3 (i 0).val 4 0 (by exact congrArg (fun n => ![n, 512, 0]) (off_i i)) (by rfl) (by exact congrArg (fun n => ![4, n]) (off_col i 0 (by decide))) x (fun a => by rw [Rect.emb_apply]; exact congrArg (_ + ·) (Nat.one_mul _)), ?_⟩
  refine List.forall_mem_cons.2 ⟨fun x => wtile128 harg3 harg4 x2 x3 (i 0).val 3 0 (by exact congrArg (fun n => ![n, 384, 0]) (off_i i)) (by rfl) (by exact congrArg (fun n => ![3, n]) (off_col i 0 (by decide))) x (fun a => by rw [Rect.emb_apply]; exact congrArg (_ + ·) (Nat.one_mul _)), ?_⟩
  refine List.forall_mem_cons.2 ⟨fun x => wtile128 harg3 harg4 x2 x3 (i 0).val 2 0 (by exact congrArg (fun n => ![n, 256, 0]) (off_i i)) (by rfl) (by exact congrArg (fun n => ![2, n]) (off_col i 0 (by decide))) x (fun a => by rw [Rect.emb_apply]; exact congrArg (_ + ·) (Nat.one_mul _)), ?_⟩
  refine List.forall_mem_cons.2 ⟨fun x => wtile128 harg3 harg4 x2 x3 (i 0).val 1 0 (by exact congrArg (fun n => ![n, 128, 0]) (off_i i)) (by rfl) (by exact congrArg (fun n => ![1, n]) (off_col i 0 (by decide))) x (fun a => by rw [Rect.emb_apply]; exact congrArg (_ + ·) (Nat.one_mul _)), ?_⟩
  refine List.forall_mem_cons.2 ⟨fun x => wtile128 harg3 harg4 x2 x3 (i 0).val 0 0 (by exact congrArg (fun n => ![n, 0, 0]) (off_i i)) (by rfl) (by exact congrArg (fun n => ![0, n]) (off_col i 0 (by decide))) x (fun a => by rw [Rect.emb_apply]; exact congrArg (_ + ·) (Nat.one_mul _)), ?_⟩
  exact fun p hp => absurd hp List.not_mem_nil

/-- Every index of the point's own block lies in one of the pieces. -/
theorem runB_wcover (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) (y : S7x576x1024.Idx) (hy : (y 0).val = (i 0).val) :
    ∃ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1, y ∈ p.1.set := by
  have b1 : (y 1).val < 576 := (y 1).isLt
  have b2 : (y 2).val < 1024 := (y 2).isLt
  simp only [runB]
  sl_unfold_words
  obtain ⟨j, hj⟩ : ∃ j, j = (y 2).val / 128 := ⟨_, rfl⟩
  obtain ⟨r, hr⟩ : ∃ r, r = (y 1).val / 128 := ⟨_, rfl⟩
  have hj8 : j < 8 := by omega
  have hr5 : r < 5 := by omega
  interval_cases j <;> interval_cases r
  · exact exists_mem_tail5 (exists_mem_tail5 (exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 0) (m := 128) (fun _ => by rfl) (by rfl) (by omega) (by exact congrArg (fun n => ![n, 0, 0]) (off_i i)))⟩)))))))))))
  · exact exists_mem_tail5 (exists_mem_tail5 (exists_mem_tail5 (exists_mem_tail5 (exists_mem_tail5 (exists_mem_tail5 (exists_mem_tail5 (exists_mem_tail (exists_mem_tail (exists_mem_tail (⟨_, List.mem_cons_self, (wmem i y hy (r := 128) (n := 128) (j := 0) (m := 128) (fun _ => by rfl) (by rfl) (by omega) (by exact congrArg (fun n => ![n, 128, 0]) (off_i i)))⟩))))))))))
  · exact exists_mem_tail5 (exists_mem_tail5 (exists_mem_tail5 (exists_mem_tail5 (exists_mem_tail5 (exists_mem_tail5 (exists_mem_tail5 (exists_mem_tail (exists_mem_tail (⟨_, List.mem_cons_self, (wmem i y hy (r := 256) (n := 128) (j := 0) (m := 128) (fun _ => by rfl) (by rfl) (by omega) (by exact congrArg (fun n => ![n, 256, 0]) (off_i i)))⟩)))))))))
  · exact exists_mem_tail5 (exists_mem_tail5 (exists_mem_tail5 (exists_mem_tail5 (exists_mem_tail5 (exists_mem_tail5 (exists_mem_tail5 (exists_mem_tail (⟨_, List.mem_cons_self, (wmem i y hy (r := 384) (n := 128) (j := 0) (m := 128) (fun _ => by rfl) (by rfl) (by omega) (by exact congrArg (fun n => ![n, 384, 0]) (off_i i)))⟩))))))))
  · exact exists_mem_tail5 (exists_mem_tail5 (exists_mem_tail5 (exists_mem_tail5 (exists_mem_tail5 (exists_mem_tail5 (exists_mem_tail5 (⟨_, List.mem_cons_self, (wmem i y hy (r := 512) (n := 64) (j := 0) (m := 128) (fun _ => by rfl) (by rfl) (by omega) (by exact congrArg (fun n => ![n, 512, 0]) (off_i i)))⟩)))))))
  · exact exists_mem_tail5 (exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 128) (m := 128) (fun _ => by rfl) (by rfl) (by omega) (by exact congrArg (fun n => ![n, 0, 128]) (off_i i)))⟩))))))))))
  · exact exists_mem_tail5 (exists_mem_tail5 (exists_mem_tail5 (exists_mem_tail5 (exists_mem_tail5 (exists_mem_tail5 (exists_mem_tail (exists_mem_tail (exists_mem_tail (⟨_, List.mem_cons_self, (wmem i y hy (r := 128) (n := 128) (j := 128) (m := 128) (fun _ => by rfl) (by rfl) (by omega) (by exact congrArg (fun n => ![n, 128, 128]) (off_i i)))⟩)))))))))
  · exact exists_mem_tail5 (exists_mem_tail5 (exists_mem_tail5 (exists_mem_tail5 (exists_mem_tail5 (exists_mem_tail5 (exists_mem_tail (exists_mem_tail (⟨_, List.mem_cons_self, (wmem i y hy (r := 256) (n := 128) (j := 128) (m := 128) (fun _ => by rfl) (by rfl) (by omega) (by exact congrArg (fun n => ![n, 256, 128]) (off_i i)))⟩))))))))
  · exact exists_mem_tail5 (exists_mem_tail5 (exists_mem_tail5 (exists_mem_tail5 (exists_mem_tail5 (exists_mem_tail5 (exists_mem_tail (⟨_, List.mem_cons_self, (wmem i y hy (r := 384) (n := 128) (j := 128) (m := 128) (fun _ => by rfl) (by rfl) (by omega) (by exact congrArg (fun n => ![n, 384, 128]) (off_i i)))⟩)))))))
  · exact exists_mem_tail5 (exists_mem_tail5 (exists_mem_tail5 (exists_mem_tail5 (exists_mem_tail5 (exists_mem_tail5 (⟨_, List.mem_cons_self, (wmem i y hy (r := 512) (n := 64) (j := 128) (m := 128) (fun _ => by rfl) (by rfl) (by omega) (by exact congrArg (fun n => ![n, 512, 128]) (off_i i)))⟩))))))
  · exact exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 256) (m := 128) (fun _ => by rfl) (by rfl) (by omega) (by exact congrArg (fun n => ![n, 0, 256]) (off_i i)))⟩)))))))))
  · exact exists_mem_tail5 (exists_mem_tail5 (exists_mem_tail5 (exists_mem_tail5 (exists_mem_tail5 (exists_mem_tail (exists_mem_tail (exists_mem_tail (⟨_, List.mem_cons_self, (wmem i y hy (r := 128) (n := 128) (j := 256) (m := 128) (fun _ => by rfl) (by rfl) (by omega) (by exact congrArg (fun n => ![n, 128, 256]) (off_i i)))⟩))))))))
  · exact exists_mem_tail5 (exists_mem_tail5 (exists_mem_tail5 (exists_mem_tail5 (exists_mem_tail5 (exists_mem_tail (exists_mem_tail (⟨_, List.mem_cons_self, (wmem i y hy (r := 256) (n := 128) (j := 256) (m := 128) (fun _ => by rfl) (by rfl) (by omega) (by exact congrArg (fun n => ![n, 256, 256]) (off_i i)))⟩)))))))
  · exact exists_mem_tail5 (exists_mem_tail5 (exists_mem_tail5 (exists_mem_tail5 (exists_mem_tail5 (exists_mem_tail (⟨_, List.mem_cons_self, (wmem i y hy (r := 384) (n := 128) (j := 256) (m := 128) (fun _ => by rfl) (by rfl) (by omega) (by exact congrArg (fun n => ![n, 384, 256]) (off_i i)))⟩))))))
  · exact exists_mem_tail5 (exists_mem_tail5 (exists_mem_tail5 (exists_mem_tail5 (exists_mem_tail5 (⟨_, List.mem_cons_self, (wmem i y hy (r := 512) (n := 64) (j := 256) (m := 128) (fun _ => by rfl) (by rfl) (by omega) (by exact congrArg (fun n => ![n, 512, 256]) (off_i i)))⟩)))))
  · exact exists_mem_tail5 (exists_mem_tail5 (exists_mem_tail5 (exists_mem_tail5 (exists_mem_tail (exists_mem_tail (exists_mem_tail (exists_mem_tail (⟨_, List.mem_cons_self, (wmem i y hy (r := 0) (n := 128) (j := 384) (m := 128) (fun _ => by rfl) (by rfl) (by omega) (by exact congrArg (fun n => ![n, 0, 384]) (off_i i)))⟩))))))))
  · exact exists_mem_tail5 (exists_mem_tail5 (exists_mem_tail5 (exists_mem_tail5 (exists_mem_tail (exists_mem_tail (exists_mem_tail (⟨_, List.mem_cons_self, (wmem i y hy (r := 128) (n := 128) (j := 384) (m := 128) (fun _ => by rfl) (by rfl) (by omega) (by exact congrArg (fun n => ![n, 128, 384]) (off_i i)))⟩)))))))
  · exact exists_mem_tail5 (exists_mem_tail5 (exists_mem_tail5 (exists_mem_tail5 (exists_mem_tail (exists_mem_tail (⟨_, List.mem_cons_self, (wmem i y hy (r := 256) (n := 128) (j := 384) (m := 128) (fun _ => by rfl) (by rfl) (by omega) (by exact congrArg (fun n => ![n, 256, 384]) (off_i i)))⟩))))))
  · exact exists_mem_tail5 (exists_mem_tail5 (exists_mem_tail5 (exists_mem_tail5 (exists_mem_tail (⟨_, List.mem_cons_self, (wmem i y hy (r := 384) (n := 128) (j := 384) (m := 128) (fun _ => by rfl) (by rfl) (by omega) (by exact congrArg (fun n => ![n, 384, 384]) (off_i i)))⟩)))))
  · exact exists_mem_tail5 (exists_mem_tail5 (exists_mem_tail5 (exists_mem_tail5 (⟨_, List.mem_cons_self, (wmem i y hy (r := 512) (n := 64) (j := 384) (m := 128) (fun _ => by rfl) (by rfl) (by omega) (by exact congrArg (fun n => ![n, 512, 384]) (off_i i)))⟩))))
  · exact exists_mem_tail5 (exists_mem_tail5 (exists_mem_tail5 (exists_mem_tail (exists_mem_tail (exists_mem_tail (exists_mem_tail (⟨_, List.mem_cons_self, (wmem i y hy (r := 0) (n := 128) (j := 512) (m := 128) (fun _ => by rfl) (by rfl) (by omega) (by exact congrArg (fun n => ![n, 0, 512]) (off_i i)))⟩)))))))
  · exact exists_mem_tail5 (exists_mem_tail5 (exists_mem_tail5 (exists_mem_tail (exists_mem_tail (exists_mem_tail (⟨_, List.mem_cons_self, (wmem i y hy (r := 128) (n := 128) (j := 512) (m := 128) (fun _ => by rfl) (by rfl) (by omega) (by exact congrArg (fun n => ![n, 128, 512]) (off_i i)))⟩))))))
  · exact exists_mem_tail5 (exists_mem_tail5 (exists_mem_tail5 (exists_mem_tail (exists_mem_tail (⟨_, List.mem_cons_self, (wmem i y hy (r := 256) (n := 128) (j := 512) (m := 128) (fun _ => by rfl) (by rfl) (by omega) (by exact congrArg (fun n => ![n, 256, 512]) (off_i i)))⟩)))))
  · exact exists_mem_tail5 (exists_mem_tail5 (exists_mem_tail5 (exists_mem_tail (⟨_, List.mem_cons_self, (wmem i y hy (r := 384) (n := 128) (j := 512) (m := 128) (fun _ => by rfl) (by rfl) (by omega) (by exact congrArg (fun n => ![n, 384, 512]) (off_i i)))⟩))))
  · exact exists_mem_tail5 (exists_mem_tail5 (exists_mem_tail5 (⟨_, List.mem_cons_self, (wmem i y hy (r := 512) (n := 64) (j := 512) (m := 128) (fun _ => by rfl) (by rfl) (by omega) (by exact congrArg (fun n => ![n, 512, 512]) (off_i i)))⟩)))
  · exact exists_mem_tail5 (exists_mem_tail5 (exists_mem_tail (exists_mem_tail (exists_mem_tail (exists_mem_tail (⟨_, List.mem_cons_self, (wmem i y hy (r := 0) (n := 128) (j := 640) (m := 128) (fun _ => by rfl) (by rfl) (by omega) (by exact congrArg (fun n => ![n, 0, 640]) (off_i i)))⟩))))))
  · exact exists_mem_tail5 (exists_mem_tail5 (exists_mem_tail (exists_mem_tail (exists_mem_tail (⟨_, List.mem_cons_self, (wmem i y hy (r := 128) (n := 128) (j := 640) (m := 128) (fun _ => by rfl) (by rfl) (by omega) (by exact congrArg (fun n => ![n, 128, 640]) (off_i i)))⟩)))))
  · exact exists_mem_tail5 (exists_mem_tail5 (exists_mem_tail (exists_mem_tail (⟨_, List.mem_cons_self, (wmem i y hy (r := 256) (n := 128) (j := 640) (m := 128) (fun _ => by rfl) (by rfl) (by omega) (by exact congrArg (fun n => ![n, 256, 640]) (off_i i)))⟩))))
  · exact exists_mem_tail5 (exists_mem_tail5 (exists_mem_tail (⟨_, List.mem_cons_self, (wmem i y hy (r := 384) (n := 128) (j := 640) (m := 128) (fun _ => by rfl) (by rfl) (by omega) (by exact congrArg (fun n => ![n, 384, 640]) (off_i i)))⟩)))
  · exact exists_mem_tail5 (exists_mem_tail5 (⟨_, List.mem_cons_self, (wmem i y hy (r := 512) (n := 64) (j := 640) (m := 128) (fun _ => by rfl) (by rfl) (by omega) (by exact congrArg (fun n => ![n, 512, 640]) (off_i i)))⟩))
  · exact exists_mem_tail5 (exists_mem_tail (exists_mem_tail (exists_mem_tail (exists_mem_tail (⟨_, List.mem_cons_self, (wmem i y hy (r := 0) (n := 128) (j := 768) (m := 128) (fun _ => by rfl) (by rfl) (by omega) (by exact congrArg (fun n => ![n, 0, 768]) (off_i i)))⟩)))))
  · exact exists_mem_tail5 (exists_mem_tail (exists_mem_tail (exists_mem_tail (⟨_, List.mem_cons_self, (wmem i y hy (r := 128) (n := 128) (j := 768) (m := 128) (fun _ => by rfl) (by rfl) (by omega) (by exact congrArg (fun n => ![n, 128, 768]) (off_i i)))⟩))))
  · exact exists_mem_tail5 (exists_mem_tail (exists_mem_tail (⟨_, List.mem_cons_self, (wmem i y hy (r := 256) (n := 128) (j := 768) (m := 128) (fun _ => by rfl) (by rfl) (by omega) (by exact congrArg (fun n => ![n, 256, 768]) (off_i i)))⟩)))
  · exact exists_mem_tail5 (exists_mem_tail (⟨_, List.mem_cons_self, (wmem i y hy (r := 384) (n := 128) (j := 768) (m := 128) (fun _ => by rfl) (by rfl) (by omega) (by exact congrArg (fun n => ![n, 384, 768]) (off_i i)))⟩))
  · exact exists_mem_tail5 (⟨_, List.mem_cons_self, (wmem i y hy (r := 512) (n := 64) (j := 768) (m := 128) (fun _ => by rfl) (by rfl) (by omega) (by exact congrArg (fun n => ![n, 512, 768]) (off_i i)))⟩)
  · exact exists_mem_tail (exists_mem_tail (exists_mem_tail (exists_mem_tail (⟨_, List.mem_cons_self, (wmem i y hy (r := 0) (n := 128) (j := 896) (m := 128) (fun _ => by rfl) (by rfl) (by omega) (by exact congrArg (fun n => ![n, 0, 896]) (off_i i)))⟩))))
  · exact exists_mem_tail (exists_mem_tail (exists_mem_tail (⟨_, List.mem_cons_self, (wmem i y hy (r := 128) (n := 128) (j := 896) (m := 128) (fun _ => by rfl) (by rfl) (by omega) (by exact congrArg (fun n => ![n, 128, 896]) (off_i i)))⟩)))
  · exact exists_mem_tail (exists_mem_tail (⟨_, List.mem_cons_self, (wmem i y hy (r := 256) (n := 128) (j := 896) (m := 128) (fun _ => by rfl) (by rfl) (by omega) (by exact congrArg (fun n => ![n, 256, 896]) (off_i i)))⟩))
  · exact exists_mem_tail (⟨_, List.mem_cons_self, (wmem i y hy (r := 384) (n := 128) (j := 896) (m := 128) (fun _ => by rfl) (by rfl) (by omega) (by exact congrArg (fun n => ![n, 384, 896]) (off_i i)))⟩)
  · exact ⟨_, List.mem_cons_self, (wmem i y hy (r := 512) (n := 64) (j := 896) (m := 128) (fun _ => by rfl) (by rfl) (by omega) (by exact congrArg (fun n => ![n, 512, 896]) (off_i i)))⟩

/-- No index of another block does. -/
theorem runB_wmiss (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) (y : S7x576x1024.Idx) (hy : (y 0).val ≠ (i 0).val) :
    ∀ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1, y ∉ p.1.set := by
  simp only [runB]
  sl_unfold_words
  refine List.forall_mem_cons.2 ⟨wnot i y hy (fun _ => by rfl) (by rfl) (by exact congrArg (fun n => ![n, 512, 896]) (off_i i)), ?_⟩
  refine List.forall_mem_cons.2 ⟨wnot i y hy (fun _ => by rfl) (by rfl) (by exact congrArg (fun n => ![n, 384, 896]) (off_i i)), ?_⟩
  refine List.forall_mem_cons.2 ⟨wnot i y hy (fun _ => by rfl) (by rfl) (by exact congrArg (fun n => ![n, 256, 896]) (off_i i)), ?_⟩
  refine List.forall_mem_cons.2 ⟨wnot i y hy (fun _ => by rfl) (by rfl) (by exact congrArg (fun n => ![n, 128, 896]) (off_i i)), ?_⟩
  refine List.forall_mem_cons.2 ⟨wnot i y hy (fun _ => by rfl) (by rfl) (by exact congrArg (fun n => ![n, 0, 896]) (off_i i)), ?_⟩
  refine List.forall_mem_cons.2 ⟨wnot i y hy (fun _ => by rfl) (by rfl) (by exact congrArg (fun n => ![n, 512, 768]) (off_i i)), ?_⟩
  refine List.forall_mem_cons.2 ⟨wnot i y hy (fun _ => by rfl) (by rfl) (by exact congrArg (fun n => ![n, 384, 768]) (off_i i)), ?_⟩
  refine List.forall_mem_cons.2 ⟨wnot i y hy (fun _ => by rfl) (by rfl) (by exact congrArg (fun n => ![n, 256, 768]) (off_i i)), ?_⟩
  refine List.forall_mem_cons.2 ⟨wnot i y hy (fun _ => by rfl) (by rfl) (by exact congrArg (fun n => ![n, 128, 768]) (off_i i)), ?_⟩
  refine List.forall_mem_cons.2 ⟨wnot i y hy (fun _ => by rfl) (by rfl) (by exact congrArg (fun n => ![n, 0, 768]) (off_i i)), ?_⟩
  refine List.forall_mem_cons.2 ⟨wnot i y hy (fun _ => by rfl) (by rfl) (by exact congrArg (fun n => ![n, 512, 640]) (off_i i)), ?_⟩
  refine List.forall_mem_cons.2 ⟨wnot i y hy (fun _ => by rfl) (by rfl) (by exact congrArg (fun n => ![n, 384, 640]) (off_i i)), ?_⟩
  refine List.forall_mem_cons.2 ⟨wnot i y hy (fun _ => by rfl) (by rfl) (by exact congrArg (fun n => ![n, 256, 640]) (off_i i)), ?_⟩
  refine List.forall_mem_cons.2 ⟨wnot i y hy (fun _ => by rfl) (by rfl) (by exact congrArg (fun n => ![n, 128, 640]) (off_i i)), ?_⟩
  refine List.forall_mem_cons.2 ⟨wnot i y hy (fun _ => by rfl) (by rfl) (by exact congrArg (fun n => ![n, 0, 640]) (off_i i)), ?_⟩
  refine List.forall_mem_cons.2 ⟨wnot i y hy (fun _ => by rfl) (by rfl) (by exact congrArg (fun n => ![n, 512, 512]) (off_i i)), ?_⟩
  refine List.forall_mem_cons.2 ⟨wnot i y hy (fun _ => by rfl) (by rfl) (by exact congrArg (fun n => ![n, 384, 512]) (off_i i)), ?_⟩
  refine List.forall_mem_cons.2 ⟨wnot i y hy (fun _ => by rfl) (by rfl) (by exact congrArg (fun n => ![n, 256, 512]) (off_i i)), ?_⟩
  refine List.forall_mem_cons.2 ⟨wnot i y hy (fun _ => by rfl) (by rfl) (by exact congrArg (fun n => ![n, 128, 512]) (off_i i)), ?_⟩
  refine List.forall_mem_cons.2 ⟨wnot i y hy (fun _ => by rfl) (by rfl) (by exact congrArg (fun n => ![n, 0, 512]) (off_i i)), ?_⟩
  refine List.forall_mem_cons.2 ⟨wnot i y hy (fun _ => by rfl) (by rfl) (by exact congrArg (fun n => ![n, 512, 384]) (off_i i)), ?_⟩
  refine List.forall_mem_cons.2 ⟨wnot i y hy (fun _ => by rfl) (by rfl) (by exact congrArg (fun n => ![n, 384, 384]) (off_i i)), ?_⟩
  refine List.forall_mem_cons.2 ⟨wnot i y hy (fun _ => by rfl) (by rfl) (by exact congrArg (fun n => ![n, 256, 384]) (off_i i)), ?_⟩
  refine List.forall_mem_cons.2 ⟨wnot i y hy (fun _ => by rfl) (by rfl) (by exact congrArg (fun n => ![n, 128, 384]) (off_i i)), ?_⟩
  refine List.forall_mem_cons.2 ⟨wnot i y hy (fun _ => by rfl) (by rfl) (by exact congrArg (fun n => ![n, 0, 384]) (off_i i)), ?_⟩
  refine List.forall_mem_cons.2 ⟨wnot i y hy (fun _ => by rfl) (by rfl) (by exact congrArg (fun n => ![n, 512, 256]) (off_i i)), ?_⟩
  refine List.forall_mem_cons.2 ⟨wnot i y hy (fun _ => by rfl) (by rfl) (by exact congrArg (fun n => ![n, 384, 256]) (off_i i)), ?_⟩
  refine List.forall_mem_cons.2 ⟨wnot i y hy (fun _ => by rfl) (by rfl) (by exact congrArg (fun n => ![n, 256, 256]) (off_i i)), ?_⟩
  refine List.forall_mem_cons.2 ⟨wnot i y hy (fun _ => by rfl) (by rfl) (by exact congrArg (fun n => ![n, 128, 256]) (off_i i)), ?_⟩
  refine List.forall_mem_cons.2 ⟨wnot i y hy (fun _ => by rfl) (by rfl) (by exact congrArg (fun n => ![n, 0, 256]) (off_i i)), ?_⟩
  refine List.forall_mem_cons.2 ⟨wnot i y hy (fun _ => by rfl) (by rfl) (by exact congrArg (fun n => ![n, 512, 128]) (off_i i)), ?_⟩
  refine List.forall_mem_cons.2 ⟨wnot i y hy (fun _ => by rfl) (by rfl) (by exact congrArg (fun n => ![n, 384, 128]) (off_i i)), ?_⟩
  refine List.forall_mem_cons.2 ⟨wnot i y hy (fun _ => by rfl) (by rfl) (by exact congrArg (fun n => ![n, 256, 128]) (off_i i)), ?_⟩
  refine List.forall_mem_cons.2 ⟨wnot i y hy (fun _ => by rfl) (by rfl) (by exact congrArg (fun n => ![n, 128, 128]) (off_i i)), ?_⟩
  refine List.forall_mem_cons.2 ⟨wnot i y hy (fun _ => by rfl) (by rfl) (by exact congrArg (fun n => ![n, 0, 128]) (off_i i)), ?_⟩
  refine List.forall_mem_cons.2 ⟨wnot i y hy (fun _ => by rfl) (by rfl) (by exact congrArg (fun n => ![n, 512, 0]) (off_i i)), ?_⟩
  refine List.forall_mem_cons.2 ⟨wnot i y hy (fun _ => by rfl) (by rfl) (by exact congrArg (fun n => ![n, 384, 0]) (off_i i)), ?_⟩
  refine List.forall_mem_cons.2 ⟨wnot i y hy (fun _ => by rfl) (by rfl) (by exact congrArg (fun n => ![n, 256, 0]) (off_i i)), ?_⟩
  refine List.forall_mem_cons.2 ⟨wnot i y hy (fun _ => by rfl) (by rfl) (by exact congrArg (fun n => ![n, 128, 0]) (off_i i)), ?_⟩
  refine List.forall_mem_cons.2 ⟨wnot i y hy (fun _ => by rfl) (by rfl) (by exact congrArg (fun n => ![n, 0, 0]) (off_i i)), ?_⟩
  exact fun p hp => absurd hp List.not_mem_nil
end Cert.Kernel.Run

end
-- ==== Proof.Rounded.ValuesB.lean ====
module

public import proofs.«01_k».proof.Proof.Rounded.WeightB
public import proofs.«01_k».proof.Proof.Rounded.Tiles

@[expose] public section

set_option maxRecDepth 16384
set_option maxHeartbeats 400000
set_option pp.maxSteps 150

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runB_xpieces (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) :
    ∀ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).1, ∀ x : p.1.shape.Idx, p.2 x = xwBlk (i 0).val xs x0 (p.1.emb x) := by
  have hi := cond2_lt i hc2
  have hx : View.readAt (Elt F) arg14.view (Rect.unit ![0, 0] S1536x128.size inb_S1536x128_S1536x128_0_0).toLoadRect (harg14.unread xs) = xs := by
    rw [View.readAt_eq_ld, harg14.read_unread]; exact View.ld_unit_zero (by decide) _ _
  simp only [runB]
  sl_unfold_words
  refine List.forall_mem_cons.2 ⟨fun x => xtile harg1 i hi xs hx x0 7 (by decide) (off := ![0, 896]) (by rfl) (by rfl) x (fun a => by rw [Rect.emb_apply]; exact congrArg (_ + ·) (Nat.one_mul _)), ?_⟩
  refine List.forall_mem_cons.2 ⟨fun x => xtile harg1 i hi xs hx x0 6 (by decide) (off := ![0, 768]) (by rfl) (by rfl) x (fun a => by rw [Rect.emb_apply]; exact congrArg (_ + ·) (Nat.one_mul _)), ?_⟩
  refine List.forall_mem_cons.2 ⟨fun x => xtile harg1 i hi xs hx x0 5 (by decide) (off := ![0, 640]) (by rfl) (by rfl) x (fun a => by rw [Rect.emb_apply]; exact congrArg (_ + ·) (Nat.one_mul _)), ?_⟩
  refine List.forall_mem_cons.2 ⟨fun x => xtile harg1 i hi xs hx x0 4 (by decide) (off := ![0, 512]) (by rfl) (by rfl) x (fun a => by rw [Rect.emb_apply]; exact congrArg (_ + ·) (Nat.one_mul _)), ?_⟩
  refine List.forall_mem_cons.2 ⟨fun x => xtile harg1 i hi xs hx x0 3 (by decide) (off := ![0, 384]) (by rfl) (by rfl) x (fun a => by rw [Rect.emb_apply]; exact congrArg (_ + ·) (Nat.one_mul _)), ?_⟩
  refine List.forall_mem_cons.2 ⟨fun x => xtile harg1 i hi xs hx x0 2 (by decide) (off := ![0, 256]) (by rfl) (by rfl) x (fun a => by rw [Rect.emb_apply]; exact congrArg (_ + ·) (Nat.one_mul _)), ?_⟩
  refine List.forall_mem_cons.2 ⟨fun x => xtile harg1 i hi xs hx x0 1 (by decide) (off := ![0, 128]) (by rfl) (by rfl) x (fun a => by rw [Rect.emb_apply]; exact congrArg (_ + ·) (Nat.one_mul _)), ?_⟩
  refine List.forall_mem_cons.2 ⟨fun x => xtile harg1 i hi xs hx x0 0 (by decide) (off := ![0, 0]) (by rfl) (by rfl) x (fun a => by rw [Rect.emb_apply]; exact congrArg (_ + ·) (Nat.one_mul _)), ?_⟩
  exact fun p hp => absurd hp List.not_mem_nil

theorem runB_xw (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) : View.canon (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).1 = xwBlk (i 0).val xs x0 := by
  funext y
  have h := View.canon_append_of_pieces (xwBlk (i 0).val xs x0) [] _ (runB_xpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs) y (View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).1 S1536x128.size (by sl_kernel_rfl) y)
  rwa [List.append_nil] at h

theorem runB_cs (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) :
    View.canon (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.2.1 = k0_pay4 cs (xwBlk (i 0).val xs x0) (wRows x2 x3 (i 0).val (cond2_lt i hc2)) := by
  have hL : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.2.1 = ⟨Rect.unit ![0, 0] S1536x512.size inb_S1536x512_S1536x512_0_0, k0_pay4 (View.readAt (Elt F) arg17.view (Rect.unit ![0, 0] S1536x512.size inb_S1536x512_S1536x512_0_0).toLoadRect (harg17.unread cs)) (arg15.view.readCov (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).1 (Rect.unit ![0, 0] S1536x1024.size inb_S1536x1024_S1536x1024_0_0).toLoadRect) (arg16.view.readCov (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1 (Rect.unit (s := S7x576x1024) (k0_off46 i) S1x512x1024.size (k0_off46_inb i hc2)).toLoadRect)⟩ :: [] := rfl
  have h0 : View.readAt (Elt F) arg17.view (Rect.unit ![0, 0] S1536x512.size inb_S1536x512_S1536x512_0_0).toLoadRect (harg17.unread cs) = cs := by
    rw [View.readAt_eq_ld, harg17.read_unread]; exact View.ld_unit_zero (by decide) _ _
  have h1 : arg15.view.readCov (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).1 (Rect.unit ![0, 0] S1536x1024.size inb_S1536x1024_S1536x1024_0_0).toLoadRect = xwBlk (i 0).val xs x0 := by
    rw [View.readCov_eq_canon', runB_xw c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs]; funext j; exact congrArg (xwBlk (i 0).val xs x0) (funext fun a => Fin.ext (by fin_cases a <;> exact (Nat.zero_add _).trans (Nat.one_mul _)))
  have h2 : arg16.view.readCov (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1 (Rect.unit (s := S7x576x1024) (k0_off46 i) S1x512x1024.size (k0_off46_inb i hc2)).toLoadRect = wRows x2 x3 (i 0).val (cond2_lt i hc2) := by
    rw [View.readCov_eq_canon']; funext j
    have e0 : ((Rect.unit (s := S7x576x1024) (k0_off46 i) S1x512x1024.size (k0_off46_inb i hc2)).toLoadRect.idx j 0).val = (i 0).val := by
      have : (j 0).val < 1 := (j 0).isLt
      show k0_off46 i 0 + 1 * (j 0).val = _
      have := off_i i
      show BitVec.toNat (Scalar.indexCast (BitVec.ofNat 32 (i 0).val)) + 1 * (j 0).val = _
      omega
    have h := View.canon_append_of_pieces (wAll x2 x3) [] _ (runB_wpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs) _ (runB_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs _ e0)
    rw [List.append_nil] at h
    rw [h]
    refine congrArg (wAll x2 x3) (funext fun a => Fin.ext ?_)
    fin_cases a
    · exact e0
    · exact (Nat.zero_add _).trans (Nat.one_mul _)
    · exact (Nat.zero_add _).trans (Nat.one_mul _)
  rw [hL, h0, h1, h2]
  exact View.canon_cons_unit_lit _ _ _ (by decide)
end Cert.Kernel.Run

end
-- ==== Proof.Rounded.StepB.lean ====
module

public import proofs.«01_k».proof.Proof.Rounded.ValuesB
public import proofs.«01_k».proof.Proof.Rounded.Tiles

@[expose] public section

set_option maxRecDepth 16384
set_option maxHeartbeats 1000000
set_option pp.maxSteps 150

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runB_wread (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) (y : S7x576x1024.Idx) :
    arg16.view.read (Elt F) (arg16.view.writes (Elt F) (harg16.unread w) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1) y = if (y 0).val = (i 0).val then wAll x2 x3 y else w y := by
  split
  · rename_i hy
    rw [View.read_writes_apply_eq_canon _ _ _ _ (runB_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs y hy)]
    have h := View.canon_append_of_pieces (wAll x2 x3) [] _ (runB_wpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs) _ (runB_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs y hy)
    rwa [List.append_nil] at h
  · rename_i hy
    rw [View.read_writes_apply_of_forall_not_mem _ _ _ _ (runB_wmiss c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs y hy), harg16.read_unread]

theorem runB_ccover (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) (y : S1536x512.Idx) : ∃ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.2.1, y ∈ p.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.2.1 S1536x512.size (by sl_kernel_rfl) y

set_option maxHeartbeats 4000000 in
/-- The body's triple at such a point, each buffer it touches held whole before and after. -/
theorem stepB (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) (E : Set ℕ) (K : PUnit → sProp 𝕄) :
    iprop(owns (c : Thread nD τ) arg1 fullShare x0 ∗ owns (c : Thread nD τ) arg3 fullShare x2 ∗ owns (c : Thread nD τ) arg4 fullShare x3 ∗ owns (c : Thread nD τ) arg14 fullShare xs ∗ (∃ d, owns (c : Thread nD τ) arg15 fullShare d) ∗ owns (c : Thread nD τ) arg16 fullShare w ∗ owns (c : Thread nD τ) arg17 fullShare cs
      ∗ (iprop(owns (c : Thread nD τ) arg1 fullShare x0 ∗ owns (c : Thread nD τ) arg3 fullShare x2 ∗ owns (c : Thread nD τ) arg4 fullShare x3 ∗ owns (c : Thread nD τ) arg14 fullShare xs ∗ (∃ d, owns (c : Thread nD τ) arg15 fullShare d) ∗ (∃ w2 : Vec F S7x576x1024 .bf16, ⌜∀ y, w2 y = if (y 0).val = (i 0).val then wAll x2 x3 y else w y⌝ ∗ owns (c : Thread nD τ) arg16 fullShare w2) ∗ owns (c : Thread nD τ) arg17 fullShare (k0_pay4 cs (xwBlk (i 0).val xs x0) (wRows x2 x3 (i 0).val (cond2_lt i hc2)))) -∗ K ⟨⟩))
    ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H1, H3, H4, H14, H15, H16, H17, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.2.2 E K)
  isplitl [H1]; · iexact H1
  isplitl [H3]; · iexact H3
  isplitl [H4]; · iexact H4
  isplitl [H14]; · iexact H14
  isplitl [H15]; · iexact H15
  isplitl [H16]; · iexact H16
  isplitl [H17]; · iexact H17
  iintro ⟨H1, H3, H4, H14, ⟨%f15, H15⟩, H16, H17⟩
  iapply Hk
  isplitl [H1]
  · iexact H1
  isplitl [H3]
  · iexact H3
  isplitl [H4]
  · iexact H4
  isplitl [H14]
  · iexact H14
  isplitl [H15]
  · iexists _; unfold owns; iexists _; isplitr
    swap; · iexact H15
    ipureintro; rfl
  isplitl [H16]
  · iexists _; isplitr
    swap
    · unfold owns; iexists _; isplitr
      swap; · iexact H16
      ipureintro; rfl
    ipureintro; exact runB_wread c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs
  unfold owns; iexists _; isplitr
  swap; · iexact H17
  ipureintro; exact (View.read_writes_eq_canon _ _ _ (runB_ccover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs)).trans (runB_cs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs)

end Cert.Kernel.Run

end
-- ==== Proof.Rounded.RunC.lean ====
module

public import proofs.«01_k».proof.Proof.Rounded.Cond

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a point of the second phase, on whole buffers: it leaves its inputs, the dequantised weights and the accumulated projection as they were, and the four outputs and the scratch of quantised gradients at the stores listed here. -/
noncomputable def runC (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) :
    Σ' (L10 : List (View.Piece (Elt F) S1x256x7168 .bf16)), Σ' (L11 : List (View.Piece (Elt F) S1x2x512 .f32)), Σ' (L12 : List (View.Piece (Elt F) S1x256x576 .fp8e5m2)), Σ' (L13 : List (View.Piece (Elt F) S1x256x5 .f32)), { L18 : List (View.Piece (Elt F) S256x576 .bf16) //
      ∀ (E : Set ℕ) (K : PUnit → sProp 𝕄),
        iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg16 fullShare w ∗ owns (c : Thread nD τ) arg17 fullShare cs ∗ (∃ d, owns (c : Thread nD τ) arg18 fullShare d)
            ∗ (iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ owns (c : Thread nD τ) arg16 fullShare w ∗ owns (c : Thread nD τ) arg17 fullShare cs ∗ (∃ f, arg18.view.loc (c : Thread nD τ) ↦[arg18.view.set]{fullShare} arg18.view.writes (Elt F) f L18)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_mla_kv_bwd_eq_skeleton]; unfold cc0_mla_kv_bwd_skel
    unfold owns
    iintro ⟨⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f16, %hf16, H16⟩, ⟨%f17, %hf17, H17⟩, ⟨%d18, %f18, -, H18⟩, Hk⟩
    obtain rfl := harg5.eq_unread hf5; obtain rfl := harg6.eq_unread hf6; obtain rfl := harg7.eq_unread hf7; obtain rfl := harg8.eq_unread hf8; obtain rfl := harg9.eq_unread hf9; obtain rfl := harg16.eq_unread hf16; obtain rfl := harg17.eq_unread hf17
    sl_exec (disch := first | sl_exact hc1 | sl_exact hc2 | sl_exact hc3)
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    isplitl [H13]
    · iexists _; iexact H13
    isplitl [H16]
    · iexists _; isplitr; · ipureintro; exact harg16.read_unread _
      iexact H16
    isplitl [H17]
    · iexists _; isplitr; · ipureintro; exact harg17.read_unread _
      iexact H17
    iexists _; iexact H18

end Cert.Kernel.Run

end
-- ==== Proof.Rounded.StepC.lean ====
module

public import proofs.«01_k».proof.Proof.Rounded.RunC
public import proofs.«01_k».proof.Proof.Rounded.Tiles

@[expose] public section

set_option maxRecDepth 16384
set_option maxHeartbeats 1000000
set_option pp.maxSteps 150

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runC_cover10 (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) (y : S1x256x7168.Idx) : ∃ p ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).1, y ∈ p.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).1 S1x256x1024.size (by sl_kernel_rfl) y

theorem runC_cover11 (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) (y : S1x2x512.Idx) : ∃ p ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.1, y ∈ p.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.1 S1x2x512.size (by sl_kernel_rfl) y

theorem runC_cover12 (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) (y : S1x256x576.Idx) : ∃ p ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.1, y ∈ p.1.set :=
  View.cover_of_tiledBy (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.1 S1x256x64.size (by sl_kernel_rfl) y

theorem runC_cover13 (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) (y : S1x256x5.Idx) : ∃ p ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.2.1, y ∈ p.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.2.1 S1x256x5.size (by sl_kernel_rfl) y

set_option maxHeartbeats 4000000 in
/-- The body's triple at such a point, each buffer it touches held whole before and after. -/
theorem stepC (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) (E : Set ℕ) (K : PUnit → sProp 𝕄) :
    iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg16 fullShare w ∗ owns (c : Thread nD τ) arg17 fullShare cs ∗ (∃ d, owns (c : Thread nD τ) arg18 fullShare d)
      ∗ (iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).1) ∗ owns (c : Thread nD τ) arg11 fullShare (View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.1) ∗ owns (c : Thread nD τ) arg12 fullShare (View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.1) ∗ owns (c : Thread nD τ) arg13 fullShare (View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.2.1) ∗ owns (c : Thread nD τ) arg16 fullShare w ∗ owns (c : Thread nD τ) arg17 fullShare cs ∗ (∃ d, owns (c : Thread nD τ) arg18 fullShare d)) -∗ K ⟨⟩))
    ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H5, H6, H7, H8, H9, H10, H11, H12, H13, H16, H17, H18, Hk⟩
  iapply ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.2.2.2 E K)
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H16]; · iexact H16
  isplitl [H17]; · iexact H17
  isplitl [H18]; · iexact H18
  iintro ⟨H5, H6, H7, H8, H9, ⟨%f10, H10⟩, ⟨%f11, H11⟩, ⟨%f12, H12⟩, ⟨%f13, H13⟩, H16, H17, ⟨%f18, H18⟩⟩
  iapply Hk
  isplitl [H5]
  · iexact H5
  isplitl [H6]
  · iexact H6
  isplitl [H7]
  · iexact H7
  isplitl [H8]
  · iexact H8
  isplitl [H9]
  · iexact H9
  isplitl [H10]
  · unfold owns; iexists _; isplitr
    swap; · iexact H10
    ipureintro; exact View.read_writes_eq_canon _ _ _ (runC_cover10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs)
  isplitl [H11]
  · unfold owns; iexists _; isplitr
    swap; · iexact H11
    ipureintro; exact View.read_writes_eq_canon _ _ _ (runC_cover11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs)
  isplitl [H12]
  · unfold owns; iexists _; isplitr
    swap; · iexact H12
    ipureintro; exact View.read_writes_eq_canon _ _ _ (runC_cover12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs)
  isplitl [H13]
  · unfold owns; iexists _; isplitr
    swap; · iexact H13
    ipureintro; exact View.read_writes_eq_canon _ _ _ (runC_cover13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs)
  isplitl [H16]
  · iexact H16
  isplitl [H17]
  · iexact H17
  iexists _; unfold owns; iexists _; isplitr
  swap; · iexact H18
  ipureintro; rfl

end Cert.Kernel.Run

end
-- ==== Proof.Rounded.Frame.lean ====
module

public import proofs.«01_k».proof.Proof.Gen.Kernel.Frame
public import proofs.«01_k».proof.Proof.Rounded.StepA
public import proofs.«01_k».proof.Proof.Rounded.StepB
public import proofs.«01_k».proof.Proof.Rounded.StepC

@[expose] public section

set_option maxRecDepth 16384
set_option maxHeartbeats 1000000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N13 : cfg0.N = 13 := N_0

/-- The grid's one coordinate at point `t` is `t`. -/
theorem coords0 : ∀ t : Fin cfg0.N, (grid0.coords t 0).val = t.val :=
  (by decide +kernel : ∀ t : Fin grid0.N, (grid0.coords t 0).val = t.val)

/-- The point of number `k`. -/
def pt (k : ℕ) (hk : k < 13) : Fin cfg0.N := ⟨k, lt_of_lt_of_eq hk N_0.symm⟩

/-- The token scales as staged at the first point. -/
def XS (c : Dev nD) : Vec F S1536x128 .bf16 := xsv (iblk m c 1 (pt 0 (by decide)))

/-- The dequantised weight, all seven blocks of it. -/
def Wfull (c : Dev nD) : Vec F S7x576x1024 .bf16 := fun y =>
  wAll (iblk m c 2 (pt (y 0).val (lt_trans (y 0).isLt (by decide)))) (iblk m c 3 (pt (y 0).val (lt_trans (y 0).isLt (by decide)))) y

/-- The accumulator after `n` points of the first phase. -/
def Cn (c : Dev nD) : ℕ → Vec F S1536x512 .f32
  | 0 => k0_pay1
  | n + 1 => if h : n < 7 then k0_pay4 (Cn c n) (xwBlk n (XS m c) (iblk m c 0 (pt n (by omega)))) (wRows (iblk m c 2 (pt n (by omega))) (iblk m c 3 (pt n (by omega))) n h) else Cn c n

theorem Cn_succ (c : Dev nD) (n : ℕ) (h : n < 7) : Cn m c (n + 1) = k0_pay4 (Cn m c n) (xwBlk n (XS m c) (iblk m c 0 (pt n (by omega)))) (wRows (iblk m c 2 (pt n (by omega))) (iblk m c 3 (pt n (by omega))) n h) := by
  rw [Cn, dif_pos h]

/-- The same at a point `t`, whose coordinate is its number. -/
theorem Cn_at (c : Dev nD) (t : Fin cfg0.N) (h : t.val < 7) (j : ℕ) (hj : j < 7) (he : j = t.val) :
    Cn m c (t.val + 1) = k0_pay4 (Cn m c t.val) (xwBlk j (XS m c) (iblk m c 0 t)) (wRows (iblk m c 2 t) (iblk m c 3 t) j hj) := by
  subst he
  exact Cn_succ m c t.val h

theorem Cn_const (c : Dev nD) (n : ℕ) (h : 7 ≤ n) : Cn m c n = Cn m c 7 := by
  induction n, h using Nat.le_induction with
  | base => rfl
  | succ n hn ih => rw [Cn, dif_neg (by omega), ih]

/-- What the second phase's point `t` leaves in result 0's block. -/
def out10 (c : Dev nD) (t : Fin cfg0.N) : Vec F S1x256x7168 .bf16 :=
  if h : 7 ≤ t.val then View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).1 else View.canon (Val := Elt F) []

/-- What the second phase's point `t` leaves in result 1's block. -/
def out11 (c : Dev nD) (t : Fin cfg0.N) : Vec F S1x2x512 .f32 :=
  if h : 7 ≤ t.val then View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.1 else View.canon (Val := Elt F) []

/-- What the second phase's point `t` leaves in result 2's block. -/
def out12 (c : Dev nD) (t : Fin cfg0.N) : Vec F S1x256x576 .fp8e5m2 :=
  if h : 7 ≤ t.val then View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.2.1 else View.canon (Val := Elt F) []

/-- What the second phase's point `t` leaves in result 3's block. -/
def out13 (c : Dev nD) (t : Fin cfg0.N) : Vec F S1x256x5 .f32 :=
  if h : 7 ≤ t.val then View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.2.2.1 else View.canon (Val := Elt F) []

abbrev scM0_0 : Memref sig .tc .vmem S1536x128 .bf16 := Memref.whole cc0_scratch0
abbrev scM0_1 : Memref sig .tc .vmem S1536x1024 .bf16 := Memref.whole cc0_scratch1
abbrev scM0_2 : Memref sig .tc .vmem S7x576x1024 .bf16 := Memref.whole cc0_scratch2
abbrev scM0_3 : Memref sig .tc .vmem S1536x512 .f32 := Memref.whole cc0_scratch3
abbrev scM0_4 : Memref sig .tc .vmem S256x576 .bf16 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The body's invariant: after `n` points the staged scales, the weight blocks dequantised so far and the
    accumulator are known; the other two scratch buffers hold anything. -/
def PhiS (c : Dev nD) : (n : ℕ) → n ≤ cfg0.N → sProp 𝕄
  | 0, _ => Pipeline.ΦA spec0 c
  | n + 1, hn => iprop(∃ w : Vec F S7x576x1024 .bf16, ⌜∀ y : S7x576x1024.Idx, (y 0).val < n + 1 → w y = Wfull m c y⌝
      ∗ owns (c : Thread nD τ) scM0_0 fullShare (XS m c) ∗ (∃ d, owns (c : Thread nD τ) scM0_1 fullShare d)
      ∗ owns (c : Thread nD τ) scM0_2 fullShare w ∗ owns (c : Thread nD τ) scM0_3 fullShare (Cn m c (n + 1))
      ∗ (∃ d, owns (c : Thread nD τ) scM0_4 fullShare d) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(∃ w : Vec F S7x576x1024 .bf16, ⌜∀ y : S7x576x1024.Idx, (y 0).val < n + 1 → w y = Wfull m c y⌝
      ∗ owns (c : Thread nD τ) scM0_0 fullShare (XS m c) ∗ (∃ d, owns (c : Thread nD τ) scM0_1 fullShare d)
      ∗ owns (c : Thread nD τ) scM0_2 fullShare w ∗ owns (c : Thread nD τ) scM0_3 fullShare (Cn m c (n + 1))
      ∗ (∃ d, owns (c : Thread nD τ) scM0_4 fullShare d) ∗ (∃ r, prngReg c r)) := rfl

theorem PhiS_pos (c : Dev nD) (n : ℕ) (h : n ≤ cfg0.N) (hz : n ≠ 0) :
    PhiS m c n h = iprop(∃ w : Vec F S7x576x1024 .bf16, ⌜∀ y : S7x576x1024.Idx, (y 0).val < n → w y = Wfull m c y⌝
      ∗ owns (c : Thread nD τ) scM0_0 fullShare (XS m c) ∗ (∃ d, owns (c : Thread nD τ) scM0_1 fullShare d)
      ∗ owns (c : Thread nD τ) scM0_2 fullShare w ∗ owns (c : Thread nD τ) scM0_3 fullShare (Cn m c n)
      ∗ (∃ d, owns (c : Thread nD τ) scM0_4 fullShare d) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out10 m c t
    | ⟨10, _⟩ => out11 m c t
    | ⟨11, _⟩ => out12 m c t
    | ⟨12, _⟩ => out13 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out10 m c t := by dsimp only [dats]
theorem after0_10 (c : Dev nD) (t : Fin cfg0.N) : (dats m 0 c).after 10 t = out11 m c t := by dsimp only [dats]
theorem after0_11 (c : Dev nD) (t : Fin cfg0.N) : (dats m 0 c).after 11 t = out12 m c t := by dsimp only [dats]
theorem after0_12 (c : Dev nD) (t : Fin cfg0.N) : (dats m 0 c).after 12 t = out13 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, 7 ≤ t.val → cfg0.idle 9 (grid0.coords t) = false := by decide +kernel
theorem idleAt0_9 : ∀ t : Fin cfg0.N, t.val < 7 → cfg0.idle 9 (grid0.coords t) = true := by decide +kernel
theorem noFlush0_9 : ∀ t : Fin cfg0.N, t.val < 7 → (cfg0.win 9).flush t = false := by decide +kernel
theorem liveAt0_10 : ∀ t : Fin cfg0.N, 7 ≤ t.val → cfg0.idle 10 (grid0.coords t) = false := by decide +kernel
theorem idleAt0_10 : ∀ t : Fin cfg0.N, t.val < 7 → cfg0.idle 10 (grid0.coords t) = true := by decide +kernel
theorem noFlush0_10 : ∀ t : Fin cfg0.N, t.val < 7 → (cfg0.win 10).flush t = false := by decide +kernel
theorem liveAt0_11 : ∀ t : Fin cfg0.N, 7 ≤ t.val → cfg0.idle 11 (grid0.coords t) = false := by decide +kernel
theorem idleAt0_11 : ∀ t : Fin cfg0.N, t.val < 7 → cfg0.idle 11 (grid0.coords t) = true := by decide +kernel
theorem noFlush0_11 : ∀ t : Fin cfg0.N, t.val < 7 → (cfg0.win 11).flush t = false := by decide +kernel
theorem liveAt0_12 : ∀ t : Fin cfg0.N, 7 ≤ t.val → cfg0.idle 12 (grid0.coords t) = false := by decide +kernel
theorem idleAt0_12 : ∀ t : Fin cfg0.N, t.val < 7 → cfg0.idle 12 (grid0.coords t) = true := by decide +kernel
theorem noFlush0_12 : ∀ t : Fin cfg0.N, t.val < 7 → (cfg0.win 12).flush t = false := by decide +kernel

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0_0 (c : Dev nD) (t : Fin cfg0.N) : (dats m 0 c).leavesExact 0 t = owns (c : Thread nD τ) (win0_0.stage (cfg0.slots t 0)) fullShare (iblk m c 0 t) := by
  unfold Dat.leavesExact; rw [liveAt0_0 t, after0_0]

theorem leaves0_1 (c : Dev nD) (t : Fin cfg0.N) : (dats m 0 c).leavesExact 1 t = owns (c : Thread nD τ) (win0_1.stage (cfg0.slots t 1)) fullShare (iblk m c 1 t) := by
  unfold Dat.leavesExact; rw [liveAt0_1 t, after0_1]

theorem leaves0_2 (c : Dev nD) (t : Fin cfg0.N) : (dats m 0 c).leavesExact 2 t = owns (c : Thread nD τ) (win0_2.stage (cfg0.slots t 2)) fullShare (iblk m c 2 t) := by
  unfold Dat.leavesExact; rw [liveAt0_2 t, after0_2]

theorem leaves0_3 (c : Dev nD) (t : Fin cfg0.N) : (dats m 0 c).leavesExact 3 t = owns (c : Thread nD τ) (win0_3.stage (cfg0.slots t 3)) fullShare (iblk m c 3 t) := by
  unfold Dat.leavesExact; rw [liveAt0_3 t, after0_3]

theorem leaves0_4 (c : Dev nD) (t : Fin cfg0.N) : (dats m 0 c).leavesExact 4 t = owns (c : Thread nD τ) (win0_4.stage (cfg0.slots t 4)) fullShare (iblk m c 4 t) := by
  unfold Dat.leavesExact; rw [liveAt0_4 t, after0_4]

theorem leaves0_5 (c : Dev nD) (t : Fin cfg0.N) : (dats m 0 c).leavesExact 5 t = owns (c : Thread nD τ) (win0_5.stage (cfg0.slots t 5)) fullShare (iblk m c 5 t) := by
  unfold Dat.leavesExact; rw [liveAt0_5 t, after0_5]

theorem leaves0_6 (c : Dev nD) (t : Fin cfg0.N) : (dats m 0 c).leavesExact 6 t = owns (c : Thread nD τ) (win0_6.stage (cfg0.slots t 6)) fullShare (iblk m c 6 t) := by
  unfold Dat.leavesExact; rw [liveAt0_6 t, after0_6]

theorem leaves0_7 (c : Dev nD) (t : Fin cfg0.N) : (dats m 0 c).leavesExact 7 t = owns (c : Thread nD τ) (win0_7.stage (cfg0.slots t 7)) fullShare (iblk m c 7 t) := by
  unfold Dat.leavesExact; rw [liveAt0_7 t, after0_7]

theorem leaves0_8 (c : Dev nD) (t : Fin cfg0.N) : (dats m 0 c).leavesExact 8 t = owns (c : Thread nD τ) (win0_8.stage (cfg0.slots t 8)) fullShare (iblk m c 8 t) := by
  unfold Dat.leavesExact; rw [liveAt0_8 t, after0_8]

theorem leaves0_9 (c : Dev nD) (t : Fin cfg0.N) (h : 7 ≤ t.val) : (dats m 0 c).leavesExact 9 t = owns (c : Thread nD τ) (win0_9.stage (cfg0.slots t 9)) fullShare (out10 m c t) := by
  unfold Dat.leavesExact; rw [liveAt0_9 t h, after0_9]

theorem leaves0_10 (c : Dev nD) (t : Fin cfg0.N) (h : 7 ≤ t.val) : (dats m 0 c).leavesExact 10 t = owns (c : Thread nD τ) (win0_10.stage (cfg0.slots t 10)) fullShare (out11 m c t) := by
  unfold Dat.leavesExact; rw [liveAt0_10 t h, after0_10]

theorem leaves0_11 (c : Dev nD) (t : Fin cfg0.N) (h : 7 ≤ t.val) : (dats m 0 c).leavesExact 11 t = owns (c : Thread nD τ) (win0_11.stage (cfg0.slots t 11)) fullShare (out12 m c t) := by
  unfold Dat.leavesExact; rw [liveAt0_11 t h, after0_11]

theorem leaves0_12 (c : Dev nD) (t : Fin cfg0.N) (h : 7 ≤ t.val) : (dats m 0 c).leavesExact 12 t = owns (c : Thread nD τ) (win0_12.stage (cfg0.slots t 12)) fullShare (out13 m c t) := by
  unfold Dat.leavesExact; rw [liveAt0_12 t h, after0_12]

theorem W_eq (c : Dev nD) (t : Fin cfg0.N) (h : t.val < 7) (y : S7x576x1024.Idx) (hy : (y 0).val = t.val) :
    wAll (iblk m c 2 t) (iblk m c 3 t) y = Wfull m c y := by
  obtain ⟨n, hn⟩ := t
  simp only at hy h
  subst hy
  rfl

set_option maxHeartbeats 4000000 in
theorem sound_bodyA (c : Dev nD) (t : Fin cfg0.N) (hz : t.val = 0) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [Dat.leavesExact_idle (dats m 0 c) 9 t (idleAt0_9 t (by omega)) (noFlush0_9 t (by omega))]
  rw [Dat.leavesExact_idle (dats m 0 c) 10 t (idleAt0_10 t (by omega)) (noFlush0_10 t (by omega))]
  rw [Dat.leavesExact_idle (dats m 0 c) 11 t (idleAt0_11 t (by omega)) (noFlush0_11 t (by omega))]
  rw [Dat.leavesExact_idle (dats m 0 c) 12 t (idleAt0_12 t (by omega)) (noFlush0_12 t (by omega))]
  rw [PhiS_castSucc m c t, PhiS_zero m c _ _ hz, PhiA0_eq]
  have hX : XS m c = xsv (iblk m c 1 t) := by unfold XS; rw [show t = pt 0 (by decide) from Fin.ext hz]
  have hC : Cn m c (t.val + 1) = k0_pay4 (k0_pay1 (F := F)) (xwBlk (grid0.coords t 0).val (xsv (iblk m c 1 t)) (iblk m c 0 t)) (wRows (iblk m c 2 t) (iblk m c 3 t) (grid0.coords t 0).val (cond2_lt (grid0.coords t) ((hcond2 t).mpr (by omega)))) := by
    rw [Cn_at m c t (by omega) (grid0.coords t 0).val (cond2_lt (grid0.coords t) ((hcond2 t).mpr (by omega))) (coords0 t), ← hX]
    rw [show Cn m c t.val = k0_pay1 from (congrArg (Cn m c) hz).trans rfl]
  rw [hX, hC]
  iintro ⟨⟨⟨HS0, HS1, ⟨%w, HS2⟩, HS3, HS4⟩, Hg⟩, Ho, ⟨%d0, D0⟩, ⟨%d1, D1⟩, ⟨%d2, D2⟩, ⟨%d3, D3⟩, ⟨%d4, D4⟩, ⟨%d5, D5⟩, ⟨%d6, D6⟩, ⟨%d7, D7⟩, ⟨%d8, D8⟩, ⟨%d9, D9⟩, ⟨%d10, D10⟩, ⟨%d11, D11⟩, ⟨%d12, D12⟩⟩
  iapply (stepA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond1 t).mpr hz) ((hcond2 t).mpr (by omega)) (fun h0 => absurd ((hcond3 t).mp h0) (by omega)) (iblk m c 0 t) (iblk m c 1 t) (iblk m c 2 t) (iblk m c 3 t) w Set.univ _)
  isplitl [D0]; · iexact D0
  isplitl [D1]; · iexact D1
  isplitl [D2]; · iexact D2
  isplitl [D3]; · iexact D3
  isplitl [HS0]; · iexact HS0
  isplitl [HS1]; · iexact HS1
  isplitl [HS2]; · iexact HS2
  isplitl [HS3]; · iexact HS3
  iintro ⟨D0, D1, D2, D3, HS0, HS1, ⟨%w2, %hw2, HS2⟩, HS3⟩
  isplitl [HS0 HS1 HS2 HS3 HS4 Hg]
  · iexists _; isplitr
    swap
    · isplitl [HS0]; · iexact HS0
      isplitl [HS1]; · iexact HS1
      isplitl [HS2]; · iexact HS2
      isplitl [HS3]; · iexact HS3
      isplitl [HS4]; · iexact HS4
      iexact Hg
    ipureintro
    intro y hy
    rw [hw2 y, if_pos (by rw [coords0]; omega)]
    exact W_eq m c t (by omega) y (by omega)
  isplitl [Ho]; · iexact Ho
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexists _; iexact D9
  isplitl [D10]; · iexists _; iexact D10
  isplitl [D11]; · iexists _; iexact D11
  iexists _; iexact D12

set_option maxHeartbeats 4000000 in
theorem sound_bodyB (c : Dev nD) (t : Fin cfg0.N) (hz : t.val ≠ 0) (h7 : t.val < 7) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [Dat.leavesExact_idle (dats m 0 c) 9 t (idleAt0_9 t (by omega)) (noFlush0_9 t (by omega))]
  rw [Dat.leavesExact_idle (dats m 0 c) 10 t (idleAt0_10 t (by omega)) (noFlush0_10 t (by omega))]
  rw [Dat.leavesExact_idle (dats m 0 c) 11 t (idleAt0_11 t (by omega)) (noFlush0_11 t (by omega))]
  rw [Dat.leavesExact_idle (dats m 0 c) 12 t (idleAt0_12 t (by omega)) (noFlush0_12 t (by omega))]
  rw [PhiS_castSucc m c t, PhiS_pos m c _ _ hz]
  have hC : Cn m c (t.val + 1) = k0_pay4 (Cn m c t.val) (xwBlk (grid0.coords t 0).val (XS m c) (iblk m c 0 t)) (wRows (iblk m c 2 t) (iblk m c 3 t) (grid0.coords t 0).val (cond2_lt (grid0.coords t) ((hcond2 t).mpr (by omega)))) :=
    Cn_at m c t (by omega) (grid0.coords t 0).val (cond2_lt (grid0.coords t) ((hcond2 t).mpr (by omega))) (coords0 t)
  rw [hC]
  iintro ⟨⟨%w, %hw, HS0, HS1, HS2, HS3, HS4, Hg⟩, Ho, ⟨%d0, D0⟩, ⟨%d1, D1⟩, ⟨%d2, D2⟩, ⟨%d3, D3⟩, ⟨%d4, D4⟩, ⟨%d5, D5⟩, ⟨%d6, D6⟩, ⟨%d7, D7⟩, ⟨%d8, D8⟩, ⟨%d9, D9⟩, ⟨%d10, D10⟩, ⟨%d11, D11⟩, ⟨%d12, D12⟩⟩
  iapply (stepB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) ((hcond2 t).mpr (by omega)) (fun h0 => absurd ((hcond3 t).mp h0) (by omega)) (iblk m c 0 t) (iblk m c 2 t) (iblk m c 3 t) (XS m c) w (Cn m c t.val) Set.univ _)
  isplitl [D0]; · iexact D0
  isplitl [D2]; · iexact D2
  isplitl [D3]; · iexact D3
  isplitl [HS0]; · iexact HS0
  isplitl [HS1]; · iexact HS1
  isplitl [HS2]; · iexact HS2
  isplitl [HS3]; · iexact HS3
  iintro ⟨D0, D2, D3, HS0, HS1, ⟨%w2, %hw2, HS2⟩, HS3⟩
  isplitl [HS0 HS1 HS2 HS3 HS4 Hg]
  · iexists _; isplitr
    swap
    · isplitl [HS0]; · iexact HS0
      isplitl [HS1]; · iexact HS1
      isplitl [HS2]; · iexact HS2
      isplitl [HS3]; · iexact HS3
      isplitl [HS4]; · iexact HS4
      iexact Hg
    ipureintro
    intro y hy
    rw [hw2 y]
    split
    · rename_i he
      rw [coords0] at he
      exact W_eq m c t h7 y he
    · rename_i he
      rw [coords0] at he
      exact hw y (by omega)
  isplitl [Ho]; · iexact Ho
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexists _; iexact D9
  isplitl [D10]; · iexists _; iexact D10
  isplitl [D11]; · iexists _; iexact D11
  iexists _; iexact D12

set_option maxHeartbeats 4000000 in
theorem sound_bodyC (c : Dev nD) (t : Fin cfg0.N) (h : 7 ≤ t.val) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [leaves0_9 m c t h, leaves0_10 m c t h, leaves0_11 m c t h, leaves0_12 m c t h]
  rw [PhiS_castSucc m c t, PhiS_pos m c _ _ (by omega), Cn_const m c t.val h, Cn_const m c (t.val + 1) (by omega)]
  rw [show out10 m c t = View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).1 from dif_pos h]
  rw [show out11 m c t = View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.1 from dif_pos h]
  rw [show out12 m c t = View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.2.1 from dif_pos h]
  rw [show out13 m c t = View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.2.2.1 from dif_pos h]
  iintro ⟨⟨%w, %hw, HS0, HS1, HS2, HS3, HS4, Hg⟩, Ho, ⟨%d0, D0⟩, ⟨%d1, D1⟩, ⟨%d2, D2⟩, ⟨%d3, D3⟩, ⟨%d4, D4⟩, ⟨%d5, D5⟩, ⟨%d6, D6⟩, ⟨%d7, D7⟩, ⟨%d8, D8⟩, ⟨%d9, D9⟩, ⟨%d10, D10⟩, ⟨%d11, D11⟩, ⟨%d12, D12⟩⟩
  obtain rfl : w = Wfull m c := funext fun y => hw y (by have := (y 0).isLt; exact lt_of_lt_of_le this h)
  iapply (stepC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7) Set.univ _)
  isplitl [D4]; · iexact D4
  isplitl [D5]; · iexact D5
  isplitl [D6]; · iexact D6
  isplitl [D7]; · iexact D7
  isplitl [D8]; · iexact D8
  isplitl [D9]; · iexists _; iexact D9
  isplitl [D10]; · iexists _; iexact D10
  isplitl [D11]; · iexists _; iexact D11
  isplitl [D12]; · iexists _; iexact D12
  isplitl [HS2]; · iexact HS2
  isplitl [HS3]; · iexact HS3
  isplitl [HS4]; · iexact HS4
  iintro ⟨D4, D5, D6, D7, D8, D9, D10, D11, D12, HS2, HS3, HS4⟩
  isplitl [HS0 HS1 HS2 HS3 HS4 Hg]
  · iexists _; isplitr
    swap
    · isplitl [HS0]; · iexact HS0
      isplitl [HS1]; · iexact HS1
      isplitl [HS2]; · iexact HS2
      isplitl [HS3]; · iexact HS3
      isplitl [HS4]; · iexact HS4
      iexact Hg
    ipureintro
    intro y _; rfl
  isplitl [Ho]; · iexact Ho
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  iexact D12

theorem sound_body (c : Dev nD) (t : Fin cfg0.N) :
    bodyPre m c t ⊢ wp frame (wpE (defs₀ (F := F)) Variants.none c none) Set.univ (bodyAt0 t) (fun _ => bodyPost m c t) := by
  by_cases h : 7 ≤ t.val
  · exact sound_bodyC m c t h
  · by_cases hz : t.val = 0
    · exact sound_bodyA m c t hz
    · exact sound_bodyB m c t hz (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨%w, %hw, HS0, HS1, HS2, HS3, HS4, Hg⟩
  isplitl [HS0 HS1 HS2 HS3 HS4]
  · isplitl [HS0]; · iexists _; iexact HS0
    isplitl [HS1]; · iexact HS1
    isplitl [HS2]; · iexists _; iexact HS2
    isplitl [HS3]; · iexists _; iexact HS3
    iexact HS4
  iexact Hg

theorem hout (c : Dev nD) : (dats m 0 c).Φ (Fin.last cfg0.N) ⊢ Pipeline.ΦA spec0 c :=
  Phi_out m c _ (by rw [Fin.val_last]; have : cfg0.N = 13 := N_0; omega)

set_option backward.isDefEq.respectTransparency.types false in
set_option maxHeartbeats 800000 in
/-- The launch: every array ends as the pipeline's data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.Ideal.Cond.lean ====
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Claim

/-! The conditions of the body's three conditionals, in closed form over the 13 grid points. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional (it fills the accumulator with zeros and stages the token scales). -/
abbrev cond1 (i : grid0.Coords) : Prop := (Scalar.cmpi .ne (Scalar.extui (Scalar.cmpi .eq (BitVec.ofNat 32 (i 0).val) 0#32)) 0#32) = 1#1
/-- It holds at the first point only. -/
theorem hcond1 : ∀ t : Fin cfg0.N, cond1 (grid0.coords t) ↔ t.val = 0 :=
  (by decide +kernel : ∀ t : Fin grid0.N, cond1 (grid0.coords t) ↔ t.val = 0)
/-- The condition of the second conditional (dequantise one block and accumulate the projection). -/
abbrev cond2 (i : grid0.Coords) : Prop := k0_cond2 i = 1#1
/-- It holds at the first seven points. -/
theorem hcond2 : ∀ t : Fin cfg0.N, cond2 (grid0.coords t) ↔ t.val < 7 :=
  (by decide +kernel : ∀ t : Fin grid0.N, cond2 (grid0.coords t) ↔ t.val < 7)
/-- The condition of the third conditional (the backward step of one sequence). -/
abbrev cond3 (i : grid0.Coords) : Prop := k0_cond3 i = 1#1
/-- It holds at the last six points. -/
theorem hcond3 : ∀ t : Fin cfg0.N, cond3 (grid0.coords t) ↔ 7 ≤ t.val :=
  (by decide +kernel : ∀ t : Fin grid0.N, cond3 (grid0.coords t) ↔ 7 ≤ t.val)

end Cert.KernelIdeal.Run

end
-- ==== Proof.Ideal.RunA.lean ====
module

public import proofs.«01_k».proof.Proof.Ideal.Cond

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the first point. -/
noncomputable def runA (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) :
    Σ' (L14 : List (View.Piece (Elt F) S1536x128 .bf16)), Σ' (L15 : List (View.Piece (Elt F) S1536x1024 .bf16)), Σ' (L16 : List (View.Piece (Elt F) S7x576x1024 .bf16)), { L17 : List (View.Piece (Elt F) S1536x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg14 fullShare d) ∗ (∃ d, owns (c : Thread nD τ) arg15 fullShare d) ∗ owns (c : Thread nD τ) arg16 fullShare w ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (arg16.view.loc (c : Thread nD τ) ↦[arg16.view.set]{fullShare} arg16.view.writes (Elt F) (harg16.unread w) L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_mla_kv_bwd_eq_skeleton]; unfold cc0_mla_kv_bwd_skel
    unfold owns
    iintro ⟨⟨%f1, %hf1, H1⟩, ⟨%f2, %hf2, H2⟩, ⟨%f3, %hf3, H3⟩, ⟨%f4, %hf4, H4⟩, ⟨%d14, %f14, -, H14⟩, ⟨%d15, %f15, -, H15⟩, ⟨%f16, %hf16, H16⟩, ⟨%d17, %f17, -, H17⟩, Hk⟩
    obtain rfl := harg1.eq_unread hf1; obtain rfl := harg2.eq_unread hf2; obtain rfl := harg3.eq_unread hf3; obtain rfl := harg4.eq_unread hf4; obtain rfl := harg16.eq_unread hf16
    sl_exec (disch := first | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H14]
    · iexists _; iexact H14
    isplitl [H15]
    · iexists _; iexact H15
    isplitl [H16]
    · iexact H16
    iexists _; iexact H17

end Cert.KernelIdeal.Run

end
-- ==== Proof.Ideal.Tiles.lean ====
module

public import proofs.«01_k».proof.Proof.Ideal.Cond
public import Idealize.ShloMosaic.Lib.Pointwise
public import Idealize.ShloMosaic.Lib.Pipeline.Value
public import Idealize.ShloMosaic.Lib.Pipeline.ReadBack

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One entry of the dequantised weight: the fp8 word widened, times its tile's scale rounded to bf16. -/
def wAll (x2 : Vec F S576x1024 .fp8e4m3) (x3 : Vec F S5x56 .f32) (y : S7x576x1024.Idx) : F .bf16 :=
  FloatOps.mulf (FloatOps.extf .bf16 bitsLt_fp8e4m3_bf16 (x2 (ix2 ⟨(y 1).val, (y 1).isLt⟩ ⟨(y 2).val, (y 2).isLt⟩)))
    (Scalar.truncf .bf16 bitsLt_bf16_f32 (x3 (ix2 (n0 := 5) (n1 := 56) ⟨(y 1).val / 128, by have h : (y 1).val < 576 := (y 1).isLt; omega⟩
      ⟨8 * (y 0).val + (y 2).val / 128, by have h : (y 2).val < 1024 := (y 2).isLt; have h0 : (y 0).val < 7 := (y 0).isLt; omega⟩)))

/-- One block of the dequantised input: the fp8 word widened, times the staged scale of its token and column group. -/
def xwBlk (n : ℕ) (xs : Vec F S1536x128 .bf16) (x0 : Vec F S6x256x1024 .fp8e4m3) : Vec F S1536x1024 .bf16 := fun y =>
  FloatOps.mulf (FloatOps.extf .bf16 bitsLt_fp8e4m3_bf16 (x0 (ix3 (n0 := 6) (n1 := 256) (n2 := 1024) ⟨(y 0).val / 256, by have h : (y 0).val < 1536 := (y 0).isLt; omega⟩ ⟨(y 0).val % 256, Nat.mod_lt _ (by decide)⟩ ⟨(y 1).val, (y 1).isLt⟩)))
    (FloatOps.truncf .bf16 bitsLt_bf16_f32 (FloatOps.extf .f32 bitsLt_bf16_f32 (xs (ix2 (n0 := 1536) (n1 := 128) ⟨(y 0).val, (y 0).isLt⟩
      ⟨(8 * n + (y 1).val / 128) % 128, Nat.mod_lt _ (by decide)⟩))))

theorem off_i (i : grid0.Coords) : BitVec.toNat (Scalar.indexCast (BitVec.ofNat 32 (i 0).val)) = (i 0).val := by
  have h : (i 0).val < 13 := (i 0).isLt
  simp [Scalar.indexCast]; omega

theorem off_col (i : grid0.Coords) (j : ℕ) (hj : j < 8) :
    BitVec.toNat (Scalar.indexCast (Scalar.addi (Scalar.muli (BitVec.ofNat 32 (i 0).val) 8#32) (BitVec.ofNat 32 j))) = 8 * (i 0).val + j := by
  have h : (i 0).val < 13 := (i 0).isLt
  simp [Scalar.indexCast, Scalar.addi, Scalar.muli, IntOp.addi, IntOp.muli]; omega

theorem ld_whole {κ : Kind} {sp : Space} {s : Shape} {e : EltTy} (m : Memref sig κ sp s e) (hm : m.IsWhole) (X : Vec F s e) (r : LoadRect s) (x : r.shape.Idx) :
    View.readAt (Elt F) m.view r (hm.unread X) x = X (r.idx x) := by
  rw [View.readAt_apply, hm.read_unread]

theorem wtile128 {arg3 : Memref sig .tc .vmem S576x1024 .fp8e4m3} (harg3 : arg3.IsWhole) {arg4 : Memref sig .tc .smem S5x56 .f32} (harg4 : arg4.IsWhole)
    (x2 : Vec F S576x1024 .fp8e4m3) (x3 : Vec F S5x56 .f32) (k r j : ℕ) {off : Fin 3 → ℕ} (hoff : off = ![k, 128 * r, 128 * j])
    {o3 : Fin 2 → ℕ} {inb3} (ho3 : o3 = ![128 * r, 128 * j]) {o4 : Fin 2 → ℕ} {inb4} (ho4 : o4 = ![r, 8 * k + j]) {h1} (x : S1x128x128.Idx) {y : S7x576x1024.Idx} (hy : ∀ a, (y a).val = off a + (x a).val) :
    k0_pay9 (View.readAt (Elt F) arg4.view (Rect.unit (s := S5x56) o4 S1x1.size inb4).toLoadRect (harg4.unread x3) (Shape.Idx.first h1))
      (View.readAt (Elt F) arg3.view (Rect.unit (s := S576x1024) o3 S128x128.size inb3).toLoadRect (harg3.unread x2)) x
    = wAll x2 x3 y := by
  subst hoff ho3 ho4
  have y0 : (y 0).val = k + (x 0).val := hy 0
  have y1 : (y 1).val = 128 * r + (x 1).val := hy 1
  have y2 : (y 2).val = 128 * j + (x 2).val := hy 2
  unfold k0_pay9 wAll
  simp only [ld_whole]
  pointwise
  rw [ld_whole]
  have b1 : (x 1).val < 128 := (x 1).isLt
  have b2 : (x 2).val < 128 := (x 2).isLt
  have b0 : (x 0).val < 1 := (x 0).isLt
  refine congrArg₂ FloatOps.mulf (congrArg _ (congrArg x2 (funext fun a => Fin.ext ?_))) (congrArg (Scalar.truncf FTy.bf16 bitsLt_bf16_f32) (congrArg x3 (funext fun a => Fin.ext ?_)))
  · fin_cases a <;> simp [y1, y2]
  · fin_cases a <;> simp [y0, y1, y2] <;> omega

theorem wtile64 {arg3 : Memref sig .tc .vmem S576x1024 .fp8e4m3} (harg3 : arg3.IsWhole) {arg4 : Memref sig .tc .smem S5x56 .f32} (harg4 : arg4.IsWhole)
    (x2 : Vec F S576x1024 .fp8e4m3) (x3 : Vec F S5x56 .f32) (k r j : ℕ) {off : Fin 3 → ℕ} (hoff : off = ![k, 128 * r, 128 * j])
    {o3 : Fin 2 → ℕ} {inb3} (ho3 : o3 = ![128 * r, 128 * j]) {o4 : Fin 2 → ℕ} {inb4} (ho4 : o4 = ![r, 8 * k + j]) {h1} (x : S1x64x128.Idx) {y : S7x576x1024.Idx} (hy : ∀ a, (y a).val = off a + (x a).val) :
    k0_pay13 (View.readAt (Elt F) arg4.view (Rect.unit (s := S5x56) o4 S1x1.size inb4).toLoadRect (harg4.unread x3) (Shape.Idx.first h1))
      (View.readAt (Elt F) arg3.view (Rect.unit (s := S576x1024) o3 S64x128.size inb3).toLoadRect (harg3.unread x2)) x
    = wAll x2 x3 y := by
  subst hoff ho3 ho4
  have y0 : (y 0).val = k + (x 0).val := hy 0
  have y1 : (y 1).val = 128 * r + (x 1).val := hy 1
  have y2 : (y 2).val = 128 * j + (x 2).val := hy 2
  unfold k0_pay13 wAll
  simp only [ld_whole]
  pointwise
  rw [ld_whole]
  have b1 : (x 1).val < 64 := (x 1).isLt
  have b2 : (x 2).val < 128 := (x 2).isLt
  have b0 : (x 0).val < 1 := (x 0).isLt
  refine congrArg₂ FloatOps.mulf (congrArg _ (congrArg x2 (funext fun a => Fin.ext ?_))) (congrArg (Scalar.truncf FTy.bf16 bitsLt_bf16_f32) (congrArg x3 (funext fun a => Fin.ext ?_)))
  · fin_cases a <;> simp [y1, y2]
  · fin_cases a <;> simp [y0, y1, y2] <;> omega

/-- One column group of the dequantised input, as the kernel writes it: group `j` of block `a0`. -/
noncomputable def xPay (a0 j : BitVec 32) (v9 : Vec F S1536x128 .bf16) (v23 : Vec F S6x256x128 .fp8e4m3) : FVec F S1536x128 .bf16 :=
  have v13 : IVec S1536x128 32 := broadcast S1536x128 (Scalar.addi (Scalar.muli a0 8#32) j)
  have v14 : IVec S1536x128 32 := broadcast S1536x128 0#32
  have v15 : IVec S1536x128 1 := cmpi .slt v13 v14
  have v16 : IVec S1536x128 32 := broadcast S1536x128 128#32
  have v17 : IVec S1536x128 32 := addi v13 v16
  have v18 : IVec S1536x128 32 := select v15 v17 v13
  have v19 : IVec S1536x128x1 32 := shapeCast S1536x128x1 v18 shapeCasts_S1536x128_S1536x128x1
  have v20 : IVec S1536x128 32 := shapeCast S1536x128 v19 shapeCasts_S1536x128x1_S1536x128
  have v21 : FVec F S1536x128 .f32 := dynamicGather 1 (k0_pay7 v9) v20
  have v22 : FVec F S1536x128 .bf16 := truncf .bf16 v21 bitsLt_bf16_f32
  have v24 : FVec F S1536x128 .fp8e4m3 := shapeCast S1536x128 v23 shapeCasts_S6x256x128_S1536x128
  have v25 : FVec F S1536x128 .bf16 := extf .bf16 v24 bitsLt_fp8e4m3_bf16
  have v26 : FVec F S1536x128 .bf16 := mulf v25 v22
  have v29 : FVec F S1536x128 .bf16 := shapeCast S1536x128 v26 shapeCasts_S1536x128_S1536x128
  v29

theorem xcol (i : grid0.Coords) (j : ℕ) (hj : j < 8) (hi : (i 0).val < 7) :
    Scalar.select (IntOp.cmpi .slt (Scalar.addi (Scalar.muli (BitVec.ofNat 32 (i 0).val) 8#32) (BitVec.ofNat 32 j)) 0#32)
      (IntOp.addi (Scalar.addi (Scalar.muli (BitVec.ofNat 32 (i 0).val) 8#32) (BitVec.ofNat 32 j)) 128#32)
      (Scalar.addi (Scalar.muli (BitVec.ofNat 32 (i 0).val) 8#32) (BitVec.ofNat 32 j))
    = BitVec.ofNat 32 (8 * (i 0).val + j) := by
  revert hi; generalize (i 0).val = n; intro hi
  interval_cases n <;> interval_cases j <;> decide

theorem xtile {arg1 : Memref sig .tc .vmem S6x256x1024 .fp8e4m3} (harg1 : arg1.IsWhole) (i : grid0.Coords) (hi : (i 0).val < 7) (xs : Vec F S1536x128 .bf16) {v9 : Vec F S1536x128 .bf16} (hv : v9 = xs)
    (x0 : Vec F S6x256x1024 .fp8e4m3) (j : ℕ) (hj : j < 8) {off : Fin 2 → ℕ} (hoff : off = ![0, 128 * j])
    {o1 : Fin 3 → ℕ} {inb1} (ho1 : o1 = ![0, 0, 128 * j]) (x : S1536x128.Idx) {y : S1536x1024.Idx} (hy : ∀ a, (y a).val = off a + (x a).val) :
    xPay (BitVec.ofNat 32 (i 0).val) (BitVec.ofNat 32 j) v9
      (View.readAt (Elt F) arg1.view (Rect.unit (s := S6x256x1024) o1 S6x256x128.size inb1).toLoadRect (harg1.unread x0)) x
    = xwBlk (i 0).val xs x0 y := by
  subst hoff ho1 hv
  have y0 : (y 0).val = (x 0).val := by have := hy 0; simpa using this
  have y1 : (y 1).val = 128 * j + (x 1).val := hy 1
  have b1 : (x 1).val < 128 := (x 1).isLt
  have b0 : (x 0).val < 1536 := (x 0).isLt
  unfold xPay xwBlk k0_pay7
  pointwise
  rw [ld_whole]
  refine congrArg₂ FloatOps.mulf (congrArg _ (congrArg x0 (funext fun a => Fin.ext ?_))) (congrArg (FloatOps.truncf FTy.bf16 bitsLt_bf16_f32) (congrArg (FloatOps.extf FTy.f32 bitsLt_bf16_f32) (congrArg v9 (funext fun a => Fin.ext ?_))))
  · fin_cases a <;> simp [y0, y1]
  · have e := congrArg (fun b : BitVec 32 => b.toNat % 128) (xcol i j hj hi)
    fin_cases a
    · simp [y0]
    · refine Eq.trans e ?_
      simp [y1]
      omega

theorem exists_mem_tail {α : Type _} {a : α} {L : List α} {P : α → Prop} (h : ∃ p ∈ L, P p) : ∃ p ∈ a :: L, P p := by
  obtain ⟨p, hp, h⟩ := h
  exact ⟨p, List.mem_cons_of_mem _ hp, h⟩

/-- The same past five elements at once. -/
theorem exists_mem_tail5 {α : Type _} {a b c d e : α} {L : List α} {P : α → Prop} (h : ∃ p ∈ L, P p) :
    ∃ p ∈ a :: b :: c :: d :: e :: L, P p :=
  exists_mem_tail (exists_mem_tail (exists_mem_tail (exists_mem_tail (exists_mem_tail h))))

theorem unitMem {s : Shape} (ρ : Rect s) (hst : ∀ a, ρ.stride a = 1) (y : s.Idx) : y ∈ ρ.set ↔ ∀ a, ρ.off a ≤ y a ∧ (y a).val < ρ.off a + ρ.size a := by
  simp only [LoadRect.mem_set]
  refine forall_congr' fun a => ?_
  have h1 := hst a
  simp only [h1, Nat.one_mul]
  exact ⟨fun ⟨j, hj, e⟩ => by omega, fun ⟨hlo, hhi⟩ => ⟨(y a).val - ρ.off a, by omega, by omega⟩⟩

theorem wmem (i : grid0.Coords) (y : S7x576x1024.Idx) (hy : (y 0).val = (i 0).val) {ρ : Rect S7x576x1024} {r n j m : ℕ}
    (hst : ∀ a, ρ.stride a = 1) (hs : ρ.size = ![1, n, m]) (h : r ≤ (y 1).val ∧ (y 1).val < r + n ∧ j ≤ (y 2).val ∧ (y 2).val < j + m) (hoff : ρ.off = ![(i 0).val, r, j]) :
    y ∈ ρ.set := by
  rw [unitMem ρ hst, hoff, hs]
  intro a
  fin_cases a
  · exact ⟨by simp [hy], by simp [hy]⟩
  · exact ⟨h.1, h.2.1⟩
  · exact ⟨h.2.2.1, h.2.2.2⟩

theorem wnot (i : grid0.Coords) (y : S7x576x1024.Idx) (hy : (y 0).val ≠ (i 0).val) {ρ : Rect S7x576x1024} {r j : ℕ}
    (hst : ∀ a, ρ.stride a = 1) (hs : ρ.size (0 : Fin 3) = 1) (hoff : ρ.off = ![(i 0).val, r, j]) :
    y ∉ ρ.set := by
  rw [unitMem ρ hst, hoff]
  intro h
  have h0 := h (0 : Fin 3)
  rw [hs] at h0
  have h1 : (i 0).val ≤ (y 0).val ∧ (y 0).val < (i 0).val + 1 := h0
  omega

theorem cond2_lt : ∀ i : grid0.Coords, cond2 i → (i 0).val < 7 := by decide +kernel

theorem whole2 {d : Fin 2 → ℕ} (y : (⟨2, d⟩ : Shape).Idx) {inb : ∀ a, ![0, 0] a + (⟨2, d⟩ : Shape).size a ≤ (⟨2, d⟩ : Shape).size a} :
    y ∈ (Rect.unit (s := ⟨2, d⟩) ![0, 0] (⟨2, d⟩ : Shape).size inb).set := by
  rw [Rect.mem_set_unit]
  intro a
  have h := (y a).isLt
  fin_cases a
  · exact ⟨Nat.zero_le _, by simpa using h⟩
  · exact ⟨Nat.zero_le _, by simpa using h⟩

/-- The projection's rows of one block of the dequantised weight. -/
def wRows (x2 : Vec F S576x1024 .fp8e4m3) (x3 : Vec F S5x56 .f32) (n : ℕ) (hn : n < 7) : Vec F S1x512x1024 .bf16 := fun y =>
  wAll x2 x3 (ix3 (n0 := 7) (n1 := 576) (n2 := 1024) ⟨n, hn⟩ ⟨(y 1).val, lt_trans (y 1).isLt (by decide)⟩ ⟨(y 2).val, (y 2).isLt⟩)

/-- The staged token scales: the scales rounded to bf16 in the first 56 lanes, zeros in the others. -/
def xsv (x1 : Vec F S6x256x56 .f32) : Vec F S1536x128 .bf16 :=
  View.canon (Val := Elt F) [⟨Rect.unit ![0, 0] S1536x56.size inb_S1536x128_S1536x56_0_0, k0_pay3 x1⟩, ⟨Rect.unit ![0, 0] S1536x128.size inb_S1536x128_S1536x128_0_0, k0_pay2⟩]
end Cert.KernelIdeal.Run

end
-- ==== Proof.Ideal.WeightA.lean ====
module

public import proofs.«01_k».proof.Proof.Ideal.RunA
public import proofs.«01_k».proof.Proof.Ideal.Tiles

@[expose] public section

set_option maxRecDepth 16384
set_option maxHeartbeats 4000000
set_option pp.maxSteps 150

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the point writes into the weight scratch: every piece is a tile of the dequantised weight. -/
theorem runA_wpieces (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) :
    ∀ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1, ∀ x : p.1.shape.Idx, p.2 x = wAll x2 x3 (p.1.emb x) := by
  simp only [runA]
  sl_unfold_words
  refine List.forall_mem_cons.2 ⟨fun x => wtile64 harg3 harg4 x2 x3 (i 0).val 4 7 (by exact congrArg (fun n => ![n, 512, 896]) (off_i i)) (by rfl) (by exact congrArg (fun n => ![4, n]) (off_col i 7 (by decide))) x (fun a => by rw [Rect.emb_apply]; exact congrArg (_ + ·) (Nat.one_mul _)), ?_⟩
  refine List.forall_mem_cons.2 ⟨fun x => wtile128 harg3 harg4 x2 x3 (i 0).val 3 7 (by exact congrArg (fun n => ![n, 384, 896]) (off_i i)) (by rfl) (by exact congrArg (fun n => ![3, n]) (off_col i 7 (by decide))) x (fun a => by rw [Rect.emb_apply]; exact congrArg (_ + ·) (Nat.one_mul _)), ?_⟩
  refine List.forall_mem_cons.2 ⟨fun x => wtile128 harg3 harg4 x2 x3 (i 0).val 2 7 (by exact congrArg (fun n => ![n, 256, 896]) (off_i i)) (by rfl) (by exact congrArg (fun n => ![2, n]) (off_col i 7 (by decide))) x (fun a => by rw [Rect.emb_apply]; exact congrArg (_ + ·) (Nat.one_mul _)), ?_⟩
  refine List.forall_mem_cons.2 ⟨fun x => wtile128 harg3 harg4 x2 x3 (i 0).val 1 7 (by exact congrArg (fun n => ![n, 128, 896]) (off_i i)) (by rfl) (by exact congrArg (fun n => ![1, n]) (off_col i 7 (by decide))) x (fun a => by rw [Rect.emb_apply]; exact congrArg (_ + ·) (Nat.one_mul _)), ?_⟩
  refine List.forall_mem_cons.2 ⟨fun x => wtile128 harg3 harg4 x2 x3 (i 0).val 0 7 (by exact congrArg (fun n => ![n, 0, 896]) (off_i i)) (by rfl) (by exact congrArg (fun n => ![0, n]) (off_col i 7 (by decide))) x (fun a => by rw [Rect.emb_apply]; exact congrArg (_ + ·) (Nat.one_mul _)), ?_⟩
  refine List.forall_mem_cons.2 ⟨fun x => wtile64 harg3 harg4 x2 x3 (i 0).val 4 6 (by exact congrArg (fun n => ![n, 512, 768]) (off_i i)) (by rfl) (by exact congrArg (fun n => ![4, n]) (off_col i 6 (by decide))) x (fun a => by rw [Rect.emb_apply]; exact congrArg (_ + ·) (Nat.one_mul _)), ?_⟩
  refine List.forall_mem_cons.2 ⟨fun x => wtile128 harg3 harg4 x2 x3 (i 0).val 3 6 (by exact congrArg (fun n => ![n, 384, 768]) (off_i i)) (by rfl) (by exact congrArg (fun n => ![3, n]) (off_col i 6 (by decide))) x (fun a => by rw [Rect.emb_apply]; exact congrArg (_ + ·) (Nat.one_mul _)), ?_⟩
  refine List.forall_mem_cons.2 ⟨fun x => wtile128 harg3 harg4 x2 x3 (i 0).val 2 6 (by exact congrArg (fun n => ![n, 256, 768]) (off_i i)) (by rfl) (by exact congrArg (fun n => ![2, n]) (off_col i 6 (by decide))) x (fun a => by rw [Rect.emb_apply]; exact congrArg (_ + ·) (Nat.one_mul _)), ?_⟩
  refine List.forall_mem_cons.2 ⟨fun x => wtile128 harg3 harg4 x2 x3 (i 0).val 1 6 (by exact congrArg (fun n => ![n, 128, 768]) (off_i i)) (by rfl) (by exact congrArg (fun n => ![1, n]) (off_col i 6 (by decide))) x (fun a => by rw [Rect.emb_apply]; exact congrArg (_ + ·) (Nat.one_mul _)), ?_⟩
  refine List.forall_mem_cons.2 ⟨fun x => wtile128 harg3 harg4 x2 x3 (i 0).val 0 6 (by exact congrArg (fun n => ![n, 0, 768]) (off_i i)) (by rfl) (by exact congrArg (fun n => ![0, n]) (off_col i 6 (by decide))) x (fun a => by rw [Rect.emb_apply]; exact congrArg (_ + ·) (Nat.one_mul _)), ?_⟩
  refine List.forall_mem_cons.2 ⟨fun x => wtile64 harg3 harg4 x2 x3 (i 0).val 4 5 (by exact congrArg (fun n => ![n, 512, 640]) (off_i i)) (by rfl) (by exact congrArg (fun n => ![4, n]) (off_col i 5 (by decide))) x (fun a => by rw [Rect.emb_apply]; exact congrArg (_ + ·) (Nat.one_mul _)), ?_⟩
  refine List.forall_mem_cons.2 ⟨fun x => wtile128 harg3 harg4 x2 x3 (i 0).val 3 5 (by exact congrArg (fun n => ![n, 384, 640]) (off_i i)) (by rfl) (by exact congrArg (fun n => ![3, n]) (off_col i 5 (by decide))) x (fun a => by rw [Rect.emb_apply]; exact congrArg (_ + ·) (Nat.one_mul _)), ?_⟩
  refine List.forall_mem_cons.2 ⟨fun x => wtile128 harg3 harg4 x2 x3 (i 0).val 2 5 (by exact congrArg (fun n => ![n, 256, 640]) (off_i i)) (by rfl) (by exact congrArg (fun n => ![2, n]) (off_col i 5 (by decide))) x (fun a => by rw [Rect.emb_apply]; exact congrArg (_ + ·) (Nat.one_mul _)), ?_⟩
  refine List.forall_mem_cons.2 ⟨fun x => wtile128 harg3 harg4 x2 x3 (i 0).val 1 5 (by exact congrArg (fun n => ![n, 128, 640]) (off_i i)) (by rfl) (by exact congrArg (fun n => ![1, n]) (off_col i 5 (by decide))) x (fun a => by rw [Rect.emb_apply]; exact congrArg (_ + ·) (Nat.one_mul _)), ?_⟩
  refine List.forall_mem_cons.2 ⟨fun x => wtile128 harg3 harg4 x2 x3 (i 0).val 0 5 (by exact congrArg (fun n => ![n, 0, 640]) (off_i i)) (by rfl) (by exact congrArg (fun n => ![0, n]) (off_col i 5 (by decide))) x (fun a => by rw [Rect.emb_apply]; exact congrArg (_ + ·) (Nat.one_mul _)), ?_⟩
  refine List.forall_mem_cons.2 ⟨fun x => wtile64 harg3 harg4 x2 x3 (i 0).val 4 4 (by exact congrArg (fun n => ![n, 512, 512]) (off_i i)) (by rfl) (by exact congrArg (fun n => ![4, n]) (off_col i 4 (by decide))) x (fun a => by rw [Rect.emb_apply]; exact congrArg (_ + ·) (Nat.one_mul _)), ?_⟩
  refine List.forall_mem_cons.2 ⟨fun x => wtile128 harg3 harg4 x2 x3 (i 0).val 3 4 (by exact congrArg (fun n => ![n, 384, 512]) (off_i i)) (by rfl) (by exact congrArg (fun n => ![3, n]) (off_col i 4 (by decide))) x (fun a => by rw [Rect.emb_apply]; exact congrArg (_ + ·) (Nat.one_mul _)), ?_⟩
  refine List.forall_mem_cons.2 ⟨fun x => wtile128 harg3 harg4 x2 x3 (i 0).val 2 4 (by exact congrArg (fun n => ![n, 256, 512]) (off_i i)) (by rfl) (by exact congrArg (fun n => ![2, n]) (off_col i 4 (by decide))) x (fun a => by rw [Rect.emb_apply]; exact congrArg (_ + ·) (Nat.one_mul _)), ?_⟩
  refine List.forall_mem_cons.2 ⟨fun x => wtile128 harg3 harg4 x2 x3 (i 0).val 1 4 (by exact congrArg (fun n => ![n, 128, 512]) (off_i i)) (by rfl) (by exact congrArg (fun n => ![1, n]) (off_col i 4 (by decide))) x (fun a => by rw [Rect.emb_apply]; exact congrArg (_ + ·) (Nat.one_mul _)), ?_⟩
  refine List.forall_mem_cons.2 ⟨fun x => wtile128 harg3 harg4 x2 x3 (i 0).val 0 4 (by exact congrArg (fun n => ![n, 0, 512]) (off_i i)) (by rfl) (by exact congrArg (fun n => ![0, n]) (off_col i 4 (by decide))) x (fun a => by rw [Rect.emb_apply]; exact congrArg (_ + ·) (Nat.one_mul _)), ?_⟩
  refine List.forall_mem_cons.2 ⟨fun x => wtile64 harg3 harg4 x2 x3 (i 0).val 4 3 (by exact congrArg (fun n => ![n, 512, 384]) (off_i i)) (by rfl) (by exact congrArg (fun n => ![4, n]) (off_col i 3 (by decide))) x (fun a => by rw [Rect.emb_apply]; exact congrArg (_ + ·) (Nat.one_mul _)), ?_⟩
  refine List.forall_mem_cons.2 ⟨fun x => wtile128 harg3 harg4 x2 x3 (i 0).val 3 3 (by exact congrArg (fun n => ![n, 384, 384]) (off_i i)) (by rfl) (by exact congrArg (fun n => ![3, n]) (off_col i 3 (by decide))) x (fun a => by rw [Rect.emb_apply]; exact congrArg (_ + ·) (Nat.one_mul _)), ?_⟩
  refine List.forall_mem_cons.2 ⟨fun x => wtile128 harg3 harg4 x2 x3 (i 0).val 2 3 (by exact congrArg (fun n => ![n, 256, 384]) (off_i i)) (by rfl) (by exact congrArg (fun n => ![2, n]) (off_col i 3 (by decide))) x (fun a => by rw [Rect.emb_apply]; exact congrArg (_ + ·) (Nat.one_mul _)), ?_⟩
  refine List.forall_mem_cons.2 ⟨fun x => wtile128 harg3 harg4 x2 x3 (i 0).val 1 3 (by exact congrArg (fun n => ![n, 128, 384]) (off_i i)) (by rfl) (by exact congrArg (fun n => ![1, n]) (off_col i 3 (by decide))) x (fun a => by rw [Rect.emb_apply]; exact congrArg (_ + ·) (Nat.one_mul _)), ?_⟩
  refine List.forall_mem_cons.2 ⟨fun x => wtile128 harg3 harg4 x2 x3 (i 0).val 0 3 (by exact congrArg (fun n => ![n, 0, 384]) (off_i i)) (by rfl) (by exact congrArg (fun n => ![0, n]) (off_col i 3 (by decide))) x (fun a => by rw [Rect.emb_apply]; exact congrArg (_ + ·) (Nat.one_mul _)), ?_⟩
  refine List.forall_mem_cons.2 ⟨fun x => wtile64 harg3 harg4 x2 x3 (i 0).val 4 2 (by exact congrArg (fun n => ![n, 512, 256]) (off_i i)) (by rfl) (by exact congrArg (fun n => ![4, n]) (off_col i 2 (by decide))) x (fun a => by rw [Rect.emb_apply]; exact congrArg (_ + ·) (Nat.one_mul _)), ?_⟩
  refine List.forall_mem_cons.2 ⟨fun x => wtile128 harg3 harg4 x2 x3 (i 0).val 3 2 (by exact congrArg (fun n => ![n, 384, 256]) (off_i i)) (by rfl) (by exact congrArg (fun n => ![3, n]) (off_col i 2 (by decide))) x (fun a => by rw [Rect.emb_apply]; exact congrArg (_ + ·) (Nat.one_mul _)), ?_⟩
  refine List.forall_mem_cons.2 ⟨fun x => wtile128 harg3 harg4 x2 x3 (i 0).val 2 2 (by exact congrArg (fun n => ![n, 256, 256]) (off_i i)) (by rfl) (by exact congrArg (fun n => ![2, n]) (off_col i 2 (by decide))) x (fun a => by rw [Rect.emb_apply]; exact congrArg (_ + ·) (Nat.one_mul _)), ?_⟩
  refine List.forall_mem_cons.2 ⟨fun x => wtile128 harg3 harg4 x2 x3 (i 0).val 1 2 (by exact congrArg (fun n => ![n, 128, 256]) (off_i i)) (by rfl) (by exact congrArg (fun n => ![1, n]) (off_col i 2 (by decide))) x (fun a => by rw [Rect.emb_apply]; exact congrArg (_ + ·) (Nat.one_mul _)), ?_⟩
  refine List.forall_mem_cons.2 ⟨fun x => wtile128 harg3 harg4 x2 x3 (i 0).val 0 2 (by exact congrArg (fun n => ![n, 0, 256]) (off_i i)) (by rfl) (by exact congrArg (fun n => ![0, n]) (off_col i 2 (by decide))) x (fun a => by rw [Rect.emb_apply]; exact congrArg (_ + ·) (Nat.one_mul _)), ?_⟩
  refine List.forall_mem_cons.2 ⟨fun x => wtile64 harg3 harg4 x2 x3 (i 0).val 4 1 (by exact congrArg (fun n => ![n, 512, 128]) (off_i i)) (by rfl) (by exact congrArg (fun n => ![4, n]) (off_col i 1 (by decide))) x (fun a => by rw [Rect.emb_apply]; exact congrArg (_ + ·) (Nat.one_mul _)), ?_⟩
  refine List.forall_mem_cons.2 ⟨fun x => wtile128 harg3 harg4 x2 x3 (i 0).val 3 1 (by exact congrArg (fun n => ![n, 384, 128]) (off_i i)) (by rfl) (by exact congrArg (fun n => ![3, n]) (off_col i 1 (by decide))) x (fun a => by rw [Rect.emb_apply]; exact congrArg (_ + ·) (Nat.one_mul _)), ?_⟩
  refine List.forall_mem_cons.2 ⟨fun x => wtile128 harg3 harg4 x2 x3 (i 0).val 2 1 (by exact congrArg (fun n => ![n, 256, 128]) (off_i i)) (by rfl) (by exact congrArg (fun n => ![2, n]) (off_col i 1 (by decide))) x (fun a => by rw [Rect.emb_apply]; exact congrArg (_ + ·) (Nat.one_mul _)), ?_⟩
  refine List.forall_mem_cons.2 ⟨fun x => wtile128 harg3 harg4 x2 x3 (i 0).val 1 1 (by exact congrArg (fun n => ![n, 128, 128]) (off_i i)) (by rfl) (by exact congrArg (fun n => ![1, n]) (off_col i 1 (by decide))) x (fun a => by rw [Rect.emb_apply]; exact congrArg (_ + ·) (Nat.one_mul _)), ?_⟩
  refine List.forall_mem_cons.2 ⟨fun x => wtile128 harg3 harg4 x2 x3 (i 0).val 0 1 (by exact congrArg (fun n => ![n, 0, 128]) (off_i i)) (by rfl) (by exact congrArg (fun n => ![0, n]) (off_col i 1 (by decide))) x (fun a => by rw [Rect.emb_apply]; exact congrArg (_ + ·) (Nat.one_mul _)), ?_⟩
  refine List.forall_mem_cons.2 ⟨fun x => wtile64 harg3 harg4 x2 x3 (i 0).val 4 0 (by exact congrArg (fun n => ![n, 512, 0]) (off_i i)) (by rfl) (by exact congrArg (fun n => ![4, n]) (off_col i 0 (by decide))) x (fun a => by rw [Rect.emb_apply]; exact congrArg (_ + ·) (Nat.one_mul _)), ?_⟩
  refine List.forall_mem_cons.2 ⟨fun x => wtile128 harg3 harg4 x2 x3 (i 0).val 3 0 (by exact congrArg (fun n => ![n, 384, 0]) (off_i i)) (by rfl) (by exact congrArg (fun n => ![3, n]) (off_col i 0 (by decide))) x (fun a => by rw [Rect.emb_apply]; exact congrArg (_ + ·) (Nat.one_mul _)), ?_⟩
  refine List.forall_mem_cons.2 ⟨fun x => wtile128 harg3 harg4 x2 x3 (i 0).val 2 0 (by exact congrArg (fun n => ![n, 256, 0]) (off_i i)) (by rfl) (by exact congrArg (fun n => ![2, n]) (off_col i 0 (by decide))) x (fun a => by rw [Rect.emb_apply]; exact congrArg (_ + ·) (Nat.one_mul _)), ?_⟩
  refine List.forall_mem_cons.2 ⟨fun x => wtile128 harg3 harg4 x2 x3 (i 0).val 1 0 (by exact congrArg (fun n => ![n, 128, 0]) (off_i i)) (by rfl) (by exact congrArg (fun n => ![1, n]) (off_col i 0 (by decide))) x (fun a => by rw [Rect.emb_apply]; exact congrArg (_ + ·) (Nat.one_mul _)), ?_⟩
  refine List.forall_mem_cons.2 ⟨fun x => wtile128 harg3 harg4 x2 x3 (i 0).val 0 0 (by exact congrArg (fun n => ![n, 0, 0]) (off_i i)) (by rfl) (by exact congrArg (fun n => ![0, n]) (off_col i 0 (by decide))) x (fun a => by rw [Rect.emb_apply]; exact congrArg (_ + ·) (Nat.one_mul _)), ?_⟩
  exact fun p hp => absurd hp List.not_mem_nil

/-- Every index of the point's own block lies in one of the pieces. -/
theorem runA_wcover (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (y : S7x576x1024.Idx) (hy : (y 0).val = (i 0).val) :
    ∃ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1, y ∈ p.1.set := by
  have b1 : (y 1).val < 576 := (y 1).isLt
  have b2 : (y 2).val < 1024 := (y 2).isLt
  simp only [runA]
  sl_unfold_words
  obtain ⟨j, hj⟩ : ∃ j, j = (y 2).val / 128 := ⟨_, rfl⟩
  obtain ⟨r, hr⟩ : ∃ r, r = (y 1).val / 128 := ⟨_, rfl⟩
  have hj8 : j < 8 := by omega
  have hr5 : r < 5 := by omega
  interval_cases j <;> interval_cases r
  · exact exists_mem_tail5 (exists_mem_tail5 (exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 0) (m := 128) (fun _ => by rfl) (by rfl) (by omega) (by exact congrArg (fun n => ![n, 0, 0]) (off_i i)))⟩)))))))))))
  · exact exists_mem_tail5 (exists_mem_tail5 (exists_mem_tail5 (exists_mem_tail5 (exists_mem_tail5 (exists_mem_tail5 (exists_mem_tail5 (exists_mem_tail (exists_mem_tail (exists_mem_tail (⟨_, List.mem_cons_self, (wmem i y hy (r := 128) (n := 128) (j := 0) (m := 128) (fun _ => by rfl) (by rfl) (by omega) (by exact congrArg (fun n => ![n, 128, 0]) (off_i i)))⟩))))))))))
  · exact exists_mem_tail5 (exists_mem_tail5 (exists_mem_tail5 (exists_mem_tail5 (exists_mem_tail5 (exists_mem_tail5 (exists_mem_tail5 (exists_mem_tail (exists_mem_tail (⟨_, List.mem_cons_self, (wmem i y hy (r := 256) (n := 128) (j := 0) (m := 128) (fun _ => by rfl) (by rfl) (by omega) (by exact congrArg (fun n => ![n, 256, 0]) (off_i i)))⟩)))))))))
  · exact exists_mem_tail5 (exists_mem_tail5 (exists_mem_tail5 (exists_mem_tail5 (exists_mem_tail5 (exists_mem_tail5 (exists_mem_tail5 (exists_mem_tail (⟨_, List.mem_cons_self, (wmem i y hy (r := 384) (n := 128) (j := 0) (m := 128) (fun _ => by rfl) (by rfl) (by omega) (by exact congrArg (fun n => ![n, 384, 0]) (off_i i)))⟩))))))))
  · exact exists_mem_tail5 (exists_mem_tail5 (exists_mem_tail5 (exists_mem_tail5 (exists_mem_tail5 (exists_mem_tail5 (exists_mem_tail5 (⟨_, List.mem_cons_self, (wmem i y hy (r := 512) (n := 64) (j := 0) (m := 128) (fun _ => by rfl) (by rfl) (by omega) (by exact congrArg (fun n => ![n, 512, 0]) (off_i i)))⟩)))))))
  · exact exists_mem_tail5 (exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 128) (m := 128) (fun _ => by rfl) (by rfl) (by omega) (by exact congrArg (fun n => ![n, 0, 128]) (off_i i)))⟩))))))))))
  · exact exists_mem_tail5 (exists_mem_tail5 (exists_mem_tail5 (exists_mem_tail5 (exists_mem_tail5 (exists_mem_tail5 (exists_mem_tail (exists_mem_tail (exists_mem_tail (⟨_, List.mem_cons_self, (wmem i y hy (r := 128) (n := 128) (j := 128) (m := 128) (fun _ => by rfl) (by rfl) (by omega) (by exact congrArg (fun n => ![n, 128, 128]) (off_i i)))⟩)))))))))
  · exact exists_mem_tail5 (exists_mem_tail5 (exists_mem_tail5 (exists_mem_tail5 (exists_mem_tail5 (exists_mem_tail5 (exists_mem_tail (exists_mem_tail (⟨_, List.mem_cons_self, (wmem i y hy (r := 256) (n := 128) (j := 128) (m := 128) (fun _ => by rfl) (by rfl) (by omega) (by exact congrArg (fun n => ![n, 256, 128]) (off_i i)))⟩))))))))
  · exact exists_mem_tail5 (exists_mem_tail5 (exists_mem_tail5 (exists_mem_tail5 (exists_mem_tail5 (exists_mem_tail5 (exists_mem_tail (⟨_, List.mem_cons_self, (wmem i y hy (r := 384) (n := 128) (j := 128) (m := 128) (fun _ => by rfl) (by rfl) (by omega) (by exact congrArg (fun n => ![n, 384, 128]) (off_i i)))⟩)))))))
  · exact exists_mem_tail5 (exists_mem_tail5 (exists_mem_tail5 (exists_mem_tail5 (exists_mem_tail5 (exists_mem_tail5 (⟨_, List.mem_cons_self, (wmem i y hy (r := 512) (n := 64) (j := 128) (m := 128) (fun _ => by rfl) (by rfl) (by omega) (by exact congrArg (fun n => ![n, 512, 128]) (off_i i)))⟩))))))
  · exact exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 256) (m := 128) (fun _ => by rfl) (by rfl) (by omega) (by exact congrArg (fun n => ![n, 0, 256]) (off_i i)))⟩)))))))))
  · exact exists_mem_tail5 (exists_mem_tail5 (exists_mem_tail5 (exists_mem_tail5 (exists_mem_tail5 (exists_mem_tail (exists_mem_tail (exists_mem_tail (⟨_, List.mem_cons_self, (wmem i y hy (r := 128) (n := 128) (j := 256) (m := 128) (fun _ => by rfl) (by rfl) (by omega) (by exact congrArg (fun n => ![n, 128, 256]) (off_i i)))⟩))))))))
  · exact exists_mem_tail5 (exists_mem_tail5 (exists_mem_tail5 (exists_mem_tail5 (exists_mem_tail5 (exists_mem_tail (exists_mem_tail (⟨_, List.mem_cons_self, (wmem i y hy (r := 256) (n := 128) (j := 256) (m := 128) (fun _ => by rfl) (by rfl) (by omega) (by exact congrArg (fun n => ![n, 256, 256]) (off_i i)))⟩)))))))
  · exact exists_mem_tail5 (exists_mem_tail5 (exists_mem_tail5 (exists_mem_tail5 (exists_mem_tail5 (exists_mem_tail (⟨_, List.mem_cons_self, (wmem i y hy (r := 384) (n := 128) (j := 256) (m := 128) (fun _ => by rfl) (by rfl) (by omega) (by exact congrArg (fun n => ![n, 384, 256]) (off_i i)))⟩))))))
  · exact exists_mem_tail5 (exists_mem_tail5 (exists_mem_tail5 (exists_mem_tail5 (exists_mem_tail5 (⟨_, List.mem_cons_self, (wmem i y hy (r := 512) (n := 64) (j := 256) (m := 128) (fun _ => by rfl) (by rfl) (by omega) (by exact congrArg (fun n => ![n, 512, 256]) (off_i i)))⟩)))))
  · exact exists_mem_tail5 (exists_mem_tail5 (exists_mem_tail5 (exists_mem_tail5 (exists_mem_tail (exists_mem_tail (exists_mem_tail (exists_mem_tail (⟨_, List.mem_cons_self, (wmem i y hy (r := 0) (n := 128) (j := 384) (m := 128) (fun _ => by rfl) (by rfl) (by omega) (by exact congrArg (fun n => ![n, 0, 384]) (off_i i)))⟩))))))))
  · exact exists_mem_tail5 (exists_mem_tail5 (exists_mem_tail5 (exists_mem_tail5 (exists_mem_tail (exists_mem_tail (exists_mem_tail (⟨_, List.mem_cons_self, (wmem i y hy (r := 128) (n := 128) (j := 384) (m := 128) (fun _ => by rfl) (by rfl) (by omega) (by exact congrArg (fun n => ![n, 128, 384]) (off_i i)))⟩)))))))
  · exact exists_mem_tail5 (exists_mem_tail5 (exists_mem_tail5 (exists_mem_tail5 (exists_mem_tail (exists_mem_tail (⟨_, List.mem_cons_self, (wmem i y hy (r := 256) (n := 128) (j := 384) (m := 128) (fun _ => by rfl) (by rfl) (by omega) (by exact congrArg (fun n => ![n, 256, 384]) (off_i i)))⟩))))))
  · exact exists_mem_tail5 (exists_mem_tail5 (exists_mem_tail5 (exists_mem_tail5 (exists_mem_tail (⟨_, List.mem_cons_self, (wmem i y hy (r := 384) (n := 128) (j := 384) (m := 128) (fun _ => by rfl) (by rfl) (by omega) (by exact congrArg (fun n => ![n, 384, 384]) (off_i i)))⟩)))))
  · exact exists_mem_tail5 (exists_mem_tail5 (exists_mem_tail5 (exists_mem_tail5 (⟨_, List.mem_cons_self, (wmem i y hy (r := 512) (n := 64) (j := 384) (m := 128) (fun _ => by rfl) (by rfl) (by omega) (by exact congrArg (fun n => ![n, 512, 384]) (off_i i)))⟩))))
  · exact exists_mem_tail5 (exists_mem_tail5 (exists_mem_tail5 (exists_mem_tail (exists_mem_tail (exists_mem_tail (exists_mem_tail (⟨_, List.mem_cons_self, (wmem i y hy (r := 0) (n := 128) (j := 512) (m := 128) (fun _ => by rfl) (by rfl) (by omega) (by exact congrArg (fun n => ![n, 0, 512]) (off_i i)))⟩)))))))
  · exact exists_mem_tail5 (exists_mem_tail5 (exists_mem_tail5 (exists_mem_tail (exists_mem_tail (exists_mem_tail (⟨_, List.mem_cons_self, (wmem i y hy (r := 128) (n := 128) (j := 512) (m := 128) (fun _ => by rfl) (by rfl) (by omega) (by exact congrArg (fun n => ![n, 128, 512]) (off_i i)))⟩))))))
  · exact exists_mem_tail5 (exists_mem_tail5 (exists_mem_tail5 (exists_mem_tail (exists_mem_tail (⟨_, List.mem_cons_self, (wmem i y hy (r := 256) (n := 128) (j := 512) (m := 128) (fun _ => by rfl) (by rfl) (by omega) (by exact congrArg (fun n => ![n, 256, 512]) (off_i i)))⟩)))))
  · exact exists_mem_tail5 (exists_mem_tail5 (exists_mem_tail5 (exists_mem_tail (⟨_, List.mem_cons_self, (wmem i y hy (r := 384) (n := 128) (j := 512) (m := 128) (fun _ => by rfl) (by rfl) (by omega) (by exact congrArg (fun n => ![n, 384, 512]) (off_i i)))⟩))))
  · exact exists_mem_tail5 (exists_mem_tail5 (exists_mem_tail5 (⟨_, List.mem_cons_self, (wmem i y hy (r := 512) (n := 64) (j := 512) (m := 128) (fun _ => by rfl) (by rfl) (by omega) (by exact congrArg (fun n => ![n, 512, 512]) (off_i i)))⟩)))
  · exact exists_mem_tail5 (exists_mem_tail5 (exists_mem_tail (exists_mem_tail (exists_mem_tail (exists_mem_tail (⟨_, List.mem_cons_self, (wmem i y hy (r := 0) (n := 128) (j := 640) (m := 128) (fun _ => by rfl) (by rfl) (by omega) (by exact congrArg (fun n => ![n, 0, 640]) (off_i i)))⟩))))))
  · exact exists_mem_tail5 (exists_mem_tail5 (exists_mem_tail (exists_mem_tail (exists_mem_tail (⟨_, List.mem_cons_self, (wmem i y hy (r := 128) (n := 128) (j := 640) (m := 128) (fun _ => by rfl) (by rfl) (by omega) (by exact congrArg (fun n => ![n, 128, 640]) (off_i i)))⟩)))))
  · exact exists_mem_tail5 (exists_mem_tail5 (exists_mem_tail (exists_mem_tail (⟨_, List.mem_cons_self, (wmem i y hy (r := 256) (n := 128) (j := 640) (m := 128) (fun _ => by rfl) (by rfl) (by omega) (by exact congrArg (fun n => ![n, 256, 640]) (off_i i)))⟩))))
  · exact exists_mem_tail5 (exists_mem_tail5 (exists_mem_tail (⟨_, List.mem_cons_self, (wmem i y hy (r := 384) (n := 128) (j := 640) (m := 128) (fun _ => by rfl) (by rfl) (by omega) (by exact congrArg (fun n => ![n, 384, 640]) (off_i i)))⟩)))
  · exact exists_mem_tail5 (exists_mem_tail5 (⟨_, List.mem_cons_self, (wmem i y hy (r := 512) (n := 64) (j := 640) (m := 128) (fun _ => by rfl) (by rfl) (by omega) (by exact congrArg (fun n => ![n, 512, 640]) (off_i i)))⟩))
  · exact exists_mem_tail5 (exists_mem_tail (exists_mem_tail (exists_mem_tail (exists_mem_tail (⟨_, List.mem_cons_self, (wmem i y hy (r := 0) (n := 128) (j := 768) (m := 128) (fun _ => by rfl) (by rfl) (by omega) (by exact congrArg (fun n => ![n, 0, 768]) (off_i i)))⟩)))))
  · exact exists_mem_tail5 (exists_mem_tail (exists_mem_tail (exists_mem_tail (⟨_, List.mem_cons_self, (wmem i y hy (r := 128) (n := 128) (j := 768) (m := 128) (fun _ => by rfl) (by rfl) (by omega) (by exact congrArg (fun n => ![n, 128, 768]) (off_i i)))⟩))))
  · exact exists_mem_tail5 (exists_mem_tail (exists_mem_tail (⟨_, List.mem_cons_self, (wmem i y hy (r := 256) (n := 128) (j := 768) (m := 128) (fun _ => by rfl) (by rfl) (by omega) (by exact congrArg (fun n => ![n, 256, 768]) (off_i i)))⟩)))
  · exact exists_mem_tail5 (exists_mem_tail (⟨_, List.mem_cons_self, (wmem i y hy (r := 384) (n := 128) (j := 768) (m := 128) (fun _ => by rfl) (by rfl) (by omega) (by exact congrArg (fun n => ![n, 384, 768]) (off_i i)))⟩))
  · exact exists_mem_tail5 (⟨_, List.mem_cons_self, (wmem i y hy (r := 512) (n := 64) (j := 768) (m := 128) (fun _ => by rfl) (by rfl) (by omega) (by exact congrArg (fun n => ![n, 512, 768]) (off_i i)))⟩)
  · exact exists_mem_tail (exists_mem_tail (exists_mem_tail (exists_mem_tail (⟨_, List.mem_cons_self, (wmem i y hy (r := 0) (n := 128) (j := 896) (m := 128) (fun _ => by rfl) (by rfl) (by omega) (by exact congrArg (fun n => ![n, 0, 896]) (off_i i)))⟩))))
  · exact exists_mem_tail (exists_mem_tail (exists_mem_tail (⟨_, List.mem_cons_self, (wmem i y hy (r := 128) (n := 128) (j := 896) (m := 128) (fun _ => by rfl) (by rfl) (by omega) (by exact congrArg (fun n => ![n, 128, 896]) (off_i i)))⟩)))
  · exact exists_mem_tail (exists_mem_tail (⟨_, List.mem_cons_self, (wmem i y hy (r := 256) (n := 128) (j := 896) (m := 128) (fun _ => by rfl) (by rfl) (by omega) (by exact congrArg (fun n => ![n, 256, 896]) (off_i i)))⟩))
  · exact exists_mem_tail (⟨_, List.mem_cons_self, (wmem i y hy (r := 384) (n := 128) (j := 896) (m := 128) (fun _ => by rfl) (by rfl) (by omega) (by exact congrArg (fun n => ![n, 384, 896]) (off_i i)))⟩)
  · exact ⟨_, List.mem_cons_self, (wmem i y hy (r := 512) (n := 64) (j := 896) (m := 128) (fun _ => by rfl) (by rfl) (by omega) (by exact congrArg (fun n => ![n, 512, 896]) (off_i i)))⟩

/-- No index of another block does. -/
theorem runA_wmiss (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (y : S7x576x1024.Idx) (hy : (y 0).val ≠ (i 0).val) :
    ∀ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1, y ∉ p.1.set := by
  simp only [runA]
  sl_unfold_words
  refine List.forall_mem_cons.2 ⟨wnot i y hy (fun _ => by rfl) (by rfl) (by exact congrArg (fun n => ![n, 512, 896]) (off_i i)), ?_⟩
  refine List.forall_mem_cons.2 ⟨wnot i y hy (fun _ => by rfl) (by rfl) (by exact congrArg (fun n => ![n, 384, 896]) (off_i i)), ?_⟩
  refine List.forall_mem_cons.2 ⟨wnot i y hy (fun _ => by rfl) (by rfl) (by exact congrArg (fun n => ![n, 256, 896]) (off_i i)), ?_⟩
  refine List.forall_mem_cons.2 ⟨wnot i y hy (fun _ => by rfl) (by rfl) (by exact congrArg (fun n => ![n, 128, 896]) (off_i i)), ?_⟩
  refine List.forall_mem_cons.2 ⟨wnot i y hy (fun _ => by rfl) (by rfl) (by exact congrArg (fun n => ![n, 0, 896]) (off_i i)), ?_⟩
  refine List.forall_mem_cons.2 ⟨wnot i y hy (fun _ => by rfl) (by rfl) (by exact congrArg (fun n => ![n, 512, 768]) (off_i i)), ?_⟩
  refine List.forall_mem_cons.2 ⟨wnot i y hy (fun _ => by rfl) (by rfl) (by exact congrArg (fun n => ![n, 384, 768]) (off_i i)), ?_⟩
  refine List.forall_mem_cons.2 ⟨wnot i y hy (fun _ => by rfl) (by rfl) (by exact congrArg (fun n => ![n, 256, 768]) (off_i i)), ?_⟩
  refine List.forall_mem_cons.2 ⟨wnot i y hy (fun _ => by rfl) (by rfl) (by exact congrArg (fun n => ![n, 128, 768]) (off_i i)), ?_⟩
  refine List.forall_mem_cons.2 ⟨wnot i y hy (fun _ => by rfl) (by rfl) (by exact congrArg (fun n => ![n, 0, 768]) (off_i i)), ?_⟩
  refine List.forall_mem_cons.2 ⟨wnot i y hy (fun _ => by rfl) (by rfl) (by exact congrArg (fun n => ![n, 512, 640]) (off_i i)), ?_⟩
  refine List.forall_mem_cons.2 ⟨wnot i y hy (fun _ => by rfl) (by rfl) (by exact congrArg (fun n => ![n, 384, 640]) (off_i i)), ?_⟩
  refine List.forall_mem_cons.2 ⟨wnot i y hy (fun _ => by rfl) (by rfl) (by exact congrArg (fun n => ![n, 256, 640]) (off_i i)), ?_⟩
  refine List.forall_mem_cons.2 ⟨wnot i y hy (fun _ => by rfl) (by rfl) (by exact congrArg (fun n => ![n, 128, 640]) (off_i i)), ?_⟩
  refine List.forall_mem_cons.2 ⟨wnot i y hy (fun _ => by rfl) (by rfl) (by exact congrArg (fun n => ![n, 0, 640]) (off_i i)), ?_⟩
  refine List.forall_mem_cons.2 ⟨wnot i y hy (fun _ => by rfl) (by rfl) (by exact congrArg (fun n => ![n, 512, 512]) (off_i i)), ?_⟩
  refine List.forall_mem_cons.2 ⟨wnot i y hy (fun _ => by rfl) (by rfl) (by exact congrArg (fun n => ![n, 384, 512]) (off_i i)), ?_⟩
  refine List.forall_mem_cons.2 ⟨wnot i y hy (fun _ => by rfl) (by rfl) (by exact congrArg (fun n => ![n, 256, 512]) (off_i i)), ?_⟩
  refine List.forall_mem_cons.2 ⟨wnot i y hy (fun _ => by rfl) (by rfl) (by exact congrArg (fun n => ![n, 128, 512]) (off_i i)), ?_⟩
  refine List.forall_mem_cons.2 ⟨wnot i y hy (fun _ => by rfl) (by rfl) (by exact congrArg (fun n => ![n, 0, 512]) (off_i i)), ?_⟩
  refine List.forall_mem_cons.2 ⟨wnot i y hy (fun _ => by rfl) (by rfl) (by exact congrArg (fun n => ![n, 512, 384]) (off_i i)), ?_⟩
  refine List.forall_mem_cons.2 ⟨wnot i y hy (fun _ => by rfl) (by rfl) (by exact congrArg (fun n => ![n, 384, 384]) (off_i i)), ?_⟩
  refine List.forall_mem_cons.2 ⟨wnot i y hy (fun _ => by rfl) (by rfl) (by exact congrArg (fun n => ![n, 256, 384]) (off_i i)), ?_⟩
  refine List.forall_mem_cons.2 ⟨wnot i y hy (fun _ => by rfl) (by rfl) (by exact congrArg (fun n => ![n, 128, 384]) (off_i i)), ?_⟩
  refine List.forall_mem_cons.2 ⟨wnot i y hy (fun _ => by rfl) (by rfl) (by exact congrArg (fun n => ![n, 0, 384]) (off_i i)), ?_⟩
  refine List.forall_mem_cons.2 ⟨wnot i y hy (fun _ => by rfl) (by rfl) (by exact congrArg (fun n => ![n, 512, 256]) (off_i i)), ?_⟩
  refine List.forall_mem_cons.2 ⟨wnot i y hy (fun _ => by rfl) (by rfl) (by exact congrArg (fun n => ![n, 384, 256]) (off_i i)), ?_⟩
  refine List.forall_mem_cons.2 ⟨wnot i y hy (fun _ => by rfl) (by rfl) (by exact congrArg (fun n => ![n, 256, 256]) (off_i i)), ?_⟩
  refine List.forall_mem_cons.2 ⟨wnot i y hy (fun _ => by rfl) (by rfl) (by exact congrArg (fun n => ![n, 128, 256]) (off_i i)), ?_⟩
  refine List.forall_mem_cons.2 ⟨wnot i y hy (fun _ => by rfl) (by rfl) (by exact congrArg (fun n => ![n, 0, 256]) (off_i i)), ?_⟩
  refine List.forall_mem_cons.2 ⟨wnot i y hy (fun _ => by rfl) (by rfl) (by exact congrArg (fun n => ![n, 512, 128]) (off_i i)), ?_⟩
  refine List.forall_mem_cons.2 ⟨wnot i y hy (fun _ => by rfl) (by rfl) (by exact congrArg (fun n => ![n, 384, 128]) (off_i i)), ?_⟩
  refine List.forall_mem_cons.2 ⟨wnot i y hy (fun _ => by rfl) (by rfl) (by exact congrArg (fun n => ![n, 256, 128]) (off_i i)), ?_⟩
  refine List.forall_mem_cons.2 ⟨wnot i y hy (fun _ => by rfl) (by rfl) (by exact congrArg (fun n => ![n, 128, 128]) (off_i i)), ?_⟩
  refine List.forall_mem_cons.2 ⟨wnot i y hy (fun _ => by rfl) (by rfl) (by exact congrArg (fun n => ![n, 0, 128]) (off_i i)), ?_⟩
  refine List.forall_mem_cons.2 ⟨wnot i y hy (fun _ => by rfl) (by rfl) (by exact congrArg (fun n => ![n, 512, 0]) (off_i i)), ?_⟩
  refine List.forall_mem_cons.2 ⟨wnot i y hy (fun _ => by rfl) (by rfl) (by exact congrArg (fun n => ![n, 384, 0]) (off_i i)), ?_⟩
  refine List.forall_mem_cons.2 ⟨wnot i y hy (fun _ => by rfl) (by rfl) (by exact congrArg (fun n => ![n, 256, 0]) (off_i i)), ?_⟩
  refine List.forall_mem_cons.2 ⟨wnot i y hy (fun _ => by rfl) (by rfl) (by exact congrArg (fun n => ![n, 128, 0]) (off_i i)), ?_⟩
  refine List.forall_mem_cons.2 ⟨wnot i y hy (fun _ => by rfl) (by rfl) (by exact congrArg (fun n => ![n, 0, 0]) (off_i i)), ?_⟩
  exact fun p hp => absurd hp List.not_mem_nil
end Cert.KernelIdeal.Run

end
-- ==== Proof.Ideal.ValuesA.lean ====
module

public import proofs.«01_k».proof.Proof.Ideal.WeightA
public import proofs.«01_k».proof.Proof.Ideal.Tiles

@[expose] public section

set_option maxRecDepth 16384
set_option maxHeartbeats 400000
set_option pp.maxSteps 150

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runA_xs (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) : View.canon (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).1 = xsv x1 := by
  have hL : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).1 = [⟨Rect.unit ![0, 0] S1536x56.size inb_S1536x128_S1536x56_0_0, k0_pay3 (View.readAt (Elt F) arg2.view (Rect.unit ![0, 0, 0] S6x256x56.size inb_S6x256x56_S6x256x56_0_0_0).toLoadRect (harg2.unread x1))⟩, ⟨Rect.unit ![0, 0] S1536x128.size inb_S1536x128_S1536x128_0_0, k0_pay2⟩] := rfl
  have h1 : View.readAt (Elt F) arg2.view (Rect.unit ![0, 0, 0] S6x256x56.size inb_S6x256x56_S6x256x56_0_0_0).toLoadRect (harg2.unread x1) = x1 := by
    rw [View.readAt_eq_ld, harg2.read_unread]; exact View.ld_unit_zero (by decide) _ _
  rw [hL, h1]; rfl

theorem runA_xpieces (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) :
    ∀ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.1, ∀ x : p.1.shape.Idx, p.2 x = xwBlk (i 0).val (xsv x1) x0 (p.1.emb x) := by
  have hi := cond2_lt i hc2
  have hx : arg14.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).1 (Rect.unit ![0, 0] S1536x128.size inb_S1536x128_S1536x128_0_0).toLoadRect = xsv x1 := by
    rw [View.readCov_eq_canon', runA_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w]; funext j; exact congrArg (xsv x1) (funext fun a => Fin.ext (by fin_cases a <;> exact (Nat.zero_add _).trans (Nat.one_mul _)))
  simp only [runA]
  sl_unfold_words
  refine List.forall_mem_cons.2 ⟨fun x => xtile harg1 i hi (xsv x1) hx x0 7 (by decide) (off := ![0, 896]) (by rfl) (by rfl) x (fun a => by rw [Rect.emb_apply]; exact congrArg (_ + ·) (Nat.one_mul _)), ?_⟩
  refine List.forall_mem_cons.2 ⟨fun x => xtile harg1 i hi (xsv x1) hx x0 6 (by decide) (off := ![0, 768]) (by rfl) (by rfl) x (fun a => by rw [Rect.emb_apply]; exact congrArg (_ + ·) (Nat.one_mul _)), ?_⟩
  refine List.forall_mem_cons.2 ⟨fun x => xtile harg1 i hi (xsv x1) hx x0 5 (by decide) (off := ![0, 640]) (by rfl) (by rfl) x (fun a => by rw [Rect.emb_apply]; exact congrArg (_ + ·) (Nat.one_mul _)), ?_⟩
  refine List.forall_mem_cons.2 ⟨fun x => xtile harg1 i hi (xsv x1) hx x0 4 (by decide) (off := ![0, 512]) (by rfl) (by rfl) x (fun a => by rw [Rect.emb_apply]; exact congrArg (_ + ·) (Nat.one_mul _)), ?_⟩
  refine List.forall_mem_cons.2 ⟨fun x => xtile harg1 i hi (xsv x1) hx x0 3 (by decide) (off := ![0, 384]) (by rfl) (by rfl) x (fun a => by rw [Rect.emb_apply]; exact congrArg (_ + ·) (Nat.one_mul _)), ?_⟩
  refine List.forall_mem_cons.2 ⟨fun x => xtile harg1 i hi (xsv x1) hx x0 2 (by decide) (off := ![0, 256]) (by rfl) (by rfl) x (fun a => by rw [Rect.emb_apply]; exact congrArg (_ + ·) (Nat.one_mul _)), ?_⟩
  refine List.forall_mem_cons.2 ⟨fun x => xtile harg1 i hi (xsv x1) hx x0 1 (by decide) (off := ![0, 128]) (by rfl) (by rfl) x (fun a => by rw [Rect.emb_apply]; exact congrArg (_ + ·) (Nat.one_mul _)), ?_⟩
  refine List.forall_mem_cons.2 ⟨fun x => xtile harg1 i hi (xsv x1) hx x0 0 (by decide) (off := ![0, 0]) (by rfl) (by rfl) x (fun a => by rw [Rect.emb_apply]; exact congrArg (_ + ·) (Nat.one_mul _)), ?_⟩
  exact fun p hp => absurd hp List.not_mem_nil

theorem runA_xw (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) : View.canon (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.1 = xwBlk (i 0).val (xsv x1) x0 := by
  funext y
  have h := View.canon_append_of_pieces (xwBlk (i 0).val (xsv x1) x0) [] _ (runA_xpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w) y (View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.1 S1536x128.size (by sl_kernel_rfl) y)
  rwa [List.append_nil] at h

theorem runA_cs (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) :
    View.canon (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.2.1 = k0_pay4 (k0_pay1 (F := F)) (xwBlk (i 0).val (xsv x1) x0) (wRows x2 x3 (i 0).val (cond2_lt i hc2)) := by
  have hL : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.2.1 = ⟨Rect.unit ![0, 0] S1536x512.size inb_S1536x512_S1536x512_0_0, k0_pay4 (arg17.view.readCov (Val := Elt F) [⟨Rect.unit ![0, 0] S1536x512.size inb_S1536x512_S1536x512_0_0, (k0_pay1 (F := F))⟩] (Rect.unit ![0, 0] S1536x512.size inb_S1536x512_S1536x512_0_0).toLoadRect) (arg15.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.1 (Rect.unit ![0, 0] S1536x1024.size inb_S1536x1024_S1536x1024_0_0).toLoadRect) (arg16.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1 (Rect.unit (s := S7x576x1024) (k0_off46 i) S1x512x1024.size (k0_off46_inb i hc2)).toLoadRect)⟩ :: [⟨Rect.unit ![0, 0] S1536x512.size inb_S1536x512_S1536x512_0_0, (k0_pay1 (F := F))⟩] := rfl
  have h0 : arg17.view.readCov (Val := Elt F) [⟨Rect.unit ![0, 0] S1536x512.size inb_S1536x512_S1536x512_0_0, (k0_pay1 (F := F))⟩] (Rect.unit ![0, 0] S1536x512.size inb_S1536x512_S1536x512_0_0).toLoadRect = (k0_pay1 (F := F)) := by
    rw [View.readCov_fill _ _ _ _ _ (by decide)]; exact View.ld_unit_zero (by decide) _ _
  have h1 : arg15.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.1 (Rect.unit ![0, 0] S1536x1024.size inb_S1536x1024_S1536x1024_0_0).toLoadRect = xwBlk (i 0).val (xsv x1) x0 := by
    rw [View.readCov_eq_canon', runA_xw c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w]; funext j; exact congrArg (xwBlk (i 0).val (xsv x1) x0) (funext fun a => Fin.ext (by fin_cases a <;> exact (Nat.zero_add _).trans (Nat.one_mul _)))
  have h2 : arg16.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1 (Rect.unit (s := S7x576x1024) (k0_off46 i) S1x512x1024.size (k0_off46_inb i hc2)).toLoadRect = wRows x2 x3 (i 0).val (cond2_lt i hc2) := by
    rw [View.readCov_eq_canon']; funext j
    have e0 : ((Rect.unit (s := S7x576x1024) (k0_off46 i) S1x512x1024.size (k0_off46_inb i hc2)).toLoadRect.idx j 0).val = (i 0).val := by
      have : (j 0).val < 1 := (j 0).isLt
      show k0_off46 i 0 + 1 * (j 0).val = _
      have := off_i i
      show BitVec.toNat (Scalar.indexCast (BitVec.ofNat 32 (i 0).val)) + 1 * (j 0).val = _
      omega
    have h := View.canon_append_of_pieces (wAll x2 x3) [] _ (runA_wpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w) _ (runA_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w _ e0)
    rw [List.append_nil] at h
    rw [h]
    refine congrArg (wAll x2 x3) (funext fun a => Fin.ext ?_)
    fin_cases a
    · exact e0
    · exact (Nat.zero_add _).trans (Nat.one_mul _)
    · exact (Nat.zero_add _).trans (Nat.one_mul _)
  rw [hL, h0, h1, h2]
  exact View.canon_cons_unit_lit _ _ _ (by decide)
end Cert.KernelIdeal.Run

end
-- ==== Proof.Ideal.StepA.lean ====
module

public import proofs.«01_k».proof.Proof.Ideal.ValuesA
public import proofs.«01_k».proof.Proof.Ideal.Tiles

@[expose] public section

set_option maxRecDepth 16384
set_option maxHeartbeats 1000000
set_option pp.maxSteps 150

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runA_wread (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (y : S7x576x1024.Idx) :
    arg16.view.read (Elt F) (arg16.view.writes (Elt F) (harg16.unread w) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.1) y = if (y 0).val = (i 0).val then wAll x2 x3 y else w y := by
  split
  · rename_i hy
    rw [View.read_writes_apply_eq_canon _ _ _ _ (runA_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w y hy)]
    have h := View.canon_append_of_pieces (wAll x2 x3) [] _ (runA_wpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w) _ (runA_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w y hy)
    rwa [List.append_nil] at h
  · rename_i hy
    rw [View.read_writes_apply_of_forall_not_mem _ _ _ _ (runA_wmiss c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w y hy), harg16.read_unread]

theorem runA_ccover (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (y : S1536x512.Idx) : ∃ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.2.1, y ∈ p.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.2.1 S1536x512.size (by sl_kernel_rfl) y

theorem runA_scover (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (y : S1536x128.Idx) : ∃ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).1, y ∈ p.1.set := by
  have hL : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).1 = [⟨Rect.unit ![0, 0] S1536x56.size inb_S1536x128_S1536x56_0_0, k0_pay3 (View.readAt (Elt F) arg2.view (Rect.unit ![0, 0, 0] S6x256x56.size inb_S6x256x56_S6x256x56_0_0_0).toLoadRect (harg2.unread x1))⟩, ⟨Rect.unit ![0, 0] S1536x128.size inb_S1536x128_S1536x128_0_0, k0_pay2⟩] := rfl
  rw [hL]
  exact exists_mem_tail ⟨_, List.mem_cons_self, whole2 y (inb := inb_S1536x128_S1536x128_0_0)⟩

set_option maxHeartbeats 4000000 in
/-- The body's triple at such a point, each buffer it touches held whole before and after. -/
theorem stepA (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : cond1 i) (hc2 : cond2 i) (hc3 : ¬cond3 i)
    (x0 : Vec F S6x256x1024 .fp8e4m3) (x1 : Vec F S6x256x56 .f32) (x2 : Vec F S576x1024 .fp8e4m3) (x3 : Vec F S5x56 .f32) (w : Vec F S7x576x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg14 fullShare d) ∗ (∃ d, owns (c : Thread nD τ) arg15 fullShare d) ∗ owns (c : Thread nD τ) arg16 fullShare w ∗ (∃ d, owns (c : Thread nD τ) arg17 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg14 fullShare (xsv x1) ∗ (∃ d, owns (c : Thread nD τ) arg15 fullShare d) ∗ (∃ w2 : Vec F S7x576x1024 .bf16, ⌜∀ y, w2 y = if (y 0).val = (i 0).val then wAll x2 x3 y else w y⌝ ∗ owns (c : Thread nD τ) arg16 fullShare w2) ∗ owns (c : Thread nD τ) arg17 fullShare (k0_pay4 (k0_pay1 (F := F)) (xwBlk (i 0).val (xsv x1) x0) (wRows x2 x3 (i 0).val (cond2_lt i hc2)))) -∗ K ⟨⟩))
    ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H1, H2, H3, H4, H14, H15, H16, H17, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w).2.2.2.2 E K)
  isplitl [H1]; · iexact H1
  isplitl [H2]; · iexact H2
  isplitl [H3]; · iexact H3
  isplitl [H4]; · iexact H4
  isplitl [H14]; · iexact H14
  isplitl [H15]; · iexact H15
  isplitl [H16]; · iexact H16
  isplitl [H17]; · iexact H17
  iintro ⟨H1, H2, H3, H4, ⟨%f14, H14⟩, ⟨%f15, H15⟩, H16, ⟨%f17, H17⟩⟩
  iapply Hk
  isplitl [H1]
  · iexact H1
  isplitl [H2]
  · iexact H2
  isplitl [H3]
  · iexact H3
  isplitl [H4]
  · iexact H4
  isplitl [H14]
  · unfold owns; iexists _; isplitr
    swap; · iexact H14
    ipureintro; exact (View.read_writes_eq_canon _ _ _ (runA_scover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w)).trans (runA_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w)
  isplitl [H15]
  · iexists _; unfold owns; iexists _; isplitr
    swap; · iexact H15
    ipureintro; rfl
  isplitl [H16]
  · iexists _; isplitr
    swap
    · unfold owns; iexists _; isplitr
      swap; · iexact H16
      ipureintro; rfl
    ipureintro; exact runA_wread c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w
  unfold owns; iexists _; isplitr
  swap; · iexact H17
  ipureintro; exact (View.read_writes_eq_canon _ _ _ (runA_ccover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w)).trans (runA_cs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x1 x2 x3 w)

end Cert.KernelIdeal.Run

end
-- ==== Proof.Ideal.RunB.lean ====
module

public import proofs.«01_k».proof.Proof.Ideal.Cond

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a point of the first phase but the first. -/
noncomputable def runB (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) :
    Σ' (L15 : List (View.Piece (Elt F) S1536x1024 .bf16)), Σ' (L16 : List (View.Piece (Elt F) S7x576x1024 .bf16)), { L17 : List (View.Piece (Elt F) S1536x512 .f32) //
      ∀ (E : Set ℕ) (K : PUnit → sProp 𝕄),
        iprop(owns (c : Thread nD τ) arg1 fullShare x0 ∗ owns (c : Thread nD τ) arg3 fullShare x2 ∗ owns (c : Thread nD τ) arg4 fullShare x3 ∗ owns (c : Thread nD τ) arg14 fullShare xs ∗ (∃ d, owns (c : Thread nD τ) arg15 fullShare d) ∗ owns (c : Thread nD τ) arg16 fullShare w ∗ owns (c : Thread nD τ) arg17 fullShare cs
            ∗ (iprop(owns (c : Thread nD τ) arg1 fullShare x0 ∗ owns (c : Thread nD τ) arg3 fullShare x2 ∗ owns (c : Thread nD τ) arg4 fullShare x3 ∗ owns (c : Thread nD τ) arg14 fullShare xs ∗ (∃ f, arg15.view.loc (c : Thread nD τ) ↦[arg15.view.set]{fullShare} arg15.view.writes (Elt F) f L15) ∗ (arg16.view.loc (c : Thread nD τ) ↦[arg16.view.set]{fullShare} arg16.view.writes (Elt F) (harg16.unread w) L16) ∗ (arg17.view.loc (c : Thread nD τ) ↦[arg17.view.set]{fullShare} arg17.view.writes (Elt F) (harg17.unread cs) L17)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_mla_kv_bwd_eq_skeleton]; unfold cc0_mla_kv_bwd_skel
    unfold owns
    iintro ⟨⟨%f1, %hf1, H1⟩, ⟨%f3, %hf3, H3⟩, ⟨%f4, %hf4, H4⟩, ⟨%f14, %hf14, H14⟩, ⟨%d15, %f15, -, H15⟩, ⟨%f16, %hf16, H16⟩, ⟨%f17, %hf17, H17⟩, Hk⟩
    obtain rfl := harg1.eq_unread hf1; obtain rfl := harg3.eq_unread hf3; obtain rfl := harg4.eq_unread hf4; obtain rfl := harg14.eq_unread hf14; obtain rfl := harg16.eq_unread hf16; obtain rfl := harg17.eq_unread hf17
    sl_exec (disch := first | sl_exact hc1 | sl_exact hc2 | sl_exact hc3)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H14]
    · iexists _; isplitr; · ipureintro; exact harg14.read_unread _
      iexact H14
    isplitl [H15]
    · iexists _; iexact H15
    isplitl [H16]
    · iexact H16
    iexact H17

end Cert.KernelIdeal.Run

end
-- ==== Proof.Ideal.WeightB.lean ====
module

public import proofs.«01_k».proof.Proof.Ideal.RunB
public import proofs.«01_k».proof.Proof.Ideal.Tiles

@[expose] public section

set_option maxRecDepth 16384
set_option maxHeartbeats 4000000
set_option pp.maxSteps 150

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the point writes into the weight scratch: every piece is a tile of the dequantised weight. -/
theorem runB_wpieces (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) :
    ∀ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1, ∀ x : p.1.shape.Idx, p.2 x = wAll x2 x3 (p.1.emb x) := by
  simp only [runB]
  sl_unfold_words
  refine List.forall_mem_cons.2 ⟨fun x => wtile64 harg3 harg4 x2 x3 (i 0).val 4 7 (by exact congrArg (fun n => ![n, 512, 896]) (off_i i)) (by rfl) (by exact congrArg (fun n => ![4, n]) (off_col i 7 (by decide))) x (fun a => by rw [Rect.emb_apply]; exact congrArg (_ + ·) (Nat.one_mul _)), ?_⟩
  refine List.forall_mem_cons.2 ⟨fun x => wtile128 harg3 harg4 x2 x3 (i 0).val 3 7 (by exact congrArg (fun n => ![n, 384, 896]) (off_i i)) (by rfl) (by exact congrArg (fun n => ![3, n]) (off_col i 7 (by decide))) x (fun a => by rw [Rect.emb_apply]; exact congrArg (_ + ·) (Nat.one_mul _)), ?_⟩
  refine List.forall_mem_cons.2 ⟨fun x => wtile128 harg3 harg4 x2 x3 (i 0).val 2 7 (by exact congrArg (fun n => ![n, 256, 896]) (off_i i)) (by rfl) (by exact congrArg (fun n => ![2, n]) (off_col i 7 (by decide))) x (fun a => by rw [Rect.emb_apply]; exact congrArg (_ + ·) (Nat.one_mul _)), ?_⟩
  refine List.forall_mem_cons.2 ⟨fun x => wtile128 harg3 harg4 x2 x3 (i 0).val 1 7 (by exact congrArg (fun n => ![n, 128, 896]) (off_i i)) (by rfl) (by exact congrArg (fun n => ![1, n]) (off_col i 7 (by decide))) x (fun a => by rw [Rect.emb_apply]; exact congrArg (_ + ·) (Nat.one_mul _)), ?_⟩
  refine List.forall_mem_cons.2 ⟨fun x => wtile128 harg3 harg4 x2 x3 (i 0).val 0 7 (by exact congrArg (fun n => ![n, 0, 896]) (off_i i)) (by rfl) (by exact congrArg (fun n => ![0, n]) (off_col i 7 (by decide))) x (fun a => by rw [Rect.emb_apply]; exact congrArg (_ + ·) (Nat.one_mul _)), ?_⟩
  refine List.forall_mem_cons.2 ⟨fun x => wtile64 harg3 harg4 x2 x3 (i 0).val 4 6 (by exact congrArg (fun n => ![n, 512, 768]) (off_i i)) (by rfl) (by exact congrArg (fun n => ![4, n]) (off_col i 6 (by decide))) x (fun a => by rw [Rect.emb_apply]; exact congrArg (_ + ·) (Nat.one_mul _)), ?_⟩
  refine List.forall_mem_cons.2 ⟨fun x => wtile128 harg3 harg4 x2 x3 (i 0).val 3 6 (by exact congrArg (fun n => ![n, 384, 768]) (off_i i)) (by rfl) (by exact congrArg (fun n => ![3, n]) (off_col i 6 (by decide))) x (fun a => by rw [Rect.emb_apply]; exact congrArg (_ + ·) (Nat.one_mul _)), ?_⟩
  refine List.forall_mem_cons.2 ⟨fun x => wtile128 harg3 harg4 x2 x3 (i 0).val 2 6 (by exact congrArg (fun n => ![n, 256, 768]) (off_i i)) (by rfl) (by exact congrArg (fun n => ![2, n]) (off_col i 6 (by decide))) x (fun a => by rw [Rect.emb_apply]; exact congrArg (_ + ·) (Nat.one_mul _)), ?_⟩
  refine List.forall_mem_cons.2 ⟨fun x => wtile128 harg3 harg4 x2 x3 (i 0).val 1 6 (by exact congrArg (fun n => ![n, 128, 768]) (off_i i)) (by rfl) (by exact congrArg (fun n => ![1, n]) (off_col i 6 (by decide))) x (fun a => by rw [Rect.emb_apply]; exact congrArg (_ + ·) (Nat.one_mul _)), ?_⟩
  refine List.forall_mem_cons.2 ⟨fun x => wtile128 harg3 harg4 x2 x3 (i 0).val 0 6 (by exact congrArg (fun n => ![n, 0, 768]) (off_i i)) (by rfl) (by exact congrArg (fun n => ![0, n]) (off_col i 6 (by decide))) x (fun a => by rw [Rect.emb_apply]; exact congrArg (_ + ·) (Nat.one_mul _)), ?_⟩
  refine List.forall_mem_cons.2 ⟨fun x => wtile64 harg3 harg4 x2 x3 (i 0).val 4 5 (by exact congrArg (fun n => ![n, 512, 640]) (off_i i)) (by rfl) (by exact congrArg (fun n => ![4, n]) (off_col i 5 (by decide))) x (fun a => by rw [Rect.emb_apply]; exact congrArg (_ + ·) (Nat.one_mul _)), ?_⟩
  refine List.forall_mem_cons.2 ⟨fun x => wtile128 harg3 harg4 x2 x3 (i 0).val 3 5 (by exact congrArg (fun n => ![n, 384, 640]) (off_i i)) (by rfl) (by exact congrArg (fun n => ![3, n]) (off_col i 5 (by decide))) x (fun a => by rw [Rect.emb_apply]; exact congrArg (_ + ·) (Nat.one_mul _)), ?_⟩
  refine List.forall_mem_cons.2 ⟨fun x => wtile128 harg3 harg4 x2 x3 (i 0).val 2 5 (by exact congrArg (fun n => ![n, 256, 640]) (off_i i)) (by rfl) (by exact congrArg (fun n => ![2, n]) (off_col i 5 (by decide))) x (fun a => by rw [Rect.emb_apply]; exact congrArg (_ + ·) (Nat.one_mul _)), ?_⟩
  refine List.forall_mem_cons.2 ⟨fun x => wtile128 harg3 harg4 x2 x3 (i 0).val 1 5 (by exact congrArg (fun n => ![n, 128, 640]) (off_i i)) (by rfl) (by exact congrArg (fun n => ![1, n]) (off_col i 5 (by decide))) x (fun a => by rw [Rect.emb_apply]; exact congrArg (_ + ·) (Nat.one_mul _)), ?_⟩
  refine List.forall_mem_cons.2 ⟨fun x => wtile128 harg3 harg4 x2 x3 (i 0).val 0 5 (by exact congrArg (fun n => ![n, 0, 640]) (off_i i)) (by rfl) (by exact congrArg (fun n => ![0, n]) (off_col i 5 (by decide))) x (fun a => by rw [Rect.emb_apply]; exact congrArg (_ + ·) (Nat.one_mul _)), ?_⟩
  refine List.forall_mem_cons.2 ⟨fun x => wtile64 harg3 harg4 x2 x3 (i 0).val 4 4 (by exact congrArg (fun n => ![n, 512, 512]) (off_i i)) (by rfl) (by exact congrArg (fun n => ![4, n]) (off_col i 4 (by decide))) x (fun a => by rw [Rect.emb_apply]; exact congrArg (_ + ·) (Nat.one_mul _)), ?_⟩
  refine List.forall_mem_cons.2 ⟨fun x => wtile128 harg3 harg4 x2 x3 (i 0).val 3 4 (by exact congrArg (fun n => ![n, 384, 512]) (off_i i)) (by rfl) (by exact congrArg (fun n => ![3, n]) (off_col i 4 (by decide))) x (fun a => by rw [Rect.emb_apply]; exact congrArg (_ + ·) (Nat.one_mul _)), ?_⟩
  refine List.forall_mem_cons.2 ⟨fun x => wtile128 harg3 harg4 x2 x3 (i 0).val 2 4 (by exact congrArg (fun n => ![n, 256, 512]) (off_i i)) (by rfl) (by exact congrArg (fun n => ![2, n]) (off_col i 4 (by decide))) x (fun a => by rw [Rect.emb_apply]; exact congrArg (_ + ·) (Nat.one_mul _)), ?_⟩
  refine List.forall_mem_cons.2 ⟨fun x => wtile128 harg3 harg4 x2 x3 (i 0).val 1 4 (by exact congrArg (fun n => ![n, 128, 512]) (off_i i)) (by rfl) (by exact congrArg (fun n => ![1, n]) (off_col i 4 (by decide))) x (fun a => by rw [Rect.emb_apply]; exact congrArg (_ + ·) (Nat.one_mul _)), ?_⟩
  refine List.forall_mem_cons.2 ⟨fun x => wtile128 harg3 harg4 x2 x3 (i 0).val 0 4 (by exact congrArg (fun n => ![n, 0, 512]) (off_i i)) (by rfl) (by exact congrArg (fun n => ![0, n]) (off_col i 4 (by decide))) x (fun a => by rw [Rect.emb_apply]; exact congrArg (_ + ·) (Nat.one_mul _)), ?_⟩
  refine List.forall_mem_cons.2 ⟨fun x => wtile64 harg3 harg4 x2 x3 (i 0).val 4 3 (by exact congrArg (fun n => ![n, 512, 384]) (off_i i)) (by rfl) (by exact congrArg (fun n => ![4, n]) (off_col i 3 (by decide))) x (fun a => by rw [Rect.emb_apply]; exact congrArg (_ + ·) (Nat.one_mul _)), ?_⟩
  refine List.forall_mem_cons.2 ⟨fun x => wtile128 harg3 harg4 x2 x3 (i 0).val 3 3 (by exact congrArg (fun n => ![n, 384, 384]) (off_i i)) (by rfl) (by exact congrArg (fun n => ![3, n]) (off_col i 3 (by decide))) x (fun a => by rw [Rect.emb_apply]; exact congrArg (_ + ·) (Nat.one_mul _)), ?_⟩
  refine List.forall_mem_cons.2 ⟨fun x => wtile128 harg3 harg4 x2 x3 (i 0).val 2 3 (by exact congrArg (fun n => ![n, 256, 384]) (off_i i)) (by rfl) (by exact congrArg (fun n => ![2, n]) (off_col i 3 (by decide))) x (fun a => by rw [Rect.emb_apply]; exact congrArg (_ + ·) (Nat.one_mul _)), ?_⟩
  refine List.forall_mem_cons.2 ⟨fun x => wtile128 harg3 harg4 x2 x3 (i 0).val 1 3 (by exact congrArg (fun n => ![n, 128, 384]) (off_i i)) (by rfl) (by exact congrArg (fun n => ![1, n]) (off_col i 3 (by decide))) x (fun a => by rw [Rect.emb_apply]; exact congrArg (_ + ·) (Nat.one_mul _)), ?_⟩
  refine List.forall_mem_cons.2 ⟨fun x => wtile128 harg3 harg4 x2 x3 (i 0).val 0 3 (by exact congrArg (fun n => ![n, 0, 384]) (off_i i)) (by rfl) (by exact congrArg (fun n => ![0, n]) (off_col i 3 (by decide))) x (fun a => by rw [Rect.emb_apply]; exact congrArg (_ + ·) (Nat.one_mul _)), ?_⟩
  refine List.forall_mem_cons.2 ⟨fun x => wtile64 harg3 harg4 x2 x3 (i 0).val 4 2 (by exact congrArg (fun n => ![n, 512, 256]) (off_i i)) (by rfl) (by exact congrArg (fun n => ![4, n]) (off_col i 2 (by decide))) x (fun a => by rw [Rect.emb_apply]; exact congrArg (_ + ·) (Nat.one_mul _)), ?_⟩
  refine List.forall_mem_cons.2 ⟨fun x => wtile128 harg3 harg4 x2 x3 (i 0).val 3 2 (by exact congrArg (fun n => ![n, 384, 256]) (off_i i)) (by rfl) (by exact congrArg (fun n => ![3, n]) (off_col i 2 (by decide))) x (fun a => by rw [Rect.emb_apply]; exact congrArg (_ + ·) (Nat.one_mul _)), ?_⟩
  refine List.forall_mem_cons.2 ⟨fun x => wtile128 harg3 harg4 x2 x3 (i 0).val 2 2 (by exact congrArg (fun n => ![n, 256, 256]) (off_i i)) (by rfl) (by exact congrArg (fun n => ![2, n]) (off_col i 2 (by decide))) x (fun a => by rw [Rect.emb_apply]; exact congrArg (_ + ·) (Nat.one_mul _)), ?_⟩
  refine List.forall_mem_cons.2 ⟨fun x => wtile128 harg3 harg4 x2 x3 (i 0).val 1 2 (by exact congrArg (fun n => ![n, 128, 256]) (off_i i)) (by rfl) (by exact congrArg (fun n => ![1, n]) (off_col i 2 (by decide))) x (fun a => by rw [Rect.emb_apply]; exact congrArg (_ + ·) (Nat.one_mul _)), ?_⟩
  refine List.forall_mem_cons.2 ⟨fun x => wtile128 harg3 harg4 x2 x3 (i 0).val 0 2 (by exact congrArg (fun n => ![n, 0, 256]) (off_i i)) (by rfl) (by exact congrArg (fun n => ![0, n]) (off_col i 2 (by decide))) x (fun a => by rw [Rect.emb_apply]; exact congrArg (_ + ·) (Nat.one_mul _)), ?_⟩
  refine List.forall_mem_cons.2 ⟨fun x => wtile64 harg3 harg4 x2 x3 (i 0).val 4 1 (by exact congrArg (fun n => ![n, 512, 128]) (off_i i)) (by rfl) (by exact congrArg (fun n => ![4, n]) (off_col i 1 (by decide))) x (fun a => by rw [Rect.emb_apply]; exact congrArg (_ + ·) (Nat.one_mul _)), ?_⟩
  refine List.forall_mem_cons.2 ⟨fun x => wtile128 harg3 harg4 x2 x3 (i 0).val 3 1 (by exact congrArg (fun n => ![n, 384, 128]) (off_i i)) (by rfl) (by exact congrArg (fun n => ![3, n]) (off_col i 1 (by decide))) x (fun a => by rw [Rect.emb_apply]; exact congrArg (_ + ·) (Nat.one_mul _)), ?_⟩
  refine List.forall_mem_cons.2 ⟨fun x => wtile128 harg3 harg4 x2 x3 (i 0).val 2 1 (by exact congrArg (fun n => ![n, 256, 128]) (off_i i)) (by rfl) (by exact congrArg (fun n => ![2, n]) (off_col i 1 (by decide))) x (fun a => by rw [Rect.emb_apply]; exact congrArg (_ + ·) (Nat.one_mul _)), ?_⟩
  refine List.forall_mem_cons.2 ⟨fun x => wtile128 harg3 harg4 x2 x3 (i 0).val 1 1 (by exact congrArg (fun n => ![n, 128, 128]) (off_i i)) (by rfl) (by exact congrArg (fun n => ![1, n]) (off_col i 1 (by decide))) x (fun a => by rw [Rect.emb_apply]; exact congrArg (_ + ·) (Nat.one_mul _)), ?_⟩
  refine List.forall_mem_cons.2 ⟨fun x => wtile128 harg3 harg4 x2 x3 (i 0).val 0 1 (by exact congrArg (fun n => ![n, 0, 128]) (off_i i)) (by rfl) (by exact congrArg (fun n => ![0, n]) (off_col i 1 (by decide))) x (fun a => by rw [Rect.emb_apply]; exact congrArg (_ + ·) (Nat.one_mul _)), ?_⟩
  refine List.forall_mem_cons.2 ⟨fun x => wtile64 harg3 harg4 x2 x3 (i 0).val 4 0 (by exact congrArg (fun n => ![n, 512, 0]) (off_i i)) (by rfl) (by exact congrArg (fun n => ![4, n]) (off_col i 0 (by decide))) x (fun a => by rw [Rect.emb_apply]; exact congrArg (_ + ·) (Nat.one_mul _)), ?_⟩
  refine List.forall_mem_cons.2 ⟨fun x => wtile128 harg3 harg4 x2 x3 (i 0).val 3 0 (by exact congrArg (fun n => ![n, 384, 0]) (off_i i)) (by rfl) (by exact congrArg (fun n => ![3, n]) (off_col i 0 (by decide))) x (fun a => by rw [Rect.emb_apply]; exact congrArg (_ + ·) (Nat.one_mul _)), ?_⟩
  refine List.forall_mem_cons.2 ⟨fun x => wtile128 harg3 harg4 x2 x3 (i 0).val 2 0 (by exact congrArg (fun n => ![n, 256, 0]) (off_i i)) (by rfl) (by exact congrArg (fun n => ![2, n]) (off_col i 0 (by decide))) x (fun a => by rw [Rect.emb_apply]; exact congrArg (_ + ·) (Nat.one_mul _)), ?_⟩
  refine List.forall_mem_cons.2 ⟨fun x => wtile128 harg3 harg4 x2 x3 (i 0).val 1 0 (by exact congrArg (fun n => ![n, 128, 0]) (off_i i)) (by rfl) (by exact congrArg (fun n => ![1, n]) (off_col i 0 (by decide))) x (fun a => by rw [Rect.emb_apply]; exact congrArg (_ + ·) (Nat.one_mul _)), ?_⟩
  refine List.forall_mem_cons.2 ⟨fun x => wtile128 harg3 harg4 x2 x3 (i 0).val 0 0 (by exact congrArg (fun n => ![n, 0, 0]) (off_i i)) (by rfl) (by exact congrArg (fun n => ![0, n]) (off_col i 0 (by decide))) x (fun a => by rw [Rect.emb_apply]; exact congrArg (_ + ·) (Nat.one_mul _)), ?_⟩
  exact fun p hp => absurd hp List.not_mem_nil

/-- Every index of the point's own block lies in one of the pieces. -/
theorem runB_wcover (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) (y : S7x576x1024.Idx) (hy : (y 0).val = (i 0).val) :
    ∃ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1, y ∈ p.1.set := by
  have b1 : (y 1).val < 576 := (y 1).isLt
  have b2 : (y 2).val < 1024 := (y 2).isLt
  simp only [runB]
  sl_unfold_words
  obtain ⟨j, hj⟩ : ∃ j, j = (y 2).val / 128 := ⟨_, rfl⟩
  obtain ⟨r, hr⟩ : ∃ r, r = (y 1).val / 128 := ⟨_, rfl⟩
  have hj8 : j < 8 := by omega
  have hr5 : r < 5 := by omega
  interval_cases j <;> interval_cases r
  · exact exists_mem_tail5 (exists_mem_tail5 (exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 0) (m := 128) (fun _ => by rfl) (by rfl) (by omega) (by exact congrArg (fun n => ![n, 0, 0]) (off_i i)))⟩)))))))))))
  · exact exists_mem_tail5 (exists_mem_tail5 (exists_mem_tail5 (exists_mem_tail5 (exists_mem_tail5 (exists_mem_tail5 (exists_mem_tail5 (exists_mem_tail (exists_mem_tail (exists_mem_tail (⟨_, List.mem_cons_self, (wmem i y hy (r := 128) (n := 128) (j := 0) (m := 128) (fun _ => by rfl) (by rfl) (by omega) (by exact congrArg (fun n => ![n, 128, 0]) (off_i i)))⟩))))))))))
  · exact exists_mem_tail5 (exists_mem_tail5 (exists_mem_tail5 (exists_mem_tail5 (exists_mem_tail5 (exists_mem_tail5 (exists_mem_tail5 (exists_mem_tail (exists_mem_tail (⟨_, List.mem_cons_self, (wmem i y hy (r := 256) (n := 128) (j := 0) (m := 128) (fun _ => by rfl) (by rfl) (by omega) (by exact congrArg (fun n => ![n, 256, 0]) (off_i i)))⟩)))))))))
  · exact exists_mem_tail5 (exists_mem_tail5 (exists_mem_tail5 (exists_mem_tail5 (exists_mem_tail5 (exists_mem_tail5 (exists_mem_tail5 (exists_mem_tail (⟨_, List.mem_cons_self, (wmem i y hy (r := 384) (n := 128) (j := 0) (m := 128) (fun _ => by rfl) (by rfl) (by omega) (by exact congrArg (fun n => ![n, 384, 0]) (off_i i)))⟩))))))))
  · exact exists_mem_tail5 (exists_mem_tail5 (exists_mem_tail5 (exists_mem_tail5 (exists_mem_tail5 (exists_mem_tail5 (exists_mem_tail5 (⟨_, List.mem_cons_self, (wmem i y hy (r := 512) (n := 64) (j := 0) (m := 128) (fun _ => by rfl) (by rfl) (by omega) (by exact congrArg (fun n => ![n, 512, 0]) (off_i i)))⟩)))))))
  · exact exists_mem_tail5 (exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 128) (m := 128) (fun _ => by rfl) (by rfl) (by omega) (by exact congrArg (fun n => ![n, 0, 128]) (off_i i)))⟩))))))))))
  · exact exists_mem_tail5 (exists_mem_tail5 (exists_mem_tail5 (exists_mem_tail5 (exists_mem_tail5 (exists_mem_tail5 (exists_mem_tail (exists_mem_tail (exists_mem_tail (⟨_, List.mem_cons_self, (wmem i y hy (r := 128) (n := 128) (j := 128) (m := 128) (fun _ => by rfl) (by rfl) (by omega) (by exact congrArg (fun n => ![n, 128, 128]) (off_i i)))⟩)))))))))
  · exact exists_mem_tail5 (exists_mem_tail5 (exists_mem_tail5 (exists_mem_tail5 (exists_mem_tail5 (exists_mem_tail5 (exists_mem_tail (exists_mem_tail (⟨_, List.mem_cons_self, (wmem i y hy (r := 256) (n := 128) (j := 128) (m := 128) (fun _ => by rfl) (by rfl) (by omega) (by exact congrArg (fun n => ![n, 256, 128]) (off_i i)))⟩))))))))
  · exact exists_mem_tail5 (exists_mem_tail5 (exists_mem_tail5 (exists_mem_tail5 (exists_mem_tail5 (exists_mem_tail5 (exists_mem_tail (⟨_, List.mem_cons_self, (wmem i y hy (r := 384) (n := 128) (j := 128) (m := 128) (fun _ => by rfl) (by rfl) (by omega) (by exact congrArg (fun n => ![n, 384, 128]) (off_i i)))⟩)))))))
  · exact exists_mem_tail5 (exists_mem_tail5 (exists_mem_tail5 (exists_mem_tail5 (exists_mem_tail5 (exists_mem_tail5 (⟨_, List.mem_cons_self, (wmem i y hy (r := 512) (n := 64) (j := 128) (m := 128) (fun _ => by rfl) (by rfl) (by omega) (by exact congrArg (fun n => ![n, 512, 128]) (off_i i)))⟩))))))
  · exact exists_mem_tail5 (exists_mem_tail5 (exists_mem_tail5 (exists_mem_tail5 (exists_mem_tail5 (exists_mem_tail (exists_mem_tail (exists_mem_tail (exists_mem_tail (⟨_, List.mem_cons_self, (wmem i y hy (r := 0) (n := 128) (j := 256) (m := 128) (fun _ => by rfl) (by rfl) (by omega) (by exact congrArg (fun n => ![n, 0, 256]) (off_i i)))⟩)))))))))
  · exact exists_mem_tail5 (exists_mem_tail5 (exists_mem_tail5 (exists_mem_tail5 (exists_mem_tail5 (exists_mem_tail (exists_mem_tail (exists_mem_tail (⟨_, List.mem_cons_self, (wmem i y hy (r := 128) (n := 128) (j := 256) (m := 128) (fun _ => by rfl) (by rfl) (by omega) (by exact congrArg (fun n => ![n, 128, 256]) (off_i i)))⟩))))))))
  · exact exists_mem_tail5 (exists_mem_tail5 (exists_mem_tail5 (exists_mem_tail5 (exists_mem_tail5 (exists_mem_tail (exists_mem_tail (⟨_, List.mem_cons_self, (wmem i y hy (r := 256) (n := 128) (j := 256) (m := 128) (fun _ => by rfl) (by rfl) (by omega) (by exact congrArg (fun n => ![n, 256, 256]) (off_i i)))⟩)))))))
  · exact exists_mem_tail5 (exists_mem_tail5 (exists_mem_tail5 (exists_mem_tail5 (exists_mem_tail5 (exists_mem_tail (⟨_, List.mem_cons_self, (wmem i y hy (r := 384) (n := 128) (j := 256) (m := 128) (fun _ => by rfl) (by rfl) (by omega) (by exact congrArg (fun n => ![n, 384, 256]) (off_i i)))⟩))))))
  · exact exists_mem_tail5 (exists_mem_tail5 (exists_mem_tail5 (exists_mem_tail5 (exists_mem_tail5 (⟨_, List.mem_cons_self, (wmem i y hy (r := 512) (n := 64) (j := 256) (m := 128) (fun _ => by rfl) (by rfl) (by omega) (by exact congrArg (fun n => ![n, 512, 256]) (off_i i)))⟩)))))
  · exact exists_mem_tail5 (exists_mem_tail5 (exists_mem_tail5 (exists_mem_tail5 (exists_mem_tail (exists_mem_tail (exists_mem_tail (exists_mem_tail (⟨_, List.mem_cons_self, (wmem i y hy (r := 0) (n := 128) (j := 384) (m := 128) (fun _ => by rfl) (by rfl) (by omega) (by exact congrArg (fun n => ![n, 0, 384]) (off_i i)))⟩))))))))
  · exact exists_mem_tail5 (exists_mem_tail5 (exists_mem_tail5 (exists_mem_tail5 (exists_mem_tail (exists_mem_tail (exists_mem_tail (⟨_, List.mem_cons_self, (wmem i y hy (r := 128) (n := 128) (j := 384) (m := 128) (fun _ => by rfl) (by rfl) (by omega) (by exact congrArg (fun n => ![n, 128, 384]) (off_i i)))⟩)))))))
  · exact exists_mem_tail5 (exists_mem_tail5 (exists_mem_tail5 (exists_mem_tail5 (exists_mem_tail (exists_mem_tail (⟨_, List.mem_cons_self, (wmem i y hy (r := 256) (n := 128) (j := 384) (m := 128) (fun _ => by rfl) (by rfl) (by omega) (by exact congrArg (fun n => ![n, 256, 384]) (off_i i)))⟩))))))
  · exact exists_mem_tail5 (exists_mem_tail5 (exists_mem_tail5 (exists_mem_tail5 (exists_mem_tail (⟨_, List.mem_cons_self, (wmem i y hy (r := 384) (n := 128) (j := 384) (m := 128) (fun _ => by rfl) (by rfl) (by omega) (by exact congrArg (fun n => ![n, 384, 384]) (off_i i)))⟩)))))
  · exact exists_mem_tail5 (exists_mem_tail5 (exists_mem_tail5 (exists_mem_tail5 (⟨_, List.mem_cons_self, (wmem i y hy (r := 512) (n := 64) (j := 384) (m := 128) (fun _ => by rfl) (by rfl) (by omega) (by exact congrArg (fun n => ![n, 512, 384]) (off_i i)))⟩))))
  · exact exists_mem_tail5 (exists_mem_tail5 (exists_mem_tail5 (exists_mem_tail (exists_mem_tail (exists_mem_tail (exists_mem_tail (⟨_, List.mem_cons_self, (wmem i y hy (r := 0) (n := 128) (j := 512) (m := 128) (fun _ => by rfl) (by rfl) (by omega) (by exact congrArg (fun n => ![n, 0, 512]) (off_i i)))⟩)))))))
  · exact exists_mem_tail5 (exists_mem_tail5 (exists_mem_tail5 (exists_mem_tail (exists_mem_tail (exists_mem_tail (⟨_, List.mem_cons_self, (wmem i y hy (r := 128) (n := 128) (j := 512) (m := 128) (fun _ => by rfl) (by rfl) (by omega) (by exact congrArg (fun n => ![n, 128, 512]) (off_i i)))⟩))))))
  · exact exists_mem_tail5 (exists_mem_tail5 (exists_mem_tail5 (exists_mem_tail (exists_mem_tail (⟨_, List.mem_cons_self, (wmem i y hy (r := 256) (n := 128) (j := 512) (m := 128) (fun _ => by rfl) (by rfl) (by omega) (by exact congrArg (fun n => ![n, 256, 512]) (off_i i)))⟩)))))
  · exact exists_mem_tail5 (exists_mem_tail5 (exists_mem_tail5 (exists_mem_tail (⟨_, List.mem_cons_self, (wmem i y hy (r := 384) (n := 128) (j := 512) (m := 128) (fun _ => by rfl) (by rfl) (by omega) (by exact congrArg (fun n => ![n, 384, 512]) (off_i i)))⟩))))
  · exact exists_mem_tail5 (exists_mem_tail5 (exists_mem_tail5 (⟨_, List.mem_cons_self, (wmem i y hy (r := 512) (n := 64) (j := 512) (m := 128) (fun _ => by rfl) (by rfl) (by omega) (by exact congrArg (fun n => ![n, 512, 512]) (off_i i)))⟩)))
  · exact exists_mem_tail5 (exists_mem_tail5 (exists_mem_tail (exists_mem_tail (exists_mem_tail (exists_mem_tail (⟨_, List.mem_cons_self, (wmem i y hy (r := 0) (n := 128) (j := 640) (m := 128) (fun _ => by rfl) (by rfl) (by omega) (by exact congrArg (fun n => ![n, 0, 640]) (off_i i)))⟩))))))
  · exact exists_mem_tail5 (exists_mem_tail5 (exists_mem_tail (exists_mem_tail (exists_mem_tail (⟨_, List.mem_cons_self, (wmem i y hy (r := 128) (n := 128) (j := 640) (m := 128) (fun _ => by rfl) (by rfl) (by omega) (by exact congrArg (fun n => ![n, 128, 640]) (off_i i)))⟩)))))
  · exact exists_mem_tail5 (exists_mem_tail5 (exists_mem_tail (exists_mem_tail (⟨_, List.mem_cons_self, (wmem i y hy (r := 256) (n := 128) (j := 640) (m := 128) (fun _ => by rfl) (by rfl) (by omega) (by exact congrArg (fun n => ![n, 256, 640]) (off_i i)))⟩))))
  · exact exists_mem_tail5 (exists_mem_tail5 (exists_mem_tail (⟨_, List.mem_cons_self, (wmem i y hy (r := 384) (n := 128) (j := 640) (m := 128) (fun _ => by rfl) (by rfl) (by omega) (by exact congrArg (fun n => ![n, 384, 640]) (off_i i)))⟩)))
  · exact exists_mem_tail5 (exists_mem_tail5 (⟨_, List.mem_cons_self, (wmem i y hy (r := 512) (n := 64) (j := 640) (m := 128) (fun _ => by rfl) (by rfl) (by omega) (by exact congrArg (fun n => ![n, 512, 640]) (off_i i)))⟩))
  · exact exists_mem_tail5 (exists_mem_tail (exists_mem_tail (exists_mem_tail (exists_mem_tail (⟨_, List.mem_cons_self, (wmem i y hy (r := 0) (n := 128) (j := 768) (m := 128) (fun _ => by rfl) (by rfl) (by omega) (by exact congrArg (fun n => ![n, 0, 768]) (off_i i)))⟩)))))
  · exact exists_mem_tail5 (exists_mem_tail (exists_mem_tail (exists_mem_tail (⟨_, List.mem_cons_self, (wmem i y hy (r := 128) (n := 128) (j := 768) (m := 128) (fun _ => by rfl) (by rfl) (by omega) (by exact congrArg (fun n => ![n, 128, 768]) (off_i i)))⟩))))
  · exact exists_mem_tail5 (exists_mem_tail (exists_mem_tail (⟨_, List.mem_cons_self, (wmem i y hy (r := 256) (n := 128) (j := 768) (m := 128) (fun _ => by rfl) (by rfl) (by omega) (by exact congrArg (fun n => ![n, 256, 768]) (off_i i)))⟩)))
  · exact exists_mem_tail5 (exists_mem_tail (⟨_, List.mem_cons_self, (wmem i y hy (r := 384) (n := 128) (j := 768) (m := 128) (fun _ => by rfl) (by rfl) (by omega) (by exact congrArg (fun n => ![n, 384, 768]) (off_i i)))⟩))
  · exact exists_mem_tail5 (⟨_, List.mem_cons_self, (wmem i y hy (r := 512) (n := 64) (j := 768) (m := 128) (fun _ => by rfl) (by rfl) (by omega) (by exact congrArg (fun n => ![n, 512, 768]) (off_i i)))⟩)
  · exact exists_mem_tail (exists_mem_tail (exists_mem_tail (exists_mem_tail (⟨_, List.mem_cons_self, (wmem i y hy (r := 0) (n := 128) (j := 896) (m := 128) (fun _ => by rfl) (by rfl) (by omega) (by exact congrArg (fun n => ![n, 0, 896]) (off_i i)))⟩))))
  · exact exists_mem_tail (exists_mem_tail (exists_mem_tail (⟨_, List.mem_cons_self, (wmem i y hy (r := 128) (n := 128) (j := 896) (m := 128) (fun _ => by rfl) (by rfl) (by omega) (by exact congrArg (fun n => ![n, 128, 896]) (off_i i)))⟩)))
  · exact exists_mem_tail (exists_mem_tail (⟨_, List.mem_cons_self, (wmem i y hy (r := 256) (n := 128) (j := 896) (m := 128) (fun _ => by rfl) (by rfl) (by omega) (by exact congrArg (fun n => ![n, 256, 896]) (off_i i)))⟩))
  · exact exists_mem_tail (⟨_, List.mem_cons_self, (wmem i y hy (r := 384) (n := 128) (j := 896) (m := 128) (fun _ => by rfl) (by rfl) (by omega) (by exact congrArg (fun n => ![n, 384, 896]) (off_i i)))⟩)
  · exact ⟨_, List.mem_cons_self, (wmem i y hy (r := 512) (n := 64) (j := 896) (m := 128) (fun _ => by rfl) (by rfl) (by omega) (by exact congrArg (fun n => ![n, 512, 896]) (off_i i)))⟩

/-- No index of another block does. -/
theorem runB_wmiss (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) (y : S7x576x1024.Idx) (hy : (y 0).val ≠ (i 0).val) :
    ∀ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1, y ∉ p.1.set := by
  simp only [runB]
  sl_unfold_words
  refine List.forall_mem_cons.2 ⟨wnot i y hy (fun _ => by rfl) (by rfl) (by exact congrArg (fun n => ![n, 512, 896]) (off_i i)), ?_⟩
  refine List.forall_mem_cons.2 ⟨wnot i y hy (fun _ => by rfl) (by rfl) (by exact congrArg (fun n => ![n, 384, 896]) (off_i i)), ?_⟩
  refine List.forall_mem_cons.2 ⟨wnot i y hy (fun _ => by rfl) (by rfl) (by exact congrArg (fun n => ![n, 256, 896]) (off_i i)), ?_⟩
  refine List.forall_mem_cons.2 ⟨wnot i y hy (fun _ => by rfl) (by rfl) (by exact congrArg (fun n => ![n, 128, 896]) (off_i i)), ?_⟩
  refine List.forall_mem_cons.2 ⟨wnot i y hy (fun _ => by rfl) (by rfl) (by exact congrArg (fun n => ![n, 0, 896]) (off_i i)), ?_⟩
  refine List.forall_mem_cons.2 ⟨wnot i y hy (fun _ => by rfl) (by rfl) (by exact congrArg (fun n => ![n, 512, 768]) (off_i i)), ?_⟩
  refine List.forall_mem_cons.2 ⟨wnot i y hy (fun _ => by rfl) (by rfl) (by exact congrArg (fun n => ![n, 384, 768]) (off_i i)), ?_⟩
  refine List.forall_mem_cons.2 ⟨wnot i y hy (fun _ => by rfl) (by rfl) (by exact congrArg (fun n => ![n, 256, 768]) (off_i i)), ?_⟩
  refine List.forall_mem_cons.2 ⟨wnot i y hy (fun _ => by rfl) (by rfl) (by exact congrArg (fun n => ![n, 128, 768]) (off_i i)), ?_⟩
  refine List.forall_mem_cons.2 ⟨wnot i y hy (fun _ => by rfl) (by rfl) (by exact congrArg (fun n => ![n, 0, 768]) (off_i i)), ?_⟩
  refine List.forall_mem_cons.2 ⟨wnot i y hy (fun _ => by rfl) (by rfl) (by exact congrArg (fun n => ![n, 512, 640]) (off_i i)), ?_⟩
  refine List.forall_mem_cons.2 ⟨wnot i y hy (fun _ => by rfl) (by rfl) (by exact congrArg (fun n => ![n, 384, 640]) (off_i i)), ?_⟩
  refine List.forall_mem_cons.2 ⟨wnot i y hy (fun _ => by rfl) (by rfl) (by exact congrArg (fun n => ![n, 256, 640]) (off_i i)), ?_⟩
  refine List.forall_mem_cons.2 ⟨wnot i y hy (fun _ => by rfl) (by rfl) (by exact congrArg (fun n => ![n, 128, 640]) (off_i i)), ?_⟩
  refine List.forall_mem_cons.2 ⟨wnot i y hy (fun _ => by rfl) (by rfl) (by exact congrArg (fun n => ![n, 0, 640]) (off_i i)), ?_⟩
  refine List.forall_mem_cons.2 ⟨wnot i y hy (fun _ => by rfl) (by rfl) (by exact congrArg (fun n => ![n, 512, 512]) (off_i i)), ?_⟩
  refine List.forall_mem_cons.2 ⟨wnot i y hy (fun _ => by rfl) (by rfl) (by exact congrArg (fun n => ![n, 384, 512]) (off_i i)), ?_⟩
  refine List.forall_mem_cons.2 ⟨wnot i y hy (fun _ => by rfl) (by rfl) (by exact congrArg (fun n => ![n, 256, 512]) (off_i i)), ?_⟩
  refine List.forall_mem_cons.2 ⟨wnot i y hy (fun _ => by rfl) (by rfl) (by exact congrArg (fun n => ![n, 128, 512]) (off_i i)), ?_⟩
  refine List.forall_mem_cons.2 ⟨wnot i y hy (fun _ => by rfl) (by rfl) (by exact congrArg (fun n => ![n, 0, 512]) (off_i i)), ?_⟩
  refine List.forall_mem_cons.2 ⟨wnot i y hy (fun _ => by rfl) (by rfl) (by exact congrArg (fun n => ![n, 512, 384]) (off_i i)), ?_⟩
  refine List.forall_mem_cons.2 ⟨wnot i y hy (fun _ => by rfl) (by rfl) (by exact congrArg (fun n => ![n, 384, 384]) (off_i i)), ?_⟩
  refine List.forall_mem_cons.2 ⟨wnot i y hy (fun _ => by rfl) (by rfl) (by exact congrArg (fun n => ![n, 256, 384]) (off_i i)), ?_⟩
  refine List.forall_mem_cons.2 ⟨wnot i y hy (fun _ => by rfl) (by rfl) (by exact congrArg (fun n => ![n, 128, 384]) (off_i i)), ?_⟩
  refine List.forall_mem_cons.2 ⟨wnot i y hy (fun _ => by rfl) (by rfl) (by exact congrArg (fun n => ![n, 0, 384]) (off_i i)), ?_⟩
  refine List.forall_mem_cons.2 ⟨wnot i y hy (fun _ => by rfl) (by rfl) (by exact congrArg (fun n => ![n, 512, 256]) (off_i i)), ?_⟩
  refine List.forall_mem_cons.2 ⟨wnot i y hy (fun _ => by rfl) (by rfl) (by exact congrArg (fun n => ![n, 384, 256]) (off_i i)), ?_⟩
  refine List.forall_mem_cons.2 ⟨wnot i y hy (fun _ => by rfl) (by rfl) (by exact congrArg (fun n => ![n, 256, 256]) (off_i i)), ?_⟩
  refine List.forall_mem_cons.2 ⟨wnot i y hy (fun _ => by rfl) (by rfl) (by exact congrArg (fun n => ![n, 128, 256]) (off_i i)), ?_⟩
  refine List.forall_mem_cons.2 ⟨wnot i y hy (fun _ => by rfl) (by rfl) (by exact congrArg (fun n => ![n, 0, 256]) (off_i i)), ?_⟩
  refine List.forall_mem_cons.2 ⟨wnot i y hy (fun _ => by rfl) (by rfl) (by exact congrArg (fun n => ![n, 512, 128]) (off_i i)), ?_⟩
  refine List.forall_mem_cons.2 ⟨wnot i y hy (fun _ => by rfl) (by rfl) (by exact congrArg (fun n => ![n, 384, 128]) (off_i i)), ?_⟩
  refine List.forall_mem_cons.2 ⟨wnot i y hy (fun _ => by rfl) (by rfl) (by exact congrArg (fun n => ![n, 256, 128]) (off_i i)), ?_⟩
  refine List.forall_mem_cons.2 ⟨wnot i y hy (fun _ => by rfl) (by rfl) (by exact congrArg (fun n => ![n, 128, 128]) (off_i i)), ?_⟩
  refine List.forall_mem_cons.2 ⟨wnot i y hy (fun _ => by rfl) (by rfl) (by exact congrArg (fun n => ![n, 0, 128]) (off_i i)), ?_⟩
  refine List.forall_mem_cons.2 ⟨wnot i y hy (fun _ => by rfl) (by rfl) (by exact congrArg (fun n => ![n, 512, 0]) (off_i i)), ?_⟩
  refine List.forall_mem_cons.2 ⟨wnot i y hy (fun _ => by rfl) (by rfl) (by exact congrArg (fun n => ![n, 384, 0]) (off_i i)), ?_⟩
  refine List.forall_mem_cons.2 ⟨wnot i y hy (fun _ => by rfl) (by rfl) (by exact congrArg (fun n => ![n, 256, 0]) (off_i i)), ?_⟩
  refine List.forall_mem_cons.2 ⟨wnot i y hy (fun _ => by rfl) (by rfl) (by exact congrArg (fun n => ![n, 128, 0]) (off_i i)), ?_⟩
  refine List.forall_mem_cons.2 ⟨wnot i y hy (fun _ => by rfl) (by rfl) (by exact congrArg (fun n => ![n, 0, 0]) (off_i i)), ?_⟩
  exact fun p hp => absurd hp List.not_mem_nil
end Cert.KernelIdeal.Run

end
-- ==== Proof.Ideal.ValuesB.lean ====
module

public import proofs.«01_k».proof.Proof.Ideal.WeightB
public import proofs.«01_k».proof.Proof.Ideal.Tiles

@[expose] public section

set_option maxRecDepth 16384
set_option maxHeartbeats 400000
set_option pp.maxSteps 150

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runB_xpieces (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) :
    ∀ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).1, ∀ x : p.1.shape.Idx, p.2 x = xwBlk (i 0).val xs x0 (p.1.emb x) := by
  have hi := cond2_lt i hc2
  have hx : View.readAt (Elt F) arg14.view (Rect.unit ![0, 0] S1536x128.size inb_S1536x128_S1536x128_0_0).toLoadRect (harg14.unread xs) = xs := by
    rw [View.readAt_eq_ld, harg14.read_unread]; exact View.ld_unit_zero (by decide) _ _
  simp only [runB]
  sl_unfold_words
  refine List.forall_mem_cons.2 ⟨fun x => xtile harg1 i hi xs hx x0 7 (by decide) (off := ![0, 896]) (by rfl) (by rfl) x (fun a => by rw [Rect.emb_apply]; exact congrArg (_ + ·) (Nat.one_mul _)), ?_⟩
  refine List.forall_mem_cons.2 ⟨fun x => xtile harg1 i hi xs hx x0 6 (by decide) (off := ![0, 768]) (by rfl) (by rfl) x (fun a => by rw [Rect.emb_apply]; exact congrArg (_ + ·) (Nat.one_mul _)), ?_⟩
  refine List.forall_mem_cons.2 ⟨fun x => xtile harg1 i hi xs hx x0 5 (by decide) (off := ![0, 640]) (by rfl) (by rfl) x (fun a => by rw [Rect.emb_apply]; exact congrArg (_ + ·) (Nat.one_mul _)), ?_⟩
  refine List.forall_mem_cons.2 ⟨fun x => xtile harg1 i hi xs hx x0 4 (by decide) (off := ![0, 512]) (by rfl) (by rfl) x (fun a => by rw [Rect.emb_apply]; exact congrArg (_ + ·) (Nat.one_mul _)), ?_⟩
  refine List.forall_mem_cons.2 ⟨fun x => xtile harg1 i hi xs hx x0 3 (by decide) (off := ![0, 384]) (by rfl) (by rfl) x (fun a => by rw [Rect.emb_apply]; exact congrArg (_ + ·) (Nat.one_mul _)), ?_⟩
  refine List.forall_mem_cons.2 ⟨fun x => xtile harg1 i hi xs hx x0 2 (by decide) (off := ![0, 256]) (by rfl) (by rfl) x (fun a => by rw [Rect.emb_apply]; exact congrArg (_ + ·) (Nat.one_mul _)), ?_⟩
  refine List.forall_mem_cons.2 ⟨fun x => xtile harg1 i hi xs hx x0 1 (by decide) (off := ![0, 128]) (by rfl) (by rfl) x (fun a => by rw [Rect.emb_apply]; exact congrArg (_ + ·) (Nat.one_mul _)), ?_⟩
  refine List.forall_mem_cons.2 ⟨fun x => xtile harg1 i hi xs hx x0 0 (by decide) (off := ![0, 0]) (by rfl) (by rfl) x (fun a => by rw [Rect.emb_apply]; exact congrArg (_ + ·) (Nat.one_mul _)), ?_⟩
  exact fun p hp => absurd hp List.not_mem_nil

theorem runB_xw (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) : View.canon (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).1 = xwBlk (i 0).val xs x0 := by
  funext y
  have h := View.canon_append_of_pieces (xwBlk (i 0).val xs x0) [] _ (runB_xpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs) y (View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).1 S1536x128.size (by sl_kernel_rfl) y)
  rwa [List.append_nil] at h

theorem runB_cs (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) :
    View.canon (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.2.1 = k0_pay4 cs (xwBlk (i 0).val xs x0) (wRows x2 x3 (i 0).val (cond2_lt i hc2)) := by
  have hL : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.2.1 = ⟨Rect.unit ![0, 0] S1536x512.size inb_S1536x512_S1536x512_0_0, k0_pay4 (View.readAt (Elt F) arg17.view (Rect.unit ![0, 0] S1536x512.size inb_S1536x512_S1536x512_0_0).toLoadRect (harg17.unread cs)) (arg15.view.readCov (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).1 (Rect.unit ![0, 0] S1536x1024.size inb_S1536x1024_S1536x1024_0_0).toLoadRect) (arg16.view.readCov (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1 (Rect.unit (s := S7x576x1024) (k0_off46 i) S1x512x1024.size (k0_off46_inb i hc2)).toLoadRect)⟩ :: [] := rfl
  have h0 : View.readAt (Elt F) arg17.view (Rect.unit ![0, 0] S1536x512.size inb_S1536x512_S1536x512_0_0).toLoadRect (harg17.unread cs) = cs := by
    rw [View.readAt_eq_ld, harg17.read_unread]; exact View.ld_unit_zero (by decide) _ _
  have h1 : arg15.view.readCov (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).1 (Rect.unit ![0, 0] S1536x1024.size inb_S1536x1024_S1536x1024_0_0).toLoadRect = xwBlk (i 0).val xs x0 := by
    rw [View.readCov_eq_canon', runB_xw c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs]; funext j; exact congrArg (xwBlk (i 0).val xs x0) (funext fun a => Fin.ext (by fin_cases a <;> exact (Nat.zero_add _).trans (Nat.one_mul _)))
  have h2 : arg16.view.readCov (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1 (Rect.unit (s := S7x576x1024) (k0_off46 i) S1x512x1024.size (k0_off46_inb i hc2)).toLoadRect = wRows x2 x3 (i 0).val (cond2_lt i hc2) := by
    rw [View.readCov_eq_canon']; funext j
    have e0 : ((Rect.unit (s := S7x576x1024) (k0_off46 i) S1x512x1024.size (k0_off46_inb i hc2)).toLoadRect.idx j 0).val = (i 0).val := by
      have : (j 0).val < 1 := (j 0).isLt
      show k0_off46 i 0 + 1 * (j 0).val = _
      have := off_i i
      show BitVec.toNat (Scalar.indexCast (BitVec.ofNat 32 (i 0).val)) + 1 * (j 0).val = _
      omega
    have h := View.canon_append_of_pieces (wAll x2 x3) [] _ (runB_wpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs) _ (runB_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs _ e0)
    rw [List.append_nil] at h
    rw [h]
    refine congrArg (wAll x2 x3) (funext fun a => Fin.ext ?_)
    fin_cases a
    · exact e0
    · exact (Nat.zero_add _).trans (Nat.one_mul _)
    · exact (Nat.zero_add _).trans (Nat.one_mul _)
  rw [hL, h0, h1, h2]
  exact View.canon_cons_unit_lit _ _ _ (by decide)
end Cert.KernelIdeal.Run

end
-- ==== Proof.Ideal.StepB.lean ====
module

public import proofs.«01_k».proof.Proof.Ideal.ValuesB
public import proofs.«01_k».proof.Proof.Ideal.Tiles

@[expose] public section

set_option maxRecDepth 16384
set_option maxHeartbeats 1000000
set_option pp.maxSteps 150

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runB_wread (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) (y : S7x576x1024.Idx) :
    arg16.view.read (Elt F) (arg16.view.writes (Elt F) (harg16.unread w) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.1) y = if (y 0).val = (i 0).val then wAll x2 x3 y else w y := by
  split
  · rename_i hy
    rw [View.read_writes_apply_eq_canon _ _ _ _ (runB_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs y hy)]
    have h := View.canon_append_of_pieces (wAll x2 x3) [] _ (runB_wpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs) _ (runB_wcover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs y hy)
    rwa [List.append_nil] at h
  · rename_i hy
    rw [View.read_writes_apply_of_forall_not_mem _ _ _ _ (runB_wmiss c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs y hy), harg16.read_unread]

theorem runB_ccover (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) (y : S1536x512.Idx) : ∃ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.2.1, y ∈ p.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.2.1 S1536x512.size (by sl_kernel_rfl) y

set_option maxHeartbeats 4000000 in
/-- The body's triple at such a point, each buffer it touches held whole before and after. -/
theorem stepB (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : cond2 i) (hc3 : ¬cond3 i)
    (x0 : Vec F S6x256x1024 .fp8e4m3) (x2 : Vec F S576x1024 .fp8e4m3) (x3 : Vec F S5x56 .f32) (xs : Vec F S1536x128 .bf16) (w : Vec F S7x576x1024 .bf16) (cs : Vec F S1536x512 .f32) (E : Set ℕ) (K : PUnit → sProp 𝕄) :
    iprop(owns (c : Thread nD τ) arg1 fullShare x0 ∗ owns (c : Thread nD τ) arg3 fullShare x2 ∗ owns (c : Thread nD τ) arg4 fullShare x3 ∗ owns (c : Thread nD τ) arg14 fullShare xs ∗ (∃ d, owns (c : Thread nD τ) arg15 fullShare d) ∗ owns (c : Thread nD τ) arg16 fullShare w ∗ owns (c : Thread nD τ) arg17 fullShare cs
      ∗ (iprop(owns (c : Thread nD τ) arg1 fullShare x0 ∗ owns (c : Thread nD τ) arg3 fullShare x2 ∗ owns (c : Thread nD τ) arg4 fullShare x3 ∗ owns (c : Thread nD τ) arg14 fullShare xs ∗ (∃ d, owns (c : Thread nD τ) arg15 fullShare d) ∗ (∃ w2 : Vec F S7x576x1024 .bf16, ⌜∀ y, w2 y = if (y 0).val = (i 0).val then wAll x2 x3 y else w y⌝ ∗ owns (c : Thread nD τ) arg16 fullShare w2) ∗ owns (c : Thread nD τ) arg17 fullShare (k0_pay4 cs (xwBlk (i 0).val xs x0) (wRows x2 x3 (i 0).val (cond2_lt i hc2)))) -∗ K ⟨⟩))
    ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H1, H3, H4, H14, H15, H16, H17, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs).2.2.2 E K)
  isplitl [H1]; · iexact H1
  isplitl [H3]; · iexact H3
  isplitl [H4]; · iexact H4
  isplitl [H14]; · iexact H14
  isplitl [H15]; · iexact H15
  isplitl [H16]; · iexact H16
  isplitl [H17]; · iexact H17
  iintro ⟨H1, H3, H4, H14, ⟨%f15, H15⟩, H16, H17⟩
  iapply Hk
  isplitl [H1]
  · iexact H1
  isplitl [H3]
  · iexact H3
  isplitl [H4]
  · iexact H4
  isplitl [H14]
  · iexact H14
  isplitl [H15]
  · iexists _; unfold owns; iexists _; isplitr
    swap; · iexact H15
    ipureintro; rfl
  isplitl [H16]
  · iexists _; isplitr
    swap
    · unfold owns; iexists _; isplitr
      swap; · iexact H16
      ipureintro; rfl
    ipureintro; exact runB_wread c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs
  unfold owns; iexists _; isplitr
  swap; · iexact H17
  ipureintro; exact (View.read_writes_eq_canon _ _ _ (runB_ccover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs)).trans (runB_cs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x0 x2 x3 xs w cs)

end Cert.KernelIdeal.Run

end
-- ==== Proof.Ideal.RunC.lean ====
module

public import proofs.«01_k».proof.Proof.Ideal.Cond

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a point of the second phase, on whole buffers: it leaves its inputs, the dequantised weights and the accumulated projection as they were, and the four outputs and the scratch of quantised gradients at the stores listed here. -/
noncomputable def runC (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) :
    Σ' (L10 : List (View.Piece (Elt F) S1x256x7168 .bf16)), Σ' (L11 : List (View.Piece (Elt F) S1x2x512 .f32)), Σ' (L12 : List (View.Piece (Elt F) S1x256x576 .fp8e5m2)), Σ' (L13 : List (View.Piece (Elt F) S1x256x5 .f32)), { L18 : List (View.Piece (Elt F) S256x576 .bf16) //
      ∀ (E : Set ℕ) (K : PUnit → sProp 𝕄),
        iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg16 fullShare w ∗ owns (c : Thread nD τ) arg17 fullShare cs ∗ (∃ d, owns (c : Thread nD τ) arg18 fullShare d)
            ∗ (iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ owns (c : Thread nD τ) arg16 fullShare w ∗ owns (c : Thread nD τ) arg17 fullShare cs ∗ (∃ f, arg18.view.loc (c : Thread nD τ) ↦[arg18.view.set]{fullShare} arg18.view.writes (Elt F) f L18)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_mla_kv_bwd_eq_skeleton]; unfold cc0_mla_kv_bwd_skel
    unfold owns
    iintro ⟨⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f16, %hf16, H16⟩, ⟨%f17, %hf17, H17⟩, ⟨%d18, %f18, -, H18⟩, Hk⟩
    obtain rfl := harg5.eq_unread hf5; obtain rfl := harg6.eq_unread hf6; obtain rfl := harg7.eq_unread hf7; obtain rfl := harg8.eq_unread hf8; obtain rfl := harg9.eq_unread hf9; obtain rfl := harg16.eq_unread hf16; obtain rfl := harg17.eq_unread hf17
    sl_exec (disch := first | sl_exact hc1 | sl_exact hc2 | sl_exact hc3)
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    isplitl [H13]
    · iexists _; iexact H13
    isplitl [H16]
    · iexists _; isplitr; · ipureintro; exact harg16.read_unread _
      iexact H16
    isplitl [H17]
    · iexists _; isplitr; · ipureintro; exact harg17.read_unread _
      iexact H17
    iexists _; iexact H18

end Cert.KernelIdeal.Run

end
-- ==== Proof.Ideal.StepC.lean ====
module

public import proofs.«01_k».proof.Proof.Ideal.RunC
public import proofs.«01_k».proof.Proof.Ideal.Tiles

@[expose] public section

set_option maxRecDepth 16384
set_option maxHeartbeats 1000000
set_option pp.maxSteps 150

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runC_cover10 (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) (y : S1x256x7168.Idx) : ∃ p ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).1, y ∈ p.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).1 S1x256x1024.size (by sl_kernel_rfl) y

theorem runC_cover11 (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) (y : S1x2x512.Idx) : ∃ p ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.1, y ∈ p.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.1 S1x2x512.size (by sl_kernel_rfl) y

theorem runC_cover12 (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) (y : S1x256x576.Idx) : ∃ p ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.1, y ∈ p.1.set :=
  View.cover_of_tiledBy (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.1 S1x256x64.size (by sl_kernel_rfl) y

theorem runC_cover13 (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) (y : S1x256x5.Idx) : ∃ p ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.2.1, y ∈ p.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.2.1 S1x256x5.size (by sl_kernel_rfl) y

set_option maxHeartbeats 4000000 in
/-- The body's triple at such a point, each buffer it touches held whole before and after. -/
theorem stepC (c : Dev nD) (i : grid0.Coords) (arg1 : Memref sig .tc .vmem S6x256x1024 .fp8e4m3) (harg1 : arg1.IsWhole) (arg2 : Memref sig .tc .vmem S6x256x56 .f32) (harg2 : arg2.IsWhole) (arg3 : Memref sig .tc .vmem S576x1024 .fp8e4m3) (harg3 : arg3.IsWhole) (arg4 : Memref sig .tc .smem S5x56 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x1x256 .i32) (harg7 : arg7.IsWhole) (arg8 : Memref sig .tc .vmem S1x256x512 .bf16) (harg8 : arg8.IsWhole) (arg9 : Memref sig .tc .vmem S1x256x64 .bf16) (harg9 : arg9.IsWhole) (arg10 : Memref sig .tc .vmem S1x256x7168 .bf16) (harg10 : arg10.IsWhole) (arg11 : Memref sig .tc .vmem S1x2x512 .f32) (harg11 : arg11.IsWhole) (arg12 : Memref sig .tc .vmem S1x256x576 .fp8e5m2) (harg12 : arg12.IsWhole) (arg13 : Memref sig .tc .vmem S1x256x5 .f32) (harg13 : arg13.IsWhole) (arg14 : Memref sig .tc .vmem S1536x128 .bf16) (harg14 : arg14.IsWhole) (arg15 : Memref sig .tc .vmem S1536x1024 .bf16) (harg15 : arg15.IsWhole) (arg16 : Memref sig .tc .vmem S7x576x1024 .bf16) (harg16 : arg16.IsWhole) (arg17 : Memref sig .tc .vmem S1536x512 .f32) (harg17 : arg17.IsWhole) (arg18 : Memref sig .tc .vmem S256x576 .bf16) (harg18 : arg18.IsWhole) (hc1 : ¬cond1 i) (hc2 : ¬cond2 i) (hc3 : cond3 i)
    (x4 : Vec F S1x512 .f32) (x5 : Vec F S1x64 .f32) (x6 : Vec F S1x1x256 .i32) (x7 : Vec F S1x256x512 .bf16) (x8 : Vec F S1x256x64 .bf16) (w : Vec F S7x576x1024 .bf16) (cs : Vec F S1536x512 .f32) (E : Set ℕ) (K : PUnit → sProp 𝕄) :
    iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg16 fullShare w ∗ owns (c : Thread nD τ) arg17 fullShare cs ∗ (∃ d, owns (c : Thread nD τ) arg18 fullShare d)
      ∗ (iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).1) ∗ owns (c : Thread nD τ) arg11 fullShare (View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.1) ∗ owns (c : Thread nD τ) arg12 fullShare (View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.1) ∗ owns (c : Thread nD τ) arg13 fullShare (View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.2.1) ∗ owns (c : Thread nD τ) arg16 fullShare w ∗ owns (c : Thread nD τ) arg17 fullShare cs ∗ (∃ d, owns (c : Thread nD τ) arg18 fullShare d)) -∗ K ⟨⟩))
    ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H5, H6, H7, H8, H9, H10, H11, H12, H13, H16, H17, H18, Hk⟩
  iapply ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.2.2.2 E K)
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H16]; · iexact H16
  isplitl [H17]; · iexact H17
  isplitl [H18]; · iexact H18
  iintro ⟨H5, H6, H7, H8, H9, ⟨%f10, H10⟩, ⟨%f11, H11⟩, ⟨%f12, H12⟩, ⟨%f13, H13⟩, H16, H17, ⟨%f18, H18⟩⟩
  iapply Hk
  isplitl [H5]
  · iexact H5
  isplitl [H6]
  · iexact H6
  isplitl [H7]
  · iexact H7
  isplitl [H8]
  · iexact H8
  isplitl [H9]
  · iexact H9
  isplitl [H10]
  · unfold owns; iexists _; isplitr
    swap; · iexact H10
    ipureintro; exact View.read_writes_eq_canon _ _ _ (runC_cover10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs)
  isplitl [H11]
  · unfold owns; iexists _; isplitr
    swap; · iexact H11
    ipureintro; exact View.read_writes_eq_canon _ _ _ (runC_cover11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs)
  isplitl [H12]
  · unfold owns; iexists _; isplitr
    swap; · iexact H12
    ipureintro; exact View.read_writes_eq_canon _ _ _ (runC_cover12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs)
  isplitl [H13]
  · unfold owns; iexists _; isplitr
    swap; · iexact H13
    ipureintro; exact View.read_writes_eq_canon _ _ _ (runC_cover13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs)
  isplitl [H16]
  · iexact H16
  isplitl [H17]
  · iexact H17
  iexists _; unfold owns; iexists _; isplitr
  swap; · iexact H18
  ipureintro; rfl

end Cert.KernelIdeal.Run

end
-- ==== Proof.Ideal.Frame.lean ====
module

public import proofs.«01_k».proof.Proof.Gen.KernelIdeal.Frame
public import proofs.«01_k».proof.Proof.Ideal.StepA
public import proofs.«01_k».proof.Proof.Ideal.StepB
public import proofs.«01_k».proof.Proof.Ideal.StepC

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N13 : cfg0.N = 13 := N_0

/-- The grid's one coordinate at point `t` is `t`. -/
theorem coords0 : ∀ t : Fin cfg0.N, (grid0.coords t 0).val = t.val :=
  (by decide +kernel : ∀ t : Fin grid0.N, (grid0.coords t 0).val = t.val)

/-- The point of number `k`. -/
def pt (k : ℕ) (hk : k < 13) : Fin cfg0.N := ⟨k, lt_of_lt_of_eq hk N_0.symm⟩

/-- The token scales as staged at the first point. -/
def XS (c : Dev nD) : Vec F S1536x128 .bf16 := xsv (iblk m c 1 (pt 0 (by decide)))

/-- The dequantised weight, all seven blocks of it. -/
def Wfull (c : Dev nD) : Vec F S7x576x1024 .bf16 := fun y =>
  wAll (iblk m c 2 (pt (y 0).val (lt_trans (y 0).isLt (by decide)))) (iblk m c 3 (pt (y 0).val (lt_trans (y 0).isLt (by decide)))) y

/-- The accumulator after `n` points of the first phase. -/
def Cn (c : Dev nD) : ℕ → Vec F S1536x512 .f32
  | 0 => k0_pay1
  | n + 1 => if h : n < 7 then k0_pay4 (Cn c n) (xwBlk n (XS m c) (iblk m c 0 (pt n (by omega)))) (wRows (iblk m c 2 (pt n (by omega))) (iblk m c 3 (pt n (by omega))) n h) else Cn c n

theorem Cn_succ (c : Dev nD) (n : ℕ) (h : n < 7) : Cn m c (n + 1) = k0_pay4 (Cn m c n) (xwBlk n (XS m c) (iblk m c 0 (pt n (by omega)))) (wRows (iblk m c 2 (pt n (by omega))) (iblk m c 3 (pt n (by omega))) n h) := by
  rw [Cn, dif_pos h]

/-- The same at a point `t`, whose coordinate is its number. -/
theorem Cn_at (c : Dev nD) (t : Fin cfg0.N) (h : t.val < 7) (j : ℕ) (hj : j < 7) (he : j = t.val) :
    Cn m c (t.val + 1) = k0_pay4 (Cn m c t.val) (xwBlk j (XS m c) (iblk m c 0 t)) (wRows (iblk m c 2 t) (iblk m c 3 t) j hj) := by
  subst he
  exact Cn_succ m c t.val h

theorem Cn_const (c : Dev nD) (n : ℕ) (h : 7 ≤ n) : Cn m c n = Cn m c 7 := by
  induction n, h using Nat.le_induction with
  | base => rfl
  | succ n hn ih => rw [Cn, dif_neg (by omega), ih]

/-- What the second phase's point `t` leaves in result 0's block. -/
def out10 (c : Dev nD) (t : Fin cfg0.N) : Vec F S1x256x7168 .bf16 :=
  if h : 7 ≤ t.val then View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).1 else View.canon (Val := Elt F) []

/-- What the second phase's point `t` leaves in result 1's block. -/
def out11 (c : Dev nD) (t : Fin cfg0.N) : Vec F S1x2x512 .f32 :=
  if h : 7 ≤ t.val then View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.1 else View.canon (Val := Elt F) []

/-- What the second phase's point `t` leaves in result 2's block. -/
def out12 (c : Dev nD) (t : Fin cfg0.N) : Vec F S1x256x576 .fp8e5m2 :=
  if h : 7 ≤ t.val then View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.2.1 else View.canon (Val := Elt F) []

/-- What the second phase's point `t` leaves in result 3's block. -/
def out13 (c : Dev nD) (t : Fin cfg0.N) : Vec F S1x256x5 .f32 :=
  if h : 7 ≤ t.val then View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.2.2.1 else View.canon (Val := Elt F) []

abbrev scM0_0 : Memref sig .tc .vmem S1536x128 .bf16 := Memref.whole cc0_scratch0
abbrev scM0_1 : Memref sig .tc .vmem S1536x1024 .bf16 := Memref.whole cc0_scratch1
abbrev scM0_2 : Memref sig .tc .vmem S7x576x1024 .bf16 := Memref.whole cc0_scratch2
abbrev scM0_3 : Memref sig .tc .vmem S1536x512 .f32 := Memref.whole cc0_scratch3
abbrev scM0_4 : Memref sig .tc .vmem S256x576 .bf16 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The body's invariant: after `n` points the staged scales, the weight blocks dequantised so far and the
    accumulator are known; the other two scratch buffers hold anything. -/
def PhiS (c : Dev nD) : (n : ℕ) → n ≤ cfg0.N → sProp 𝕄
  | 0, _ => Pipeline.ΦA spec0 c
  | n + 1, hn => iprop(∃ w : Vec F S7x576x1024 .bf16, ⌜∀ y : S7x576x1024.Idx, (y 0).val < n + 1 → w y = Wfull m c y⌝
      ∗ owns (c : Thread nD τ) scM0_0 fullShare (XS m c) ∗ (∃ d, owns (c : Thread nD τ) scM0_1 fullShare d)
      ∗ owns (c : Thread nD τ) scM0_2 fullShare w ∗ owns (c : Thread nD τ) scM0_3 fullShare (Cn m c (n + 1))
      ∗ (∃ d, owns (c : Thread nD τ) scM0_4 fullShare d) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(∃ w : Vec F S7x576x1024 .bf16, ⌜∀ y : S7x576x1024.Idx, (y 0).val < n + 1 → w y = Wfull m c y⌝
      ∗ owns (c : Thread nD τ) scM0_0 fullShare (XS m c) ∗ (∃ d, owns (c : Thread nD τ) scM0_1 fullShare d)
      ∗ owns (c : Thread nD τ) scM0_2 fullShare w ∗ owns (c : Thread nD τ) scM0_3 fullShare (Cn m c (n + 1))
      ∗ (∃ d, owns (c : Thread nD τ) scM0_4 fullShare d) ∗ (∃ r, prngReg c r)) := rfl

theorem PhiS_pos (c : Dev nD) (n : ℕ) (h : n ≤ cfg0.N) (hz : n ≠ 0) :
    PhiS m c n h = iprop(∃ w : Vec F S7x576x1024 .bf16, ⌜∀ y : S7x576x1024.Idx, (y 0).val < n → w y = Wfull m c y⌝
      ∗ owns (c : Thread nD τ) scM0_0 fullShare (XS m c) ∗ (∃ d, owns (c : Thread nD τ) scM0_1 fullShare d)
      ∗ owns (c : Thread nD τ) scM0_2 fullShare w ∗ owns (c : Thread nD τ) scM0_3 fullShare (Cn m c n)
      ∗ (∃ d, owns (c : Thread nD τ) scM0_4 fullShare d) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out10 m c t
    | ⟨10, _⟩ => out11 m c t
    | ⟨11, _⟩ => out12 m c t
    | ⟨12, _⟩ => out13 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out10 m c t := by dsimp only [dats]
theorem after0_10 (c : Dev nD) (t : Fin cfg0.N) : (dats m 0 c).after 10 t = out11 m c t := by dsimp only [dats]
theorem after0_11 (c : Dev nD) (t : Fin cfg0.N) : (dats m 0 c).after 11 t = out12 m c t := by dsimp only [dats]
theorem after0_12 (c : Dev nD) (t : Fin cfg0.N) : (dats m 0 c).after 12 t = out13 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, 7 ≤ t.val → cfg0.idle 9 (grid0.coords t) = false := by decide +kernel
theorem idleAt0_9 : ∀ t : Fin cfg0.N, t.val < 7 → cfg0.idle 9 (grid0.coords t) = true := by decide +kernel
theorem noFlush0_9 : ∀ t : Fin cfg0.N, t.val < 7 → (cfg0.win 9).flush t = false := by decide +kernel
theorem liveAt0_10 : ∀ t : Fin cfg0.N, 7 ≤ t.val → cfg0.idle 10 (grid0.coords t) = false := by decide +kernel
theorem idleAt0_10 : ∀ t : Fin cfg0.N, t.val < 7 → cfg0.idle 10 (grid0.coords t) = true := by decide +kernel
theorem noFlush0_10 : ∀ t : Fin cfg0.N, t.val < 7 → (cfg0.win 10).flush t = false := by decide +kernel
theorem liveAt0_11 : ∀ t : Fin cfg0.N, 7 ≤ t.val → cfg0.idle 11 (grid0.coords t) = false := by decide +kernel
theorem idleAt0_11 : ∀ t : Fin cfg0.N, t.val < 7 → cfg0.idle 11 (grid0.coords t) = true := by decide +kernel
theorem noFlush0_11 : ∀ t : Fin cfg0.N, t.val < 7 → (cfg0.win 11).flush t = false := by decide +kernel
theorem liveAt0_12 : ∀ t : Fin cfg0.N, 7 ≤ t.val → cfg0.idle 12 (grid0.coords t) = false := by decide +kernel
theorem idleAt0_12 : ∀ t : Fin cfg0.N, t.val < 7 → cfg0.idle 12 (grid0.coords t) = true := by decide +kernel
theorem noFlush0_12 : ∀ t : Fin cfg0.N, t.val < 7 → (cfg0.win 12).flush t = false := by decide +kernel

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0_0 (c : Dev nD) (t : Fin cfg0.N) : (dats m 0 c).leavesExact 0 t = owns (c : Thread nD τ) (win0_0.stage (cfg0.slots t 0)) fullShare (iblk m c 0 t) := by
  unfold Dat.leavesExact; rw [liveAt0_0 t, after0_0]

theorem leaves0_1 (c : Dev nD) (t : Fin cfg0.N) : (dats m 0 c).leavesExact 1 t = owns (c : Thread nD τ) (win0_1.stage (cfg0.slots t 1)) fullShare (iblk m c 1 t) := by
  unfold Dat.leavesExact; rw [liveAt0_1 t, after0_1]

theorem leaves0_2 (c : Dev nD) (t : Fin cfg0.N) : (dats m 0 c).leavesExact 2 t = owns (c : Thread nD τ) (win0_2.stage (cfg0.slots t 2)) fullShare (iblk m c 2 t) := by
  unfold Dat.leavesExact; rw [liveAt0_2 t, after0_2]

theorem leaves0_3 (c : Dev nD) (t : Fin cfg0.N) : (dats m 0 c).leavesExact 3 t = owns (c : Thread nD τ) (win0_3.stage (cfg0.slots t 3)) fullShare (iblk m c 3 t) := by
  unfold Dat.leavesExact; rw [liveAt0_3 t, after0_3]

theorem leaves0_4 (c : Dev nD) (t : Fin cfg0.N) : (dats m 0 c).leavesExact 4 t = owns (c : Thread nD τ) (win0_4.stage (cfg0.slots t 4)) fullShare (iblk m c 4 t) := by
  unfold Dat.leavesExact; rw [liveAt0_4 t, after0_4]

theorem leaves0_5 (c : Dev nD) (t : Fin cfg0.N) : (dats m 0 c).leavesExact 5 t = owns (c : Thread nD τ) (win0_5.stage (cfg0.slots t 5)) fullShare (iblk m c 5 t) := by
  unfold Dat.leavesExact; rw [liveAt0_5 t, after0_5]

theorem leaves0_6 (c : Dev nD) (t : Fin cfg0.N) : (dats m 0 c).leavesExact 6 t = owns (c : Thread nD τ) (win0_6.stage (cfg0.slots t 6)) fullShare (iblk m c 6 t) := by
  unfold Dat.leavesExact; rw [liveAt0_6 t, after0_6]

theorem leaves0_7 (c : Dev nD) (t : Fin cfg0.N) : (dats m 0 c).leavesExact 7 t = owns (c : Thread nD τ) (win0_7.stage (cfg0.slots t 7)) fullShare (iblk m c 7 t) := by
  unfold Dat.leavesExact; rw [liveAt0_7 t, after0_7]

theorem leaves0_8 (c : Dev nD) (t : Fin cfg0.N) : (dats m 0 c).leavesExact 8 t = owns (c : Thread nD τ) (win0_8.stage (cfg0.slots t 8)) fullShare (iblk m c 8 t) := by
  unfold Dat.leavesExact; rw [liveAt0_8 t, after0_8]

theorem leaves0_9 (c : Dev nD) (t : Fin cfg0.N) (h : 7 ≤ t.val) : (dats m 0 c).leavesExact 9 t = owns (c : Thread nD τ) (win0_9.stage (cfg0.slots t 9)) fullShare (out10 m c t) := by
  unfold Dat.leavesExact; rw [liveAt0_9 t h, after0_9]

theorem leaves0_10 (c : Dev nD) (t : Fin cfg0.N) (h : 7 ≤ t.val) : (dats m 0 c).leavesExact 10 t = owns (c : Thread nD τ) (win0_10.stage (cfg0.slots t 10)) fullShare (out11 m c t) := by
  unfold Dat.leavesExact; rw [liveAt0_10 t h, after0_10]

theorem leaves0_11 (c : Dev nD) (t : Fin cfg0.N) (h : 7 ≤ t.val) : (dats m 0 c).leavesExact 11 t = owns (c : Thread nD τ) (win0_11.stage (cfg0.slots t 11)) fullShare (out12 m c t) := by
  unfold Dat.leavesExact; rw [liveAt0_11 t h, after0_11]

theorem leaves0_12 (c : Dev nD) (t : Fin cfg0.N) (h : 7 ≤ t.val) : (dats m 0 c).leavesExact 12 t = owns (c : Thread nD τ) (win0_12.stage (cfg0.slots t 12)) fullShare (out13 m c t) := by
  unfold Dat.leavesExact; rw [liveAt0_12 t h, after0_12]

theorem W_eq (c : Dev nD) (t : Fin cfg0.N) (h : t.val < 7) (y : S7x576x1024.Idx) (hy : (y 0).val = t.val) :
    wAll (iblk m c 2 t) (iblk m c 3 t) y = Wfull m c y := by
  obtain ⟨n, hn⟩ := t
  simp only at hy h
  subst hy
  rfl

set_option maxHeartbeats 4000000 in
theorem sound_bodyA (c : Dev nD) (t : Fin cfg0.N) (hz : t.val = 0) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [Dat.leavesExact_idle (dats m 0 c) 9 t (idleAt0_9 t (by omega)) (noFlush0_9 t (by omega))]
  rw [Dat.leavesExact_idle (dats m 0 c) 10 t (idleAt0_10 t (by omega)) (noFlush0_10 t (by omega))]
  rw [Dat.leavesExact_idle (dats m 0 c) 11 t (idleAt0_11 t (by omega)) (noFlush0_11 t (by omega))]
  rw [Dat.leavesExact_idle (dats m 0 c) 12 t (idleAt0_12 t (by omega)) (noFlush0_12 t (by omega))]
  rw [PhiS_castSucc m c t, PhiS_zero m c _ _ hz, PhiA0_eq]
  have hX : XS m c = xsv (iblk m c 1 t) := by unfold XS; rw [show t = pt 0 (by decide) from Fin.ext hz]
  have hC : Cn m c (t.val + 1) = k0_pay4 (k0_pay1 (F := F)) (xwBlk (grid0.coords t 0).val (xsv (iblk m c 1 t)) (iblk m c 0 t)) (wRows (iblk m c 2 t) (iblk m c 3 t) (grid0.coords t 0).val (cond2_lt (grid0.coords t) ((hcond2 t).mpr (by omega)))) := by
    rw [Cn_at m c t (by omega) (grid0.coords t 0).val (cond2_lt (grid0.coords t) ((hcond2 t).mpr (by omega))) (coords0 t), ← hX]
    rw [show Cn m c t.val = k0_pay1 from (congrArg (Cn m c) hz).trans rfl]
  rw [hX, hC]
  iintro ⟨⟨⟨HS0, HS1, ⟨%w, HS2⟩, HS3, HS4⟩, Hg⟩, Ho, ⟨%d0, D0⟩, ⟨%d1, D1⟩, ⟨%d2, D2⟩, ⟨%d3, D3⟩, ⟨%d4, D4⟩, ⟨%d5, D5⟩, ⟨%d6, D6⟩, ⟨%d7, D7⟩, ⟨%d8, D8⟩, ⟨%d9, D9⟩, ⟨%d10, D10⟩, ⟨%d11, D11⟩, ⟨%d12, D12⟩⟩
  iapply (stepA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond1 t).mpr hz) ((hcond2 t).mpr (by omega)) (fun h0 => absurd ((hcond3 t).mp h0) (by omega)) (iblk m c 0 t) (iblk m c 1 t) (iblk m c 2 t) (iblk m c 3 t) w Set.univ _)
  isplitl [D0]; · iexact D0
  isplitl [D1]; · iexact D1
  isplitl [D2]; · iexact D2
  isplitl [D3]; · iexact D3
  isplitl [HS0]; · iexact HS0
  isplitl [HS1]; · iexact HS1
  isplitl [HS2]; · iexact HS2
  isplitl [HS3]; · iexact HS3
  iintro ⟨D0, D1, D2, D3, HS0, HS1, ⟨%w2, %hw2, HS2⟩, HS3⟩
  isplitl [HS0 HS1 HS2 HS3 HS4 Hg]
  · iexists _; isplitr
    swap
    · isplitl [HS0]; · iexact HS0
      isplitl [HS1]; · iexact HS1
      isplitl [HS2]; · iexact HS2
      isplitl [HS3]; · iexact HS3
      isplitl [HS4]; · iexact HS4
      iexact Hg
    ipureintro
    intro y hy
    rw [hw2 y, if_pos (by rw [coords0]; omega)]
    exact W_eq m c t (by omega) y (by omega)
  isplitl [Ho]; · iexact Ho
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexists _; iexact D9
  isplitl [D10]; · iexists _; iexact D10
  isplitl [D11]; · iexists _; iexact D11
  iexists _; iexact D12

set_option maxHeartbeats 4000000 in
theorem sound_bodyB (c : Dev nD) (t : Fin cfg0.N) (hz : t.val ≠ 0) (h7 : t.val < 7) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [Dat.leavesExact_idle (dats m 0 c) 9 t (idleAt0_9 t (by omega)) (noFlush0_9 t (by omega))]
  rw [Dat.leavesExact_idle (dats m 0 c) 10 t (idleAt0_10 t (by omega)) (noFlush0_10 t (by omega))]
  rw [Dat.leavesExact_idle (dats m 0 c) 11 t (idleAt0_11 t (by omega)) (noFlush0_11 t (by omega))]
  rw [Dat.leavesExact_idle (dats m 0 c) 12 t (idleAt0_12 t (by omega)) (noFlush0_12 t (by omega))]
  rw [PhiS_castSucc m c t, PhiS_pos m c _ _ hz]
  have hC : Cn m c (t.val + 1) = k0_pay4 (Cn m c t.val) (xwBlk (grid0.coords t 0).val (XS m c) (iblk m c 0 t)) (wRows (iblk m c 2 t) (iblk m c 3 t) (grid0.coords t 0).val (cond2_lt (grid0.coords t) ((hcond2 t).mpr (by omega)))) :=
    Cn_at m c t (by omega) (grid0.coords t 0).val (cond2_lt (grid0.coords t) ((hcond2 t).mpr (by omega))) (coords0 t)
  rw [hC]
  iintro ⟨⟨%w, %hw, HS0, HS1, HS2, HS3, HS4, Hg⟩, Ho, ⟨%d0, D0⟩, ⟨%d1, D1⟩, ⟨%d2, D2⟩, ⟨%d3, D3⟩, ⟨%d4, D4⟩, ⟨%d5, D5⟩, ⟨%d6, D6⟩, ⟨%d7, D7⟩, ⟨%d8, D8⟩, ⟨%d9, D9⟩, ⟨%d10, D10⟩, ⟨%d11, D11⟩, ⟨%d12, D12⟩⟩
  iapply (stepB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) ((hcond2 t).mpr (by omega)) (fun h0 => absurd ((hcond3 t).mp h0) (by omega)) (iblk m c 0 t) (iblk m c 2 t) (iblk m c 3 t) (XS m c) w (Cn m c t.val) Set.univ _)
  isplitl [D0]; · iexact D0
  isplitl [D2]; · iexact D2
  isplitl [D3]; · iexact D3
  isplitl [HS0]; · iexact HS0
  isplitl [HS1]; · iexact HS1
  isplitl [HS2]; · iexact HS2
  isplitl [HS3]; · iexact HS3
  iintro ⟨D0, D2, D3, HS0, HS1, ⟨%w2, %hw2, HS2⟩, HS3⟩
  isplitl [HS0 HS1 HS2 HS3 HS4 Hg]
  · iexists _; isplitr
    swap
    · isplitl [HS0]; · iexact HS0
      isplitl [HS1]; · iexact HS1
      isplitl [HS2]; · iexact HS2
      isplitl [HS3]; · iexact HS3
      isplitl [HS4]; · iexact HS4
      iexact Hg
    ipureintro
    intro y hy
    rw [hw2 y]
    split
    · rename_i he
      rw [coords0] at he
      exact W_eq m c t h7 y he
    · rename_i he
      rw [coords0] at he
      exact hw y (by omega)
  isplitl [Ho]; · iexact Ho
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexists _; iexact D9
  isplitl [D10]; · iexists _; iexact D10
  isplitl [D11]; · iexists _; iexact D11
  iexists _; iexact D12

set_option maxHeartbeats 4000000 in
theorem sound_bodyC (c : Dev nD) (t : Fin cfg0.N) (h : 7 ≤ t.val) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [leaves0_9 m c t h, leaves0_10 m c t h, leaves0_11 m c t h, leaves0_12 m c t h]
  rw [PhiS_castSucc m c t, PhiS_pos m c _ _ (by omega), Cn_const m c t.val h, Cn_const m c (t.val + 1) (by omega)]
  rw [show out10 m c t = View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).1 from dif_pos h]
  rw [show out11 m c t = View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.1 from dif_pos h]
  rw [show out12 m c t = View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.2.1 from dif_pos h]
  rw [show out13 m c t = View.canon (Val := Elt F) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7)).2.2.2.1 from dif_pos h]
  iintro ⟨⟨%w, %hw, HS0, HS1, HS2, HS3, HS4, Hg⟩, Ho, ⟨%d0, D0⟩, ⟨%d1, D1⟩, ⟨%d2, D2⟩, ⟨%d3, D3⟩, ⟨%d4, D4⟩, ⟨%d5, D5⟩, ⟨%d6, D6⟩, ⟨%d7, D7⟩, ⟨%d8, D8⟩, ⟨%d9, D9⟩, ⟨%d10, D10⟩, ⟨%d11, D11⟩, ⟨%d12, D12⟩⟩
  obtain rfl : w = Wfull m c := funext fun y => hw y (by have := (y 0).isLt; exact lt_of_lt_of_le this h)
  iapply (stepC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h0 => absurd ((hcond1 t).mp h0) (by omega)) (fun h0 => absurd ((hcond2 t).mp h0) (by omega)) ((hcond3 t).mpr h) (iblk m c 4 t) (iblk m c 5 t) (iblk m c 6 t) (iblk m c 7 t) (iblk m c 8 t) (Wfull m c) (Cn m c 7) Set.univ _)
  isplitl [D4]; · iexact D4
  isplitl [D5]; · iexact D5
  isplitl [D6]; · iexact D6
  isplitl [D7]; · iexact D7
  isplitl [D8]; · iexact D8
  isplitl [D9]; · iexists _; iexact D9
  isplitl [D10]; · iexists _; iexact D10
  isplitl [D11]; · iexists _; iexact D11
  isplitl [D12]; · iexists _; iexact D12
  isplitl [HS2]; · iexact HS2
  isplitl [HS3]; · iexact HS3
  isplitl [HS4]; · iexact HS4
  iintro ⟨D4, D5, D6, D7, D8, D9, D10, D11, D12, HS2, HS3, HS4⟩
  isplitl [HS0 HS1 HS2 HS3 HS4 Hg]
  · iexists _; isplitr
    swap
    · isplitl [HS0]; · iexact HS0
      isplitl [HS1]; · iexact HS1
      isplitl [HS2]; · iexact HS2
      isplitl [HS3]; · iexact HS3
      isplitl [HS4]; · iexact HS4
      iexact Hg
    ipureintro
    intro y _; rfl
  isplitl [Ho]; · iexact Ho
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  iexact D12

theorem sound_body (c : Dev nD) (t : Fin cfg0.N) :
    bodyPre m c t ⊢ wp frame (wpE (defs₀ (F := F)) Variants.none c none) Set.univ (bodyAt0 t) (fun _ => bodyPost m c t) := by
  by_cases h : 7 ≤ t.val
  · exact sound_bodyC m c t h
  · by_cases hz : t.val = 0
    · exact sound_bodyA m c t hz
    · exact sound_bodyB m c t hz (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨%w, %hw, HS0, HS1, HS2, HS3, HS4, Hg⟩
  isplitl [HS0 HS1 HS2 HS3 HS4]
  · isplitl [HS0]; · iexists _; iexact HS0
    isplitl [HS1]; · iexact HS1
    isplitl [HS2]; · iexists _; iexact HS2
    isplitl [HS3]; · iexists _; iexact HS3
    iexact HS4
  iexact Hg

theorem hout (c : Dev nD) : (dats m 0 c).Φ (Fin.last cfg0.N) ⊢ Pipeline.ΦA spec0 c :=
  Phi_out m c _ (by rw [Fin.val_last]; have : cfg0.N = 13 := N_0; omega)

set_option backward.isDefEq.respectTransparency.types false in
set_option maxHeartbeats 800000 in
/-- The launch: every array ends as the pipeline's data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Value.Quant.lean ====
module

public import Idealize.ShloMosaic.Lib.Pointwise

@[expose] public section

set_option maxRecDepth 16384

noncomputable section

namespace Cert.Spec

open Idealize.ShloMosaic Idealize.SL.Sem

/-- The largest fp8 value's inverse, as f32 has it. -/
abbrev invMax : EReal := Ideal.ofBits .f32 932333861#32

/-- The largest magnitude of a row. -/
def amax {n : ℕ} (f : Fin n → EReal) : EReal :=
  Finset.fold max (Ideal.ofBits .f32 4286578688#32) (fun x => FloatOps.absf (F := Ideal) (φ := .f32) (f x)) Finset.univ

/-- The exponent `floor (log2 q) + 1`, zero out of the normal range. -/
def refE (q : EReal) : EReal :=
  Scalar.select (IntOp.andi (BitVec.ofBool (decide (Ideal.ofBits .f32 8388608#32 ≤ q)))
      (BitVec.ofBool (decide (q < Ideal.ofBits .f32 2139095040#32))))
    (Ideal.liftRound Int.floor (Ideal.div (Ideal.log q) (Ideal.log (Ideal.ofBits .f32 1073741824#32))) + Ideal.ofBits .f32 1065353216#32) 0

/-- `2 ^ e`, infinite above the f32 range and zero below its normal numbers. -/
def pow2R (e : EReal) : EReal :=
  if Ideal.ofBits .f32 1123942400#32 < e then Ideal.ofBits .f32 2139095040#32
  else if e < Ideal.ofBits .f32 3271294976#32 then 0 else Ideal.exp2 e

/-- How many of the powers of two (and infinity) are at or below `q`. -/
def cnt (q : EReal) : BitVec 32 :=
  Finset.fold IntOp.addi (0#32) (fun x : Fin 255 => BitVec.setWidth 32 (BitVec.ofBool (decide
    (Ideal.ofBits .f32 (IntOp.shli ArithUnit.vector (IntOp.addi (BitVec.ofNat 32 ↑x) 1#32) 23#32) ≤ q)))) Finset.univ

/-- The exponent from the count. -/
def kerE (a : EReal) : BitVec 32 :=
  Scalar.select (IntOp.ori (IntOp.ori (IntOp.cmpi .eq (cnt (a * invMax)) 0#32) (IntOp.cmpi .eq (cnt (a * invMax)) 255#32))
    (BitVec.ofBool (decide (a = 0)))) (0#32) (IntOp.subi (cnt (a * invMax)) 126#32)

/-- The exponent field of `2 ^ e`, clamped. -/
def field (e : BitVec 32) : BitVec 32 :=
  Scalar.select (IntOp.cmpi .sle (IntOp.addi e 127#32) 0#32) (0#32)
    (Scalar.select (IntOp.cmpi .sge (IntOp.addi e 127#32) 255#32) (255#32) (IntOp.addi e 127#32))

/-- `2 ^ e` from its exponent field. -/
def pow2K (e : BitVec 32) : EReal := Ideal.ofBits .f32 (IntOp.shli ArithUnit.vector (field e) 23#32)

/-- The number with exponent field `b` and no fraction. -/
def val (b : ℕ) : EReal := if b = 255 then ⊤ else if b = 0 then 0 else (((2 : ℝ) ^ ((b : ℤ) - 127) : ℝ) : EReal)

theorem ofBits_field (b : ℕ) (hb : b < 256) :
    Ideal.ofBits .f32 (IntOp.shli ArithUnit.vector (BitVec.ofNat 32 b) 23#32) = val b := by
  have h1 : ∀ b : Fin 256, (IntOp.shli ArithUnit.vector (BitVec.ofNat 32 b.val) 23#32).extractLsb' 31 1 = 0#1 ∧
      ((IntOp.shli ArithUnit.vector (BitVec.ofNat 32 b.val) 23#32).extractLsb' 23 8).toNat = b.val ∧
      ((IntOp.shli ArithUnit.vector (BitVec.ofNat 32 b.val) 23#32).extractLsb' 0 23).toNat = 0 := by decide +kernel
  obtain ⟨h1, h2, h3⟩ := h1 ⟨b, hb⟩
  simp only at h1 h2 h3
  show Ideal.ieee 8 23 _ = _
  unfold Ideal.ieee val
  simp only [Nat.reduceAdd, h1, h2, h3]
  by_cases e1 : b = 255
  · simp [e1]
  · by_cases e2 : b = 0
    · simp [e2]
    · simp only [e1, e2]
      norm_num [e1, e2]
      have : ((8388608 : ℝ)) = (2 : ℝ) ^ (23 : ℤ) := by norm_num
      rw [this, ← EReal.coe_mul, ← zpow_add₀ (by norm_num),
        show ((23 : ℤ) + ((b : ℤ) - 127 - 23)) = (b : ℤ) - 127 by ring]

theorem pow2K_eq (e : BitVec 32) (b : ℕ) (hb : b < 256) (h : field e = BitVec.ofNat 32 b) : pow2K e = val b := by
  unfold pow2K; rw [h]; exact ofBits_field b hb

theorem cnt_eq (q : EReal) (M : ℕ) (hM : M ≤ 255) (h : ∀ x : Fin 255, val (x.val + 1) ≤ q ↔ x.val < M) :
    cnt q = BitVec.ofNat 32 M := by
  have key : ∀ (P : Fin 255 → Bool) (s : Finset (Fin 255)),
      Finset.fold IntOp.addi (0#32) (fun x => BitVec.setWidth 32 (BitVec.ofBool (P x))) s
        = BitVec.ofNat 32 (s.filter (fun x => P x = true)).card := by
    intro P s
    induction s using Finset.induction with
    | empty => simp
    | insert a s ha ih =>
      rw [Finset.fold_insert ha, ih, Finset.filter_insert]
      cases hp : P a
      · simp [IntOp.addi]
      · simp [IntOp.addi, ha, BitVec.ofNat_add, add_comm]
  unfold cnt
  have e : (fun x : Fin 255 => BitVec.setWidth 32 (BitVec.ofBool (decide
    (Ideal.ofBits .f32 (IntOp.shli ArithUnit.vector (IntOp.addi (BitVec.ofNat 32 ↑x) 1#32) 23#32) ≤ q)))) =
      fun x : Fin 255 => BitVec.setWidth 32 (BitVec.ofBool (decide (x.val < M))) := by
    funext x
    congr 2
    rw [decide_eq_decide, ← h x, ← ofBits_field (x.val + 1) (by omega)]
    rw [show IntOp.addi (BitVec.ofNat 32 ↑x) 1#32 = BitVec.ofNat 32 (x.val + 1) by simp [IntOp.addi, BitVec.ofNat_add]]
  rw [e]
  refine (key (fun x => decide (x.val < M)) _).trans ?_
  congr 1
  simp only [decide_eq_true_eq]
  rw [Fin.card_filter_val_lt]
  omega

theorem smallest : Ideal.ofBits .f32 8388608#32 = (((2 : ℝ) ^ (-126 : ℤ) : ℝ) : EReal) := by
  have := ofBits_field 1 (by norm_num)
  rw [show IntOp.shli ArithUnit.vector (BitVec.ofNat 32 1) 23#32 = 8388608#32 by decide] at this
  rw [this]; simp [val]
theorem inf_bits : Ideal.ofBits .f32 2139095040#32 = (⊤ : EReal) := by
  have := ofBits_field 255 (by norm_num)
  rw [show IntOp.shli ArithUnit.vector (BitVec.ofNat 32 255) 23#32 = 2139095040#32 by decide] at this
  rw [this]; simp [val]
theorem two_bits : Ideal.ofBits .f32 1073741824#32 = ((2 : ℝ) : EReal) := by
  have := ofBits_field 128 (by norm_num)
  rw [show IntOp.shli ArithUnit.vector (BitVec.ofNat 32 128) 23#32 = 1073741824#32 by decide] at this
  rw [this]; simp [val]
theorem one_bits : Ideal.ofBits .f32 1065353216#32 = (1 : EReal) := by
  have := ofBits_field 127 (by norm_num)
  rw [show IntOp.shli ArithUnit.vector (BitVec.ofNat 32 127) 23#32 = 1065353216#32 by decide] at this
  rw [this]; simp [val]
theorem hi_bits : Ideal.ofBits .f32 1123942400#32 = ((127 : ℝ) : EReal) := by
  show Ideal.ieee 8 23 (1123942400#32) = _
  unfold Ideal.ieee
  simp only [Nat.reduceAdd, show BitVec.extractLsb' 31 1 (1123942400#32) = 0#1 by decide,
    show (BitVec.extractLsb' 23 8 (1123942400#32)).toNat = 133 by decide, show (BitVec.extractLsb' 0 23 (1123942400#32)).toNat = 8257536 by decide]
  norm_num
theorem lo_bits : Ideal.ofBits .f32 3271294976#32 = ((-126 : ℝ) : EReal) := by
  show Ideal.ieee 8 23 (3271294976#32) = _
  unfold Ideal.ieee
  simp only [Nat.reduceAdd, show BitVec.extractLsb' 31 1 (3271294976#32) = 1#1 by decide,
    show (BitVec.extractLsb' 23 8 (3271294976#32)).toNat = 133 by decide, show (BitVec.extractLsb' 0 23 (3271294976#32)).toNat = 8126464 by decide]
  norm_num

theorem pow2R_int (n : ℤ) : pow2R ((n : ℝ) : EReal) =
    if 127 < n then ⊤ else if n < -126 then 0 else (((2 : ℝ) ^ n : ℝ) : EReal) := by
  unfold pow2R
  rw [hi_bits, lo_bits, inf_bits]
  have e1 : (((127 : ℝ) : EReal) < ((n : ℝ) : EReal)) ↔ 127 < n := by rw [EReal.coe_lt_coe_iff]; exact_mod_cast Iff.rfl
  have e2 : (((n : ℝ) : EReal) < ((-126 : ℝ) : EReal)) ↔ n < -126 := by rw [EReal.coe_lt_coe_iff]; exact_mod_cast Iff.rfl
  simp only [e1, e2, Ideal.exp2_coe, Real.rpow_eq_pow, Real.rpow_intCast]

theorem select_ofBool {α : Type} (p : Bool) (a b : α) : Scalar.select (BitVec.ofBool p) a b = if p = true then a else b := by
  cases p <;> simp [Scalar.select]
theorem ori_ofBool (p q : Bool) : IntOp.ori (BitVec.ofBool p) (BitVec.ofBool q) = BitVec.ofBool (p || q) := by
  cases p <;> cases q <;> rfl
theorem andi_ofBool (p q : Bool) : IntOp.andi (BitVec.ofBool p) (BitVec.ofBool q) = BitVec.ofBool (p && q) := by
  cases p <;> cases q <;> rfl

theorem kerE_if (a : EReal) : kerE a = if (cnt (a * invMax) == 0#32 || cnt (a * invMax) == 255#32 || decide (a = 0)) = true then 0#32
    else IntOp.subi (cnt (a * invMax)) 126#32 := by
  simp only [kerE, IntOp.cmpi, ori_ofBool, select_ofBool]
theorem refE_if (q : EReal) : refE q = if (decide (Ideal.ofBits .f32 8388608#32 ≤ q) && decide (q < Ideal.ofBits .f32 2139095040#32)) = true then
    (Ideal.liftRound Int.floor (Ideal.div (Ideal.log q) (Ideal.log (Ideal.ofBits .f32 1073741824#32))) + Ideal.ofBits .f32 1065353216#32) else 0 := by
  simp only [refE, andi_ofBool, select_ofBool]

theorem pow2K_int (M : ℕ) (h1 : 1 ≤ M) (h2 : M ≤ 254) :
    pow2K (IntOp.subi (BitVec.ofNat 32 M) 126#32) = val (M + 1) ∧
    pow2K (IntOp.subi 0#32 (IntOp.subi (BitVec.ofNat 32 M) 126#32)) = val (253 - M) := by
  have key : ∀ M : Fin 255, 1 ≤ M.val → field (IntOp.subi (BitVec.ofNat 32 M.val) 126#32) = BitVec.ofNat 32 (M.val + 1) ∧
      field (IntOp.subi 0#32 (IntOp.subi (BitVec.ofNat 32 M.val) 126#32)) = BitVec.ofNat 32 (253 - M.val) := by decide +kernel
  obtain ⟨k1, k2⟩ := key ⟨M, by omega⟩ h1
  exact ⟨pow2K_eq _ _ (by omega) k1, pow2K_eq _ _ (by omega) k2⟩

theorem zero_case (a : EReal) (hk : kerE a = 0#32) (hr : refE (a * invMax) = 0) :
    pow2K (kerE a) = pow2R (refE (a * invMax)) ∧ pow2K (IntOp.subi 0#32 (kerE a)) = pow2R (0 - refE (a * invMax)) := by
  have h0 : pow2K 0#32 = 1 := by
    rw [pow2K_eq 0#32 127 (by norm_num) (by decide)]; simp [val]
  have h1 : pow2R 0 = 1 := by
    have := pow2R_int 0; simpa using this
  rw [hk, hr]
  simp [h0, h1, IntOp.subi]

theorem val_mono_real (b : ℕ) (h : b ≠ 0) (h' : b ≠ 255) : val b = (((2 : ℝ) ^ ((b : ℤ) - 127) : ℝ) : EReal) := by
  simp [val, h, h']

/-- The two ways to the power-of-two scale and to its inverse agree. -/
theorem quant (a : EReal) : pow2K (kerE a) = pow2R (refE (a * invMax)) ∧
    pow2K (IntOp.subi 0#32 (kerE a)) = pow2R (0 - refE (a * invMax)) := by
  generalize hq : a * invMax = q
  by_cases hlt : q < (((2 : ℝ) ^ (-126 : ℤ) : ℝ) : EReal)
  · have hc : cnt q = BitVec.ofNat 32 0 := cnt_eq q 0 (by norm_num) (fun x => by
      simp only [Nat.not_lt_zero, iff_false, not_le]
      refine lt_of_lt_of_le hlt ?_
      by_cases h : x.val + 1 = 255
      · simp [val, h]
      · rw [val_mono_real _ (by omega) h, EReal.coe_le_coe_iff]
        exact zpow_le_zpow_right₀ (by norm_num) (by push_cast; omega))
    have := zero_case a (by rw [kerE_if, hq, hc]; exact if_pos (by simp))
      (by rw [refE_if, hq, smallest]; exact if_neg (by simp only [not_le.mpr hlt, decide_false, Bool.false_and]; decide))
    rwa [hq] at this
  rw [not_lt] at hlt
  by_cases htop : q = ⊤
  · have hc : cnt q = BitVec.ofNat 32 255 := cnt_eq q 255 (by norm_num) (fun x => by
      simp [htop, x.isLt])
    have := zero_case a (by rw [kerE_if, hq, hc]; exact if_pos (by simp))
      (by rw [refE_if, hq, inf_bits, htop]; exact if_neg (by simp))
    rwa [hq] at this
  obtain ⟨r, rfl⟩ : ∃ r : ℝ, q = (r : EReal) := by
    induction q using EReal.rec with
    | bot => simp at hlt
    | top => exact absurd rfl htop
    | coe r => exact ⟨r, rfl⟩
  rw [EReal.coe_le_coe_iff] at hlt
  have hr : 0 < r := lt_of_lt_of_le (by positivity) hlt
  have ha : a ≠ 0 := by
    rintro rfl
    rw [zero_mul] at hq
    have : (0 : ℝ) = r := by exact_mod_cast hq
    exact hr.ne this
  set L : ℤ := ⌊Real.log r / Real.log 2⌋ with hL
  have hLz : ∀ n : ℤ, (2 : ℝ) ^ n ≤ r ↔ n ≤ L := fun n => by
    rw [hL, Int.le_floor, le_div_iff₀ (Real.log_pos (by norm_num)), ← Real.log_zpow,
      Real.log_le_log_iff (by positivity) hr]
  have hL0 : -126 ≤ L := (hLz _).mp hlt
  have hre : refE (r : EReal) = (((L + 1 : ℤ) : ℝ) : EReal) := by
    unfold refE
    rw [smallest, inf_bits, two_bits, one_bits]
    have hl2 : Real.log 2 ≠ 0 := (Real.log_pos (by norm_num)).ne'
    have : Ideal.liftRound Int.floor (Ideal.div (Ideal.log (r : EReal)) (Ideal.log ((2 : ℝ) : EReal))) = ((L : ℝ) : EReal) := by
      have g : ∀ r : ℝ, 0 < r → Ideal.log (r : EReal) = (Real.log r : EReal) := fun r hr => if_neg (not_le.mpr hr)
      rw [g r hr, g 2 (by norm_num), Ideal.div, if_neg (by exact_mod_cast hl2), ← EReal.coe_inv, ← EReal.coe_mul, ← div_eq_mul_inv]
      rfl
    rw [this]
    simp only [andi_ofBool, select_ofBool, EReal.coe_le_coe_iff, hlt, EReal.coe_lt_top, decide_true, Bool.and_self, if_true]
    push_cast; rfl
  obtain ⟨M, hM1, hM2, hML⟩ : ∃ M : ℕ, 1 ≤ M ∧ M ≤ 254 ∧ ((M : ℤ) = L + 127 ∧ L ≤ 126 ∨ M = 254 ∧ 127 ≤ L) := by
    by_cases h : L ≤ 126
    · exact ⟨(L + 127).toNat, by omega, by omega, Or.inl ⟨by omega, h⟩⟩
    · exact ⟨254, by omega, by omega, Or.inr ⟨rfl, by omega⟩⟩
  have hc : cnt (r : EReal) = BitVec.ofNat 32 M := cnt_eq _ M (by omega) (fun x => by
    by_cases h : x.val + 1 = 255
    · simp [val, h]; omega
    · rw [val_mono_real _ (by omega) h, EReal.coe_le_coe_iff, hLz]; push_cast; omega)
  have hk : kerE a = IntOp.subi (BitVec.ofNat 32 M) 126#32 := by
    rw [kerE_if, hq, hc]
    have e1 : (BitVec.ofNat 32 M == 0#32) = false := by
      rw [beq_eq_false_iff_ne]; intro h; have := congrArg BitVec.toNat h; simp at this; omega
    have e2 : (BitVec.ofNat 32 M == 255#32) = false := by
      rw [beq_eq_false_iff_ne]; intro h; have := congrArg BitVec.toNat h; simp at this; omega
    exact if_neg (by simp [e1, e2, ha])
  obtain ⟨k1, k2⟩ := pow2K_int M hM1 hM2
  rw [hk, k1, k2, hre, show (0 : EReal) - (((L + 1 : ℤ) : ℝ) : EReal) = (((-(L + 1) : ℤ) : ℝ) : EReal) by
    rw [zero_sub]; push_cast; rfl, pow2R_int, pow2R_int]
  rcases hML with ⟨h, h'⟩ | ⟨h, h'⟩
  · constructor
    · rw [if_neg (by omega), if_neg (by omega), val_mono_real _ (by omega) (by omega)]
      congr 2; push_cast; omega
    · rw [if_neg (by omega)]
      by_cases h3 : L = 126
      · rw [if_pos (by omega), show 253 - M = 0 by omega]; simp [val]
      · rw [if_neg (by omega), val_mono_real _ (by omega) (by omega)]
        congr 2; omega
  · constructor
    · rw [if_pos (by omega), h]; simp [val]
    · rw [if_neg (by omega), if_pos (by omega), h]; simp [val]

end Cert.Spec
end
-- ==== Proof.Value.Spec.lean ====
module

public import proofs.«01_k».proof.Proof.Value.Quant

@[expose] public section

set_option maxRecDepth 16384

noncomputable section

namespace Cert.Spec

open Idealize.ShloMosaic Idealize.SL.Sem

/-- The reciprocal root mean square of a token's latent row. -/
def rstd (c : Fin 512 → EReal) : EReal :=
  Ideal.rsqrt (Ideal.div (∑ x, c x * c x) (Ideal.ofBits .f32 1140850688#32) + Ideal.ofBits .f32 897988541#32)

/-- The RMS norm's gradient at a token: `c` the latent row, `d` the incoming gradient, `w` the gain. -/
def dcv (c d w : Fin 512 → EReal) (j : Fin 512) : EReal :=
  rstd c * (d j * w j - c j * (rstd c * rstd c) * Ideal.div (∑ x, d x * w x * c x) (Ideal.ofBits .f32 1140850688#32))

/-- The rotary gradient at a token: pairs rotated back by the angle of position `p`. -/
def rope (d : Fin 64 → EReal) (p : EReal) (fr : Fin 32 → EReal) (k : Fin 64) : EReal :=
  if h : k.val % 2 = 0 then
    d k * Ideal.cos (p * fr ⟨k.val / 2, by omega⟩) + d ⟨k.val + 1, by omega⟩ * Ideal.sin (p * fr ⟨k.val / 2, by omega⟩)
  else
    -d ⟨k.val - 1, by omega⟩ * Ideal.sin (p * fr ⟨k.val / 2, by omega⟩) + d k * Ideal.cos (p * fr ⟨k.val / 2, by omega⟩)

/-- The two gradients side by side. -/
def rowG (dc : Fin 512 → EReal) (dk : Fin 64 → EReal) (k : Fin 576) : EReal :=
  if h : k.val < 512 then dc ⟨k.val, h⟩ else dk ⟨k.val - 512, by omega⟩

/-- A column's group. -/
def grp (k : Fin 576) : Fin 5 :=
  if k.val < 128 then 0 else if k.val - 128 < 128 then 1 else if k.val - 128 - 128 < 128 then 2
  else if k.val - 128 - 128 - 128 < 128 then 3 else 4

/-- A group's largest magnitude. -/
def gmax (g : Fin 576 → EReal) (i : Fin 5) : EReal :=
  if i.val < 1 then amax (fun x : Fin 128 => g ⟨x.val, by omega⟩)
  else if i.val - 1 < 1 then amax (fun x : Fin 128 => g ⟨128 + x.val, by omega⟩)
  else if i.val - 1 - 1 < 1 then amax (fun x : Fin 128 => g ⟨256 + x.val, by omega⟩)
  else if i.val - 1 - 1 - 1 < 1 then amax (fun x : Fin 128 => g ⟨384 + x.val, by omega⟩)
  else amax (fun x : Fin 64 => g ⟨512 + x.val, by omega⟩)

/-- A group's exponent. -/
def expo (g : Fin 576 → EReal) (i : Fin 5) : EReal := refE (gmax g i * invMax)

/-- The quantised value of a row at a column: scaled and clipped. -/
def code (g : Fin 576 → EReal) (k : Fin 576) : EReal :=
  min (Ideal.ofBits .f32 1197473792#32) (max (Ideal.ofBits .f32 3344957440#32) (g k * pow2R (0 - expo g (grp k))))

/-- The quantised value scaled back. -/
def wide (g : Fin 576 → EReal) (k : Fin 576) : EReal := code g k * pow2R (expo g (grp k))

end Cert.Spec
end
-- ==== Proof.Value.KerHost.lean ====
module

public import proofs.«01_k».proof.Proof.Ideal.Frame
public import proofs.«01_k».proof.Proof.Value.Spec
public import Idealize.ShloMosaic.Lib.StableHlo.ReadAt
public import Idealize.ShloMosaic.Lib.Pointwise

@[expose] public section

set_option maxRecDepth 16384

noncomputable section

namespace Cert.KernelIdeal.Val

open Idealize.ShloMosaic Idealize.SL.Sem
open Idealize.ShloMosaic.TcCoe
open Cert.KernelIdeal Cert.KernelIdeal.Gen Cert.Spec
variable (m : (ℓ : Loc nD τ sig) → Buf (Elt Ideal) ℓ) (c : Dev nD)
set_option pp.maxSteps 4000
theorem V0 (k : Fin 64) : V m c main_v0 (ix2 0 k) = Ideal.ofBits .f32 (lit0 k) := by
  unfold V
  after_reads_at
  rw [show S64.rowMajor (ix1 k) = k from Fin.ext (Shape.rowMajor_val_one _)]
theorem V1 (j : Fin 512) : V m c main_v1 (ix2 0 j) = m ((c : Thread nD τ).loc main_arg4) (ix1 j) := by
  unfold V
  after_reads_at
theorem V2 (b : Fin 6) (s : Fin 256) : V m c main_v2 (ix3 b 0 s) = m ((c : Thread nD τ).loc main_arg5) (ix2 b s) := by
  unfold V
  after_reads_at
end Cert.KernelIdeal.Val
end
-- ==== Proof.Value.KerBlk.lean ====
module

public import proofs.«01_k».proof.Proof.Value.KerHost
public import Idealize.ShloMosaic.Lib.Pipeline.ValueKit

@[expose] public section

set_option maxRecDepth 16384

noncomputable section

namespace Cert.KernelIdeal.Val

open Idealize.ShloMosaic Idealize.SL.Sem
open Idealize.ShloMosaic.TcCoe
open Cert.KernelIdeal Cert.KernelIdeal.Gen Cert.KernelIdeal.Run Cert.Spec
variable (m : (ℓ : Loc nD τ sig) → Buf (Elt Ideal) ℓ) (c : Dev nD)

/-! Which block of its array each window stands at, at each point of the grid. -/

theorem idx0 : ∀ t : Fin cfg0.N, win0_0.index t = ![0, 0, min t.val 6] := by decide +kernel
theorem idx1 : ∀ t : Fin cfg0.N, win0_1.index t = ![0, 0, 0] := by decide +kernel
theorem idx2 : ∀ t : Fin cfg0.N, win0_2.index t = ![0, min t.val 6] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val - 7, 0, 0] := by decide +kernel
theorem idx7 : ∀ t : Fin cfg0.N, win0_7.index t = ![t.val - 7, 0, 0] := by decide +kernel
theorem idx8 : ∀ t : Fin cfg0.N, win0_8.index t = ![t.val - 7, 0, 0] := by decide +kernel
theorem idx9 : ∀ t : Fin cfg0.N, win0_9.index t = ![t.val - 7, 0, 0] := by decide +kernel
theorem idx10 : ∀ t : Fin cfg0.N, win0_10.index t = ![t.val - 7, 0, 0] := by decide +kernel
theorem idx11 : ∀ t : Fin cfg0.N, win0_11.index t = ![t.val - 7, 0, 0] := by decide +kernel
theorem idx12 : ∀ t : Fin cfg0.N, win0_12.index t = ![t.val - 7, 0, 0] := by decide +kernel

/-! What the blocks hold, in terms of the arrays at the start of the call. -/

theorem blk0 (n : ℕ) (h : n < 7) (b : Fin 6) (s : Fin 256) (x : Fin 1024) :
    iblk m c 0 (pt n (by omega)) (ix3 b s x) = m ((c : Thread nD τ).loc main_arg0) (ix3 b s ⟨1024 * n + x.val, by have := x.isLt; omega⟩) := by
  have e : win0_0.index (⟨n, lt_of_lt_of_eq (by omega) N_0.symm⟩ : Fin cfg0.N) = ![0, 0, n] := by
    rw [idx0]; show ![0, 0, min n 6] = _; rw [Nat.min_eq_left (by omega)]
  blk_ext [iblk, V, pt, e]
theorem blk1 (t : Fin cfg0.N) (b : Fin 6) (s : Fin 256) (x : Fin 56) :
    iblk m c 1 t (ix3 b s x) = m ((c : Thread nD τ).loc main_arg1) (ix3 b s x) := by
  blk_ext [iblk, V, idx1 t]
theorem blk2 (n : ℕ) (h : n < 7) (k : Fin 576) (x : Fin 1024) :
    iblk m c 2 (pt n (by omega)) (ix2 k x) = m ((c : Thread nD τ).loc main_arg2) (ix2 k ⟨1024 * n + x.val, by have := x.isLt; omega⟩) := by
  have e : win0_2.index (⟨n, lt_of_lt_of_eq (by omega) N_0.symm⟩ : Fin cfg0.N) = ![0, n] := by
    rw [idx2]; show ![0, min n 6] = _; rw [Nat.min_eq_left (by omega)]
  blk_ext [iblk, V, pt, e]
theorem blk3 (t : Fin cfg0.N) (k : Fin 5) (x : Fin 56) :
    iblk m c 3 t (ix2 k x) = m ((c : Thread nD τ).loc main_arg3) (ix2 k x) := by
  blk_ext [iblk, V, idx3 t]
theorem blk4 (t : Fin cfg0.N) (j : Fin 512) :
    iblk m c 4 t (ix2 0 j) = m ((c : Thread nD τ).loc main_arg4) (ix1 j) := by
  refine Eq.trans ?_ (V1 m c j)
  blk_ext [iblk, idx4 t]
theorem blk5 (t : Fin cfg0.N) (k : Fin 64) :
    iblk m c 5 t (ix2 0 k) = Ideal.ofBits .f32 (lit0 k) := by
  refine Eq.trans ?_ (V0 m c k)
  blk_ext [iblk, idx5 t]
theorem blk6 (t : Fin cfg0.N) (b : Fin 6) (h : t.val = 7 + b.val) (s : Fin 256) :
    iblk m c 6 t (ix3 0 0 s) = m ((c : Thread nD τ).loc main_arg5) (ix2 b s) := by
  refine Eq.trans ?_ (V2 m c b s)
  have hm : t.val - 7 = b.val := by omega
  blk_ext [iblk, idx6 t, hm]
theorem blk7 (t : Fin cfg0.N) (b : Fin 6) (h : t.val = 7 + b.val) (s : Fin 256) (j : Fin 512) :
    iblk m c 7 t (ix3 0 s j) = m ((c : Thread nD τ).loc main_arg6) (ix3 b s j) := by
  have hm : t.val - 7 = b.val := by omega
  blk_ext [iblk, V, idx7 t, hm]
theorem blk8 (t : Fin cfg0.N) (b : Fin 6) (h : t.val = 7 + b.val) (s : Fin 256) (k : Fin 64) :
    iblk m c 8 t (ix3 0 s k) = m ((c : Thread nD τ).loc main_arg7) (ix3 b s k) := by
  have hm : t.val - 7 = b.val := by omega
  blk_ext [iblk, V, idx8 t, hm]
end Cert.KernelIdeal.Val
end
-- ==== Proof.Value.Proj.lean ====
module

public import proofs.«01_k».proof.Proof.Value.Spec

@[expose] public section

set_option maxRecDepth 16384

noncomputable section

namespace Cert.Spec

open Idealize.ShloMosaic Idealize.SL.Sem

/-- One term of the projection: the dequantised input times the dequantised weight. -/
def term (X : Fin 6 → Fin 256 → Fin 7168 → EReal) (XC : Fin 6 → Fin 256 → Fin 56 → EReal)
    (W : Fin 576 → Fin 7168 → EReal) (WC : Fin 5 → Fin 56 → EReal) (b : Fin 6) (s : Fin 256) (j : Fin 576) (x : Fin 7168) : EReal :=
  X b s x * XC b s ⟨x.val / 128, by omega⟩ * (W j x * WC ⟨j.val / 128, by omega⟩ ⟨x.val / 128, by omega⟩)

/-- The projection at a token and a latent column. -/
def proj (X : Fin 6 → Fin 256 → Fin 7168 → EReal) (XC : Fin 6 → Fin 256 → Fin 56 → EReal)
    (W : Fin 576 → Fin 7168 → EReal) (WC : Fin 5 → Fin 56 → EReal) (b : Fin 6) (s : Fin 256) (j : Fin 512) : EReal :=
  ∑ x : Fin 7168, term X XC W WC b s ⟨j.val, by omega⟩ x

/-- A sum over the 7168 columns from its running sums over blocks of 1024 columns. -/
theorem sum_blocks (T : Fin 7168 → EReal) (C : ℕ → EReal) (h0 : C 0 = 0)
    (hs : ∀ n (h : n < 7), C (n + 1) = C n + ∑ l : Fin 1024, T ⟨1024 * n + l.val, by omega⟩) : C 7 = ∑ x : Fin 7168, T x := by
  let T' : ℕ → EReal := fun k => if h : k < 7168 then T ⟨k, h⟩ else 0
  have key : ∀ n, n ≤ 7 → C n = ∑ k ∈ Finset.range (1024 * n), T' k := by
    intro n
    induction n with
    | zero => intro _; simp [h0]
    | succ n ih =>
      intro hn
      rw [hs n (by omega), ih (by omega), Nat.mul_succ, Finset.sum_range_add]
      congr 1
      rw [Finset.sum_range]
      refine Finset.sum_congr rfl fun l _ => ?_
      have : 1024 * n + l.val < 7168 := by have := l.isLt; omega
      simp only [T', dif_pos this]
  rw [key 7 le_rfl, show 1024 * 7 = 7168 from rfl, Finset.sum_range]
  refine Finset.sum_congr rfl fun x _ => ?_
  simp only [T', dif_pos x.isLt]

/-- The arguments as functions of their coordinates, and the table of frequencies. -/
structure Args where
  X : Fin 6 → Fin 256 → Fin 7168 → EReal
  XC : Fin 6 → Fin 256 → Fin 56 → EReal
  W : Fin 576 → Fin 7168 → EReal
  WC : Fin 5 → Fin 56 → EReal
  GA : Fin 512 → EReal
  P : Fin 6 → Fin 256 → EReal
  DC : Fin 6 → Fin 256 → Fin 512 → EReal
  DK : Fin 6 → Fin 256 → Fin 64 → EReal
  FR : Fin 32 → EReal

/-- The projection at a token. -/
def Args.c (A : Args) (b : Fin 6) (s : Fin 256) : Fin 512 → EReal := proj A.X A.XC A.W A.WC b s

/-- The gradient row at a token. -/
def Args.g (A : Args) (b : Fin 6) (s : Fin 256) : Fin 576 → EReal :=
  rowG (dcv (A.c b s) (A.DC b s) A.GA) (rope (A.DK b s) (A.P b s) A.FR)

/-- The first result: the quantised rows, scaled back, times the dequantised weight. -/
def Args.r0 (A : Args) (b : Fin 6) (s : Fin 256) (d : Fin 7168) : EReal :=
  ∑ k : Fin 576, wide (A.g b s) k * (A.W k d * A.WC ⟨k.val / 128, by omega⟩ ⟨d.val / 128, by omega⟩)

/-- The second result: the gain's gradient, summed over the 128 tokens of each half. -/
def Args.r1 (A : Args) (b : Fin 6) (r : Fin 2) (j : Fin 512) : EReal :=
  ∑ x : Fin 128, A.DC b ⟨r.val * 128 + x.val, by omega⟩ j * A.c b ⟨r.val * 128 + x.val, by omega⟩ j *
    rstd (A.c b ⟨r.val * 128 + x.val, by omega⟩)

/-- The third result: the quantised rows. -/
def Args.r2 (A : Args) (b : Fin 6) (s : Fin 256) (k : Fin 576) : EReal := code (A.g b s) k

/-- The fourth result: the groups' scales. -/
def Args.r3 (A : Args) (b : Fin 6) (s : Fin 256) (i : Fin 5) : EReal := pow2R (expo (A.g b s) i)
end Cert.Spec
end
-- ==== Proof.Value.KerPay.lean ====
module

public import proofs.«01_k».proof.Proof.Gen.KernelIdeal.Skeleton
public import proofs.«01_k».proof.Proof.Value.Spec
public import Idealize.ShloMosaic.Lib.Pointwise

@[expose] public section

set_option maxRecDepth 16384

noncomputable section

namespace Cert.KernelIdeal.Val

open Idealize.ShloMosaic Idealize.SL.Sem
open Cert.KernelIdeal Cert.KernelIdeal.Gen Cert.Spec
variable (v13 : Vec Ideal S256x512 .f32) (v16 : Vec Ideal S1x256x512 .bf16) (v35 : Vec Ideal S1x512 .f32) (v352 : Vec Ideal S1x1x256 .i32)
  (v365 : Vec Ideal S1x64 .f32) (v370 : Vec Ideal S1x256x64 .bf16)

theorem pay67_at (s : Fin 256) : k0_pay67 (F := Ideal) v13 (ix2 s 0) = rstd (fun j => v13 (ix2 s j)) := by
  unfold rstd
  pointwise [k0_pay67, k0_pay65]

theorem pay68_at (r : Fin 2) (j : Fin 512) : k0_pay68 (F := Ideal) v13 v16 (ix3 0 r j) =
    ∑ x : Fin 128, (fun a b c : EReal => a * b * c) (v16 (ix3 0 ⟨r.val * 128 + x.val, by omega⟩ j)) (v13 (ix2 ⟨r.val * 128 + x.val, by omega⟩ j))
      (rstd (fun j => v13 (ix2 ⟨r.val * 128 + x.val, by omega⟩ j))) := by
  simp only [← pay67_at]
  pointwise [k0_pay68, k0_pay65, k0_pay66]

/-- The RMS norm's gradient at a token of the step's batch. -/
def kD (s : Fin 256) : Fin 512 → EReal := dcv (fun j => v13 (ix2 s j)) (fun j => v16 (ix3 0 s j)) (fun j => v35 (ix2 0 j))

theorem pay71_at (s : Fin 256) (j : Fin 512) :
    k0_pay71 (F := Ideal) (k0_pay69 v13 v16 v35) (k0_pay70 v13) (ix2 s j) = kD v13 v16 v35 s j := by
  unfold kD dcv
  simp only [← pay67_at]
  pointwise [k0_pay71, k0_pay69, k0_pay70, k0_pay65, k0_pay66]

/-- A quantised value from a value and its group's largest magnitude. -/
def kCode (v a : EReal) : EReal :=
  min (Ideal.ofBits .f32 1197473792#32) (max (Ideal.ofBits .f32 3344957440#32) (v * pow2K (IntOp.subi 0#32 (kerE a))))

theorem val0_at (s : Fin 256) (p : Fin 128) : (k0_pay72 (F := Ideal) (k0_pay69 v13 v16 v35) (k0_pay70 v13)) (ix2 s p) = kD v13 v16 v35 s ⟨p.val, by omega⟩ := by
  simp only [← pay71_at]
  pointwise [k0_pay72, k0_pay71]

theorem exp0_at (s : Fin 256) : (k0_pay73 (F := Ideal) (k0_pay69 v13 v16 v35) (k0_pay70 v13)) (ix2 s 0) = kerE (amax (fun x : Fin 128 => kD v13 v16 v35 s ⟨x.val, by omega⟩)) := by
  unfold kerE cnt invMax amax
  simp only [← val0_at]
  pointwise [k0_pay73]

theorem scale0_at (s : Fin 256) : (k0_pay74 (F := Ideal) (k0_pay69 v13 v16 v35) (k0_pay70 v13)) (ix2 s 0) = pow2K (kerE (amax (fun x : Fin 128 => kD v13 v16 v35 s ⟨x.val, by omega⟩))) := by
  unfold pow2K field
  rw [← exp0_at]
  pointwise [k0_pay74]

theorem code0_at (s : Fin 256) (p : Fin 128) : k0_pay76 (F := Ideal) (k0_pay72 (F := Ideal) (k0_pay69 v13 v16 v35) (k0_pay70 v13)) (k0_pay73 (F := Ideal) (k0_pay69 v13 v16 v35) (k0_pay70 v13)) (ix3 0 s p) = kCode (kD v13 v16 v35 s ⟨p.val, by omega⟩) (amax (fun x : Fin 128 => kD v13 v16 v35 s ⟨x.val, by omega⟩)) := by
  unfold kCode pow2K field
  rw [← exp0_at, ← val0_at]
  pointwise [k0_pay76, k0_pay75]

theorem wide0_at (s : Fin 256) (p : Fin 128) : k0_pay77 (F := Ideal) (k0_pay72 (F := Ideal) (k0_pay69 v13 v16 v35) (k0_pay70 v13)) (k0_pay73 (F := Ideal) (k0_pay69 v13 v16 v35) (k0_pay70 v13)) (k0_pay74 (F := Ideal) (k0_pay69 v13 v16 v35) (k0_pay70 v13)) (ix2 s p) = kCode (kD v13 v16 v35 s ⟨p.val, by omega⟩) (amax (fun x : Fin 128 => kD v13 v16 v35 s ⟨x.val, by omega⟩)) * pow2K (kerE (amax (fun x : Fin 128 => kD v13 v16 v35 s ⟨x.val, by omega⟩))) := by
  rw [← code0_at, ← scale0_at]
  pointwise [k0_pay77, k0_pay76]

theorem val1_at (s : Fin 256) (p : Fin 128) : (k0_pay78 (F := Ideal) (k0_pay71 (F := Ideal) (k0_pay69 v13 v16 v35) (k0_pay70 v13))) (ix2 s p) = kD v13 v16 v35 s ⟨128 + p.val, by omega⟩ := by
  simp only [← pay71_at]
  pointwise [k0_pay78]

theorem exp1_at (s : Fin 256) : (k0_pay82 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (ix2 s 0) = kerE (amax (fun x : Fin 128 => kD v13 v16 v35 s ⟨128 + x.val, by omega⟩)) := by
  unfold kerE cnt invMax amax
  simp only [← val1_at]
  pointwise [k0_pay79, k0_pay80, k0_pay81, k0_pay82]

theorem scale1_at (s : Fin 256) : (k0_pay83 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (ix2 s 0) = pow2K (kerE (amax (fun x : Fin 128 => kD v13 v16 v35 s ⟨128 + x.val, by omega⟩))) := by
  unfold pow2K field
  rw [← exp1_at]
  pointwise [k0_pay83]

theorem code1_at (s : Fin 256) (p : Fin 128) : k0_pay88 (F := Ideal) (k0_pay78 (F := Ideal) (k0_pay71 (F := Ideal) (k0_pay69 v13 v16 v35) (k0_pay70 v13))) (k0_pay84 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay85 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay86 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) 255#32 (ix3 0 s p) = kCode (kD v13 v16 v35 s ⟨128 + p.val, by omega⟩) (amax (fun x : Fin 128 => kD v13 v16 v35 s ⟨128 + x.val, by omega⟩)) := by
  unfold kCode pow2K field
  rw [← exp1_at, ← val1_at]
  pointwise [k0_pay88, k0_pay87, k0_pay86, k0_pay85, k0_pay84]

theorem wide1_at (s : Fin 256) (p : Fin 128) : k0_pay89 (F := Ideal) (k0_pay78 (F := Ideal) (k0_pay71 (F := Ideal) (k0_pay69 v13 v16 v35) (k0_pay70 v13))) (k0_pay83 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay84 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay85 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay86 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) 255#32 (ix2 s p) = kCode (kD v13 v16 v35 s ⟨128 + p.val, by omega⟩) (amax (fun x : Fin 128 => kD v13 v16 v35 s ⟨128 + x.val, by omega⟩)) * pow2K (kerE (amax (fun x : Fin 128 => kD v13 v16 v35 s ⟨128 + x.val, by omega⟩))) := by
  rw [← code1_at, ← scale1_at]
  pointwise [k0_pay89, k0_pay88]

theorem val2_at (s : Fin 256) (p : Fin 128) : (k0_pay90 (F := Ideal) (k0_pay71 (F := Ideal) (k0_pay69 v13 v16 v35) (k0_pay70 v13))) (ix2 s p) = kD v13 v16 v35 s ⟨256 + p.val, by omega⟩ := by
  simp only [← pay71_at]
  pointwise [k0_pay90]

theorem exp2_at (s : Fin 256) : (k0_pay94 (F := Ideal) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (ix2 s 0) = kerE (amax (fun x : Fin 128 => kD v13 v16 v35 s ⟨256 + x.val, by omega⟩)) := by
  unfold kerE cnt invMax amax
  simp only [← val2_at]
  pointwise [k0_pay91, k0_pay92, k0_pay93, k0_pay94]

theorem scale2_at (s : Fin 256) : (k0_pay95 (F := Ideal) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (ix2 s 0) = pow2K (kerE (amax (fun x : Fin 128 => kD v13 v16 v35 s ⟨256 + x.val, by omega⟩))) := by
  unfold pow2K field
  rw [← exp2_at]
  pointwise [k0_pay95]

theorem code2_at (s : Fin 256) (p : Fin 128) : k0_pay98 (F := Ideal) (k0_pay96 (F := Ideal) (k0_pay90 (F := Ideal) (k0_pay71 (F := Ideal) (k0_pay69 v13 v16 v35) (k0_pay70 v13))) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (Scalar.ofBits .f32 0xC7600000#32) (Scalar.ofBits .f32 0x47600000#32) (ix3 0 s p) = kCode (kD v13 v16 v35 s ⟨256 + p.val, by omega⟩) (amax (fun x : Fin 128 => kD v13 v16 v35 s ⟨256 + x.val, by omega⟩)) := by
  unfold kCode pow2K field
  rw [← exp2_at, ← val2_at]
  pointwise [k0_pay98, k0_pay97, k0_pay96]

theorem wide2_at (s : Fin 256) (p : Fin 128) : k0_pay99 (F := Ideal) (k0_pay95 (F := Ideal) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (k0_pay96 (F := Ideal) (k0_pay90 (F := Ideal) (k0_pay71 (F := Ideal) (k0_pay69 v13 v16 v35) (k0_pay70 v13))) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (Scalar.ofBits .f32 0xC7600000#32) (Scalar.ofBits .f32 0x47600000#32) (ix2 s p) = kCode (kD v13 v16 v35 s ⟨256 + p.val, by omega⟩) (amax (fun x : Fin 128 => kD v13 v16 v35 s ⟨256 + x.val, by omega⟩)) * pow2K (kerE (amax (fun x : Fin 128 => kD v13 v16 v35 s ⟨256 + x.val, by omega⟩))) := by
  rw [← code2_at, ← scale2_at]
  pointwise [k0_pay99, k0_pay98]

theorem val3_at (s : Fin 256) (p : Fin 128) : (k0_pay100 (F := Ideal) (k0_pay71 (F := Ideal) (k0_pay69 v13 v16 v35) (k0_pay70 v13))) (ix2 s p) = kD v13 v16 v35 s ⟨384 + p.val, by omega⟩ := by
  simp only [← pay71_at]
  pointwise [k0_pay100]

theorem exp3_at (s : Fin 256) : (k0_pay105 (k0_pay103 (F := Ideal) (k0_pay71 (F := Ideal) (k0_pay69 v13 v16 v35) (k0_pay70 v13))) (k0_pay104 (F := Ideal) (k0_pay71 (F := Ideal) (k0_pay69 v13 v16 v35) (k0_pay70 v13))) 0#32) (ix2 s 0) = kerE (amax (fun x : Fin 128 => kD v13 v16 v35 s ⟨384 + x.val, by omega⟩)) := by
  unfold kerE cnt invMax amax
  simp only [← val3_at]
  pointwise [k0_pay101, k0_pay102, k0_pay103, k0_pay104, k0_pay105]

theorem scale3_at (s : Fin 256) : (k0_pay106 (F := Ideal) (k0_pay103 (F := Ideal) (k0_pay71 (F := Ideal) (k0_pay69 v13 v16 v35) (k0_pay70 v13))) (k0_pay104 (F := Ideal) (k0_pay71 (F := Ideal) (k0_pay69 v13 v16 v35) (k0_pay70 v13))) 0#32) (ix2 s 0) = pow2K (kerE (amax (fun x : Fin 128 => kD v13 v16 v35 s ⟨384 + x.val, by omega⟩))) := by
  unfold pow2K field
  rw [← exp3_at]
  pointwise [k0_pay106]

theorem code3_at (s : Fin 256) (p : Fin 128) : k0_pay109 (F := Ideal) (k0_pay107 (F := Ideal) (k0_pay100 (F := Ideal) (k0_pay71 (F := Ideal) (k0_pay69 v13 v16 v35) (k0_pay70 v13))) (k0_pay103 (F := Ideal) (k0_pay71 (F := Ideal) (k0_pay69 v13 v16 v35) (k0_pay70 v13))) (k0_pay104 (F := Ideal) (k0_pay71 (F := Ideal) (k0_pay69 v13 v16 v35) (k0_pay70 v13))) 0#32) (ix3 0 s p) = kCode (kD v13 v16 v35 s ⟨384 + p.val, by omega⟩) (amax (fun x : Fin 128 => kD v13 v16 v35 s ⟨384 + x.val, by omega⟩)) := by
  unfold kCode pow2K field
  rw [← exp3_at, ← val3_at]
  pointwise [k0_pay109, k0_pay107]

theorem wide3_at (s : Fin 256) (p : Fin 128) : k0_pay110 (F := Ideal) (k0_pay108 (F := Ideal) (k0_pay100 (F := Ideal) (k0_pay71 (F := Ideal) (k0_pay69 v13 v16 v35) (k0_pay70 v13))) (k0_pay103 (F := Ideal) (k0_pay71 (F := Ideal) (k0_pay69 v13 v16 v35) (k0_pay70 v13))) (k0_pay104 (F := Ideal) (k0_pay71 (F := Ideal) (k0_pay69 v13 v16 v35) (k0_pay70 v13))) 0#32) (ix2 s p) = kCode (kD v13 v16 v35 s ⟨384 + p.val, by omega⟩) (amax (fun x : Fin 128 => kD v13 v16 v35 s ⟨384 + x.val, by omega⟩)) * pow2K (kerE (amax (fun x : Fin 128 => kD v13 v16 v35 s ⟨384 + x.val, by omega⟩))) := by
  rw [← code3_at, ← scale3_at]
  pointwise [k0_pay110, k0_pay108, k0_pay109]

/-- The rotary gradient at a token of the step's batch. -/
def kR (s : Fin 256) (k : Fin 64) : EReal := (k0_pay118 (F := Ideal) (k0_pay112 v352 v365) (k0_pay113 v352 v365) (k0_pay114 v370) k0_pay115 k0_pay116 k0_pay117) (ix2 s k)

theorem val4_at (s : Fin 256) (p : Fin 64) : (k0_pay118 (F := Ideal) (k0_pay112 v352 v365) (k0_pay113 v352 v365) (k0_pay114 v370) k0_pay115 k0_pay116 k0_pay117) (ix2 s p) = kR v352 v365 v370 s p := rfl

theorem exp4_at (s : Fin 256) : (k0_pay119 (F := Ideal) (k0_pay112 v352 v365) (k0_pay113 v352 v365) (k0_pay114 v370) k0_pay115 k0_pay116 k0_pay117) (ix2 s 0) = kerE (amax (fun x : Fin 64 => kR v352 v365 v370 s x)) := by
  unfold kerE cnt invMax amax
  simp only [← val4_at]
  pointwise [k0_pay119]

theorem scale4_at (s : Fin 256) : (k0_pay120 (F := Ideal) (k0_pay119 (F := Ideal) (k0_pay112 v352 v365) (k0_pay113 v352 v365) (k0_pay114 v370) k0_pay115 k0_pay116 k0_pay117)) (ix2 s 0) = pow2K (kerE (amax (fun x : Fin 64 => kR v352 v365 v370 s x))) := by
  unfold pow2K field
  rw [← exp4_at]
  pointwise [k0_pay120]

theorem code4_at (s : Fin 256) (p : Fin 64) : k0_pay123 (F := Ideal) (k0_pay118 (F := Ideal) (k0_pay112 v352 v365) (k0_pay113 v352 v365) (k0_pay114 v370) k0_pay115 k0_pay116 k0_pay117) (k0_pay119 (F := Ideal) (k0_pay112 v352 v365) (k0_pay113 v352 v365) (k0_pay114 v370) k0_pay115 k0_pay116 k0_pay117) (ix3 0 s p) = kCode (kR v352 v365 v370 s p) (amax (fun x : Fin 64 => kR v352 v365 v370 s x)) := by
  unfold kCode pow2K field
  rw [← exp4_at, ← val4_at]
  pointwise [k0_pay123, k0_pay121]

theorem wide4_at (s : Fin 256) (p : Fin 64) : k0_pay124 (F := Ideal) (k0_pay122 (F := Ideal) (k0_pay118 (F := Ideal) (k0_pay112 v352 v365) (k0_pay113 v352 v365) (k0_pay114 v370) k0_pay115 k0_pay116 k0_pay117) (k0_pay119 (F := Ideal) (k0_pay112 v352 v365) (k0_pay113 v352 v365) (k0_pay114 v370) k0_pay115 k0_pay116 k0_pay117)) (ix2 s p) = kCode (kR v352 v365 v370 s p) (amax (fun x : Fin 64 => kR v352 v365 v370 s x)) * pow2K (kerE (amax (fun x : Fin 64 => kR v352 v365 v370 s x))) := by
  rw [← code4_at, ← scale4_at]
  pointwise [k0_pay124, k0_pay122, k0_pay123]

/-- The kernel's test of a column for evenness. -/
theorem even_bit : ∀ k : Fin 64, (IntOp.cmpi CmpIPredicate.eq
        (Scalar.select
          (IntOp.andi
            (IntOp.xori
              (IntOp.cmpi CmpIPredicate.slt
                (IntOp.remsi ArithUnit.vector (BitVec.ofNat 32 k.val)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (IntOp.cmpi CmpIPredicate.ne
              (IntOp.remsi ArithUnit.vector (BitVec.ofNat 32 k.val)
                (Scalar.select (Scalar.cmpi CmpIPredicate.eq 2#32 0#32) 1#32 2#32))
              0#32))
          (IntOp.addi
            (IntOp.remsi ArithUnit.vector (BitVec.ofNat 32 k.val)
              (Scalar.select (Scalar.cmpi CmpIPredicate.eq 2#32 0#32) 1#32 2#32))
            (Scalar.select (Scalar.cmpi CmpIPredicate.eq 2#32 0#32) 1#32 2#32))
          (IntOp.remsi ArithUnit.vector (BitVec.ofNat 32 k.val)
            (Scalar.select (Scalar.cmpi CmpIPredicate.eq 2#32 0#32) 1#32 2#32)))
        0#32) = BitVec.ofBool (decide (k.val % 2 = 0)) := by decide

theorem kR_eq (fr : Fin 32 → EReal) (hfr : ∀ k : Fin 64, v365 (ix2 0 k) = fr ⟨k.val / 2, by omega⟩) (s : Fin 256) (k : Fin 64) :
    kR v352 v365 v370 s k = rope (fun k => v370 (ix3 0 s k)) (FloatOps.sitofp (F := Ideal) .f32 (v352 (ix3 0 0 s))) fr k := by
  unfold kR rope
  pointwise [k0_pay112, k0_pay113, k0_pay114, k0_pay115, k0_pay116, k0_pay117, k0_pay111, k0_pay118]
  have hs : (if h : s.val < 128 then FloatOps.sitofp (F := Ideal) .f32 (v352 (ix3 0 0 s))
      else FloatOps.sitofp (F := Ideal) .f32 (v352 (ix3 0 0 ⟨128 + (s.val - 128), by omega⟩))) = FloatOps.sitofp (F := Ideal) .f32 (v352 (ix3 0 0 s)) := by
    split_ifs with h
    · rfl
    · simp only [show 128 + (s.val - 128) = s.val by omega]
  rw [even_bit, select_ofBool]
  simp only [hs, hfr]
  by_cases h : k.val % 2 = 0
  · simp only [h, decide_true, if_true, dif_pos, show (k.val + 128 - 127) % 128 = k.val + 1 by omega, show k.val + 1 < 64 by omega]
  · simp only [h, decide_false, if_false, dif_neg, not_false_eq_true, show (k.val + 128 - 1) % 128 = k.val - 1 by omega, show k.val - 1 < 64 by omega,
      dif_pos, Bool.false_eq_true, zero_sub]

/-- The gradient row at a token of the step's batch. -/
def kG (s : Fin 256) : Fin 576 → EReal := rowG (kD v13 v16 v35 s) (kR v352 v365 v370 s)

theorem code_quant (G : Fin 576 → EReal) (k : Fin 576) : code G k = kCode (G k) (gmax G (grp k)) := by
  unfold code kCode expo
  rw [(quant _).2]

theorem wide_quant (G : Fin 576 → EReal) (k : Fin 576) :
    wide G k = kCode (G k) (gmax G (grp k)) * pow2K (kerE (gmax G (grp k))) := by
  unfold wide
  rw [code_quant, expo, (quant _).1]

theorem gmax0 (s : Fin 256) : gmax (kG v13 v16 v35 v352 v365 v370 s) 0 = (amax (fun x : Fin 128 => kD v13 v16 v35 s ⟨x.val, by omega⟩)) := by
  unfold gmax kG rowG
  rw [if_pos (by decide)]
  congr 1
  funext x
  rw [dif_pos (show x.val < 512 by omega)]

theorem grp0 (p : Fin 128) : grp ⟨p.val, by omega⟩ = 0 := by
  unfold grp
  rw [if_pos p.isLt]

theorem row0 (s : Fin 256) (p : Fin 128) : kG v13 v16 v35 v352 v365 v370 s ⟨p.val, by omega⟩ = kD v13 v16 v35 s ⟨p.val, by omega⟩ := by
  unfold kG rowG
  rw [dif_pos (show p.val < 512 by omega)]

theorem sc0 (s : Fin 256) : (k0_pay74 (F := Ideal) (k0_pay69 v13 v16 v35) (k0_pay70 v13)) (ix2 s 0) = pow2R (expo (kG v13 v16 v35 v352 v365 v370 s) 0) := by
  rw [scale0_at, expo, gmax0, (quant _).1]

theorem cd0 (s : Fin 256) (p : Fin 128) : k0_pay76 (F := Ideal) (k0_pay72 (F := Ideal) (k0_pay69 v13 v16 v35) (k0_pay70 v13)) (k0_pay73 (F := Ideal) (k0_pay69 v13 v16 v35) (k0_pay70 v13)) (ix3 0 s p) = code (kG v13 v16 v35 v352 v365 v370 s) ⟨p.val, by omega⟩ := by
  rw [code0_at, code_quant, grp0, row0, gmax0]

theorem wd0 (s : Fin 256) (p : Fin 128) : k0_pay77 (F := Ideal) (k0_pay72 (F := Ideal) (k0_pay69 v13 v16 v35) (k0_pay70 v13)) (k0_pay73 (F := Ideal) (k0_pay69 v13 v16 v35) (k0_pay70 v13)) (k0_pay74 (F := Ideal) (k0_pay69 v13 v16 v35) (k0_pay70 v13)) (ix2 s p) = wide (kG v13 v16 v35 v352 v365 v370 s) ⟨p.val, by omega⟩ := by
  rw [wide0_at, wide_quant, grp0, row0, gmax0]

theorem gmax1 (s : Fin 256) : gmax (kG v13 v16 v35 v352 v365 v370 s) 1 = (amax (fun x : Fin 128 => kD v13 v16 v35 s ⟨128 + x.val, by omega⟩)) := by
  unfold gmax kG rowG
  rw [if_neg (by decide), if_pos (by decide)]
  congr 1
  funext x
  rw [dif_pos (show 128 + x.val < 512 by omega)]

theorem grp1 (p : Fin 128) : grp ⟨128 + p.val, by omega⟩ = 1 := by
  unfold grp
  rw [if_neg (show ¬ 128 + p.val < 128 by omega), if_pos (show 128 + p.val - 128 < 128 by omega)]

theorem row1 (s : Fin 256) (p : Fin 128) : kG v13 v16 v35 v352 v365 v370 s ⟨128 + p.val, by omega⟩ = kD v13 v16 v35 s ⟨128 + p.val, by omega⟩ := by
  unfold kG rowG
  rw [dif_pos (show 128 + p.val < 512 by omega)]

theorem sc1 (s : Fin 256) : (k0_pay83 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (ix2 s 0) = pow2R (expo (kG v13 v16 v35 v352 v365 v370 s) 1) := by
  rw [scale1_at, expo, gmax1, (quant _).1]

theorem cd1 (s : Fin 256) (p : Fin 128) : k0_pay88 (F := Ideal) (k0_pay78 (F := Ideal) (k0_pay71 (F := Ideal) (k0_pay69 v13 v16 v35) (k0_pay70 v13))) (k0_pay84 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay85 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay86 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) 255#32 (ix3 0 s p) = code (kG v13 v16 v35 v352 v365 v370 s) ⟨128 + p.val, by omega⟩ := by
  rw [code1_at, code_quant, grp1, row1, gmax1]

theorem wd1 (s : Fin 256) (p : Fin 128) : k0_pay89 (F := Ideal) (k0_pay78 (F := Ideal) (k0_pay71 (F := Ideal) (k0_pay69 v13 v16 v35) (k0_pay70 v13))) (k0_pay83 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay84 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay85 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay86 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) 255#32 (ix2 s p) = wide (kG v13 v16 v35 v352 v365 v370 s) ⟨128 + p.val, by omega⟩ := by
  rw [wide1_at, wide_quant, grp1, row1, gmax1]

theorem gmax2 (s : Fin 256) : gmax (kG v13 v16 v35 v352 v365 v370 s) 2 = (amax (fun x : Fin 128 => kD v13 v16 v35 s ⟨256 + x.val, by omega⟩)) := by
  unfold gmax kG rowG
  rw [if_neg (by decide), if_neg (by decide), if_pos (by decide)]
  congr 1
  funext x
  rw [dif_pos (show 256 + x.val < 512 by omega)]

theorem grp2 (p : Fin 128) : grp ⟨256 + p.val, by omega⟩ = 2 := by
  unfold grp
  rw [if_neg (show ¬ 256 + p.val < 128 by omega), if_neg (show ¬ 256 + p.val - 128 < 128 by omega), if_pos (show 256 + p.val - 128 - 128 < 128 by omega)]

theorem row2 (s : Fin 256) (p : Fin 128) : kG v13 v16 v35 v352 v365 v370 s ⟨256 + p.val, by omega⟩ = kD v13 v16 v35 s ⟨256 + p.val, by omega⟩ := by
  unfold kG rowG
  rw [dif_pos (show 256 + p.val < 512 by omega)]

theorem sc2 (s : Fin 256) : (k0_pay95 (F := Ideal) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (ix2 s 0) = pow2R (expo (kG v13 v16 v35 v352 v365 v370 s) 2) := by
  rw [scale2_at, expo, gmax2, (quant _).1]

theorem cd2 (s : Fin 256) (p : Fin 128) : k0_pay98 (F := Ideal) (k0_pay96 (F := Ideal) (k0_pay90 (F := Ideal) (k0_pay71 (F := Ideal) (k0_pay69 v13 v16 v35) (k0_pay70 v13))) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (Scalar.ofBits .f32 0xC7600000#32) (Scalar.ofBits .f32 0x47600000#32) (ix3 0 s p) = code (kG v13 v16 v35 v352 v365 v370 s) ⟨256 + p.val, by omega⟩ := by
  rw [code2_at, code_quant, grp2, row2, gmax2]

theorem wd2 (s : Fin 256) (p : Fin 128) : k0_pay99 (F := Ideal) (k0_pay95 (F := Ideal) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (k0_pay96 (F := Ideal) (k0_pay90 (F := Ideal) (k0_pay71 (F := Ideal) (k0_pay69 v13 v16 v35) (k0_pay70 v13))) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (Scalar.ofBits .f32 0xC7600000#32) (Scalar.ofBits .f32 0x47600000#32) (ix2 s p) = wide (kG v13 v16 v35 v352 v365 v370 s) ⟨256 + p.val, by omega⟩ := by
  rw [wide2_at, wide_quant, grp2, row2, gmax2]

theorem gmax3 (s : Fin 256) : gmax (kG v13 v16 v35 v352 v365 v370 s) 3 = (amax (fun x : Fin 128 => kD v13 v16 v35 s ⟨384 + x.val, by omega⟩)) := by
  unfold gmax kG rowG
  rw [if_neg (by decide), if_neg (by decide), if_neg (by decide), if_pos (by decide)]
  congr 1
  funext x
  rw [dif_pos (show 384 + x.val < 512 by omega)]

theorem grp3 (p : Fin 128) : grp ⟨384 + p.val, by omega⟩ = 3 := by
  unfold grp
  rw [if_neg (show ¬ 384 + p.val < 128 by omega), if_neg (show ¬ 384 + p.val - 128 < 128 by omega), if_neg (show ¬ 384 + p.val - 128 - 128 < 128 by omega), if_pos (show 384 + p.val - 128 - 128 - 128 < 128 by omega)]

theorem row3 (s : Fin 256) (p : Fin 128) : kG v13 v16 v35 v352 v365 v370 s ⟨384 + p.val, by omega⟩ = kD v13 v16 v35 s ⟨384 + p.val, by omega⟩ := by
  unfold kG rowG
  rw [dif_pos (show 384 + p.val < 512 by omega)]

theorem sc3 (s : Fin 256) : (k0_pay106 (F := Ideal) (k0_pay103 (F := Ideal) (k0_pay71 (F := Ideal) (k0_pay69 v13 v16 v35) (k0_pay70 v13))) (k0_pay104 (F := Ideal) (k0_pay71 (F := Ideal) (k0_pay69 v13 v16 v35) (k0_pay70 v13))) 0#32) (ix2 s 0) = pow2R (expo (kG v13 v16 v35 v352 v365 v370 s) 3) := by
  rw [scale3_at, expo, gmax3, (quant _).1]

theorem cd3 (s : Fin 256) (p : Fin 128) : k0_pay109 (F := Ideal) (k0_pay107 (F := Ideal) (k0_pay100 (F := Ideal) (k0_pay71 (F := Ideal) (k0_pay69 v13 v16 v35) (k0_pay70 v13))) (k0_pay103 (F := Ideal) (k0_pay71 (F := Ideal) (k0_pay69 v13 v16 v35) (k0_pay70 v13))) (k0_pay104 (F := Ideal) (k0_pay71 (F := Ideal) (k0_pay69 v13 v16 v35) (k0_pay70 v13))) 0#32) (ix3 0 s p) = code (kG v13 v16 v35 v352 v365 v370 s) ⟨384 + p.val, by omega⟩ := by
  rw [code3_at, code_quant, grp3, row3, gmax3]

theorem wd3 (s : Fin 256) (p : Fin 128) : k0_pay110 (F := Ideal) (k0_pay108 (F := Ideal) (k0_pay100 (F := Ideal) (k0_pay71 (F := Ideal) (k0_pay69 v13 v16 v35) (k0_pay70 v13))) (k0_pay103 (F := Ideal) (k0_pay71 (F := Ideal) (k0_pay69 v13 v16 v35) (k0_pay70 v13))) (k0_pay104 (F := Ideal) (k0_pay71 (F := Ideal) (k0_pay69 v13 v16 v35) (k0_pay70 v13))) 0#32) (ix2 s p) = wide (kG v13 v16 v35 v352 v365 v370 s) ⟨384 + p.val, by omega⟩ := by
  rw [wide3_at, wide_quant, grp3, row3, gmax3]

theorem gmax4 (s : Fin 256) : gmax (kG v13 v16 v35 v352 v365 v370 s) 4 = (amax (fun x : Fin 64 => kR v352 v365 v370 s x)) := by
  unfold gmax kG rowG
  rw [if_neg (by decide), if_neg (by decide), if_neg (by decide), if_neg (by decide)]
  congr 1
  funext x
  rw [dif_neg (show ¬ 512 + x.val < 512 by omega)]
  simp only [Nat.add_sub_cancel_left]

theorem grp4 (p : Fin 64) : grp ⟨512 + p.val, by omega⟩ = 4 := by
  unfold grp
  rw [if_neg (show ¬ 512 + p.val < 128 by omega), if_neg (show ¬ 512 + p.val - 128 < 128 by omega), if_neg (show ¬ 512 + p.val - 128 - 128 < 128 by omega), if_neg (show ¬ 512 + p.val - 128 - 128 - 128 < 128 by omega)]

theorem row4 (s : Fin 256) (p : Fin 64) : kG v13 v16 v35 v352 v365 v370 s ⟨512 + p.val, by omega⟩ = kR v352 v365 v370 s p := by
  unfold kG rowG
  rw [dif_neg (show ¬ 512 + p.val < 512 by omega)]
  simp only [Nat.add_sub_cancel_left]

theorem sc4 (s : Fin 256) : (k0_pay120 (F := Ideal) (k0_pay119 (F := Ideal) (k0_pay112 v352 v365) (k0_pay113 v352 v365) (k0_pay114 v370) k0_pay115 k0_pay116 k0_pay117)) (ix2 s 0) = pow2R (expo (kG v13 v16 v35 v352 v365 v370 s) 4) := by
  rw [scale4_at, expo, gmax4, (quant _).1]

theorem cd4 (s : Fin 256) (p : Fin 64) : k0_pay123 (F := Ideal) (k0_pay118 (F := Ideal) (k0_pay112 v352 v365) (k0_pay113 v352 v365) (k0_pay114 v370) k0_pay115 k0_pay116 k0_pay117) (k0_pay119 (F := Ideal) (k0_pay112 v352 v365) (k0_pay113 v352 v365) (k0_pay114 v370) k0_pay115 k0_pay116 k0_pay117) (ix3 0 s p) = code (kG v13 v16 v35 v352 v365 v370 s) ⟨512 + p.val, by omega⟩ := by
  rw [code4_at, code_quant, grp4, row4, gmax4]

theorem wd4 (s : Fin 256) (p : Fin 64) : k0_pay124 (F := Ideal) (k0_pay122 (F := Ideal) (k0_pay118 (F := Ideal) (k0_pay112 v352 v365) (k0_pay113 v352 v365) (k0_pay114 v370) k0_pay115 k0_pay116 k0_pay117) (k0_pay119 (F := Ideal) (k0_pay112 v352 v365) (k0_pay113 v352 v365) (k0_pay114 v370) k0_pay115 k0_pay116 k0_pay117)) (ix2 s p) = wide (kG v13 v16 v35 v352 v365 v370 s) ⟨512 + p.val, by omega⟩ := by
  rw [wide4_at, wide_quant, grp4, row4, gmax4]

theorem scales_at (s : Fin 256) (i : Fin 5) : k0_pay125 (F := Ideal) (k0_pay74 (F := Ideal) (k0_pay69 v13 v16 v35) (k0_pay70 v13)) (k0_pay83 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay95 (F := Ideal) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (k0_pay106 (F := Ideal) (k0_pay103 (F := Ideal) (k0_pay71 (F := Ideal) (k0_pay69 v13 v16 v35) (k0_pay70 v13))) (k0_pay104 (F := Ideal) (k0_pay71 (F := Ideal) (k0_pay69 v13 v16 v35) (k0_pay70 v13))) 0#32) (k0_pay120 (F := Ideal) (k0_pay119 (F := Ideal) (k0_pay112 v352 v365) (k0_pay113 v352 v365) (k0_pay114 v370) k0_pay115 k0_pay116 k0_pay117)) (ix3 0 s i) = pow2R (expo (kG v13 v16 v35 v352 v365 v370 s) i) := by
  have h : ∀ f : Fin 5 → EReal, f i = if i.val < 1 then f 0 else if i.val - 1 < 1 then f 1 else if i.val - 1 - 1 < 1 then f 2
      else if i.val - 1 - 1 - 1 < 1 then f 3 else f 4 := by intro f; fin_cases i <;> rfl
  rw [h (fun i => pow2R (expo (kG v13 v16 v35 v352 v365 v370 s) i)), ← sc0, ← sc1, ← sc2, ← sc3, ← sc4]
  pointwise [k0_pay125]
  fin_cases i <;> rfl

variable (q : Vec Ideal S256x576 .bf16) (w : Vec Ideal S1x576x1024 .bf16) (s : Fin 256) (y : Fin 1024)
theorem dx0 : k0_pay126 (F := Ideal) q w (ix3 0 s y) = ∑ k : Fin 576, (fun a b : EReal => a * b) (q (ix2 s k)) (w (ix3 0 k y)) := by
  pointwise [k0_pay126]

theorem dx1 : k0_pay127 (F := Ideal) q w (ix3 0 s y) = ∑ k : Fin 576, (fun a b : EReal => a * b) (q (ix2 s k)) (w (ix3 0 k y)) := by
  pointwise [k0_pay127]

theorem dx2 : k0_pay129 (F := Ideal) q (k0_pay128 w) (constant S256x1024 .f32 0x00000000#32) (ix3 0 s y) = ∑ k : Fin 576, (fun a b : EReal => a * b) (q (ix2 s k)) (w (ix3 0 k y)) := by
  pointwise [k0_pay128, k0_pay129]

theorem dx3 : k0_pay130 (F := Ideal) q w (ix3 0 s y) = ∑ k : Fin 576, (fun a b : EReal => a * b) (q (ix2 s k)) (w (ix3 0 k y)) := by
  pointwise [k0_pay130]

theorem dx4 : k0_pay131 (F := Ideal) q w (ix3 0 s y) = ∑ k : Fin 576, (fun a b : EReal => a * b) (q (ix2 s k)) (w (ix3 0 k y)) := by
  pointwise [k0_pay131]

theorem dx5 : k0_pay5 (F := Ideal) (k0_pay132 q w) (ix3 0 s y) = ∑ k : Fin 576, (fun a b : EReal => a * b) (q (ix2 s k)) (w (ix3 0 k y)) := by
  pointwise [k0_pay5, k0_pay132]

theorem dx6 : k0_pay6 (F := Ideal) q w (ix3 0 s y) = ∑ k : Fin 576, (fun a b : EReal => a * b) (q (ix2 s k)) (w (ix3 0 k y)) := by
  pointwise [k0_pay6]

end Cert.KernelIdeal.Val
end
-- ==== Proof.Value.KerRun.lean ====
module

public import proofs.«01_k».proof.Proof.Ideal.StepC
public import proofs.«01_k».proof.Proof.Value.KerPay
public import Idealize.ShloMosaic.Lib.Pipeline.ValueKit
public import Idealize.ShloMosaic.Lib.Pointwise

@[expose] public section

set_option maxRecDepth 16384

noncomputable section

namespace Cert.KernelIdeal.Val

open Idealize.ShloMosaic Idealize.SL.Sem
open Idealize.ShloMosaic.TcCoe
open Cert.KernelIdeal Cert.KernelIdeal.Gen Cert.KernelIdeal.Run Cert.Spec
/-- The step's rows of the accumulator. -/
def rowsC (i : grid0.Coords) (hc3 : cond3 i) (cs : Vec Ideal S1536x512 .f32) : Vec Ideal S256x512 .f32 :=
  View.ld cs (Rect.unit (s := S1536x512) (k0_off47 i) S256x512.size (k0_off47_inb i hc3))

theorem read13 (i : grid0.Coords) (hc3 : cond3 i) (arg17 : Memref sig .tc .vmem S1536x512 .f32) (harg17 : arg17.IsWhole) (cs : Vec Ideal S1536x512 .f32) :
    View.readAt (Elt Ideal) arg17.view (Rect.unit (s := S1536x512) (k0_off47 i) S256x512.size (k0_off47_inb i hc3)).toLoadRect (harg17.unread cs) = rowsC i hc3 cs := by
  rw [View.readAt_eq_ld, harg17.read_unread]; rfl

theorem read16 (arg8 : Memref sig .tc .vmem S1x256x512 .bf16) (harg8 : arg8.IsWhole) (x7 : Vec Ideal S1x256x512 .bf16) : View.readAt (Elt Ideal) arg8.view (Rect.unit (s := S1x256x512) ![0, 0, 0] S1x256x512.size inb_S1x256x512_S1x256x512_0_0_0).toLoadRect (harg8.unread x7) = x7 := by
  rw [View.readAt_eq_ld, harg8.read_unread]; exact View.ld_unit_zero (by decide) _ _

theorem read35 (arg5 : Memref sig .tc .vmem S1x512 .f32) (harg5 : arg5.IsWhole) (x4 : Vec Ideal S1x512 .f32) : View.readAt (Elt Ideal) arg5.view (Rect.unit (s := S1x512) ![0, 0] S1x512.size inb_S1x512_S1x512_0_0).toLoadRect (harg5.unread x4) = x4 := by
  rw [View.readAt_eq_ld, harg5.read_unread]; exact View.ld_unit_zero (by decide) _ _

theorem read352 (arg7 : Memref sig .tc .vmem S1x1x256 .i32) (harg7 : arg7.IsWhole) (x6 : Vec Ideal S1x1x256 .i32) : View.readAt (Elt Ideal) arg7.view (Rect.unit (s := S1x1x256) ![0, 0, 0] S1x1x256.size inb_S1x1x256_S1x1x256_0_0_0).toLoadRect (harg7.unread x6) = x6 := by
  rw [View.readAt_eq_ld, harg7.read_unread]; exact View.ld_unit_zero (by decide) _ _

theorem read365 (arg6 : Memref sig .tc .vmem S1x64 .f32) (harg6 : arg6.IsWhole) (x5 : Vec Ideal S1x64 .f32) : View.readAt (Elt Ideal) arg6.view (Rect.unit (s := S1x64) ![0, 0] S1x64.size inb_S1x64_S1x64_0_0).toLoadRect (harg6.unread x5) = x5 := by
  rw [View.readAt_eq_ld, harg6.read_unread]; exact View.ld_unit_zero (by decide) _ _

theorem read370 (arg9 : Memref sig .tc .vmem S1x256x64 .bf16) (harg9 : arg9.IsWhole) (x8 : Vec Ideal S1x256x64 .bf16) : View.readAt (Elt Ideal) arg9.view (Rect.unit (s := S1x256x64) ![0, 0, 0] S1x256x64.size inb_S1x256x64_S1x256x64_0_0_0).toLoadRect (harg9.unread x8) = x8 := by
  rw [View.readAt_eq_ld, harg9.read_unread]; exact View.ld_unit_zero (by decide) _ _

variable {c : Dev nD} {i : grid0.Coords} {arg1 : Memref sig .tc .vmem S6x256x1024 .fp8e4m3} {harg1 : arg1.IsWhole} {arg2 : Memref sig .tc .vmem S6x256x56 .f32} {harg2 : arg2.IsWhole} {arg3 : Memref sig .tc .vmem S576x1024 .fp8e4m3} {harg3 : arg3.IsWhole} {arg4 : Memref sig .tc .smem S5x56 .f32} {harg4 : arg4.IsWhole} {arg5 : Memref sig .tc .vmem S1x512 .f32} {harg5 : arg5.IsWhole} {arg6 : Memref sig .tc .vmem S1x64 .f32} {harg6 : arg6.IsWhole} {arg7 : Memref sig .tc .vmem S1x1x256 .i32} {harg7 : arg7.IsWhole} {arg8 : Memref sig .tc .vmem S1x256x512 .bf16} {harg8 : arg8.IsWhole} {arg9 : Memref sig .tc .vmem S1x256x64 .bf16} {harg9 : arg9.IsWhole} {arg10 : Memref sig .tc .vmem S1x256x7168 .bf16} {harg10 : arg10.IsWhole} {arg11 : Memref sig .tc .vmem S1x2x512 .f32} {harg11 : arg11.IsWhole} {arg12 : Memref sig .tc .vmem S1x256x576 .fp8e5m2} {harg12 : arg12.IsWhole} {arg13 : Memref sig .tc .vmem S1x256x5 .f32} {harg13 : arg13.IsWhole} {arg14 : Memref sig .tc .vmem S1536x128 .bf16} {harg14 : arg14.IsWhole} {arg15 : Memref sig .tc .vmem S1536x1024 .bf16} {harg15 : arg15.IsWhole} {arg16 : Memref sig .tc .vmem S7x576x1024 .bf16} {harg16 : arg16.IsWhole} {arg17 : Memref sig .tc .vmem S1536x512 .f32} {harg17 : arg17.IsWhole} {arg18 : Memref sig .tc .vmem S256x576 .bf16} {harg18 : arg18.IsWhole} {hc1 : ¬cond1 i} {hc2 : ¬cond2 i} {hc3 : cond3 i}
  {x4 : Vec Ideal S1x512 .f32} {x5 : Vec Ideal S1x64 .f32} {x6 : Vec Ideal S1x1x256 .i32} {x7 : Vec Ideal S1x256x512 .bf16} {x8 : Vec Ideal S1x256x64 .bf16} {w : Vec Ideal S7x576x1024 .bf16} {cs : Vec Ideal S1536x512 .f32}
  {v13 : Vec Ideal S256x512 .f32} {v16 : Vec Ideal S1x256x512 .bf16} {v35 : Vec Ideal S1x512 .f32} {v352 : Vec Ideal S1x1x256 .i32} {v365 : Vec Ideal S1x64 .f32} {v370 : Vec Ideal S1x256x64 .bf16}

theorem L12
    (ev13 : View.readAt (Elt Ideal) arg17.view (Rect.unit (s := S1536x512) (k0_off47 i) S256x512.size (k0_off47_inb i hc3)).toLoadRect (harg17.unread cs) = v13)
    (ev16 : View.readAt (Elt Ideal) arg8.view (Rect.unit (s := S1x256x512) ![0, 0, 0] S1x256x512.size inb_S1x256x512_S1x256x512_0_0_0).toLoadRect (harg8.unread x7) = v16)
    (ev35 : View.readAt (Elt Ideal) arg5.view (Rect.unit (s := S1x512) ![0, 0] S1x512.size inb_S1x512_S1x512_0_0).toLoadRect (harg5.unread x4) = v35)
    (ev352 : View.readAt (Elt Ideal) arg7.view (Rect.unit (s := S1x1x256) ![0, 0, 0] S1x1x256.size inb_S1x1x256_S1x1x256_0_0_0).toLoadRect (harg7.unread x6) = v352)
    (ev365 : View.readAt (Elt Ideal) arg6.view (Rect.unit (s := S1x64) ![0, 0] S1x64.size inb_S1x64_S1x64_0_0).toLoadRect (harg6.unread x5) = v365)
    (ev370 : View.readAt (Elt Ideal) arg9.view (Rect.unit (s := S1x256x64) ![0, 0, 0] S1x256x64.size inb_S1x256x64_S1x256x64_0_0_0).toLoadRect (harg9.unread x8) = v370) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.1 = [⟨Rect.unit (s := S1x256x576) ![0, 0, 512] S1x256x64.size inb_S1x256x576_S1x256x64_0_0_512, k0_pay123 (F := Ideal) (k0_pay118 (F := Ideal) (k0_pay112 v352 v365) (k0_pay113 v352 v365) (k0_pay114 v370) k0_pay115 k0_pay116 k0_pay117) (k0_pay119 (F := Ideal) (k0_pay112 v352 v365) (k0_pay113 v352 v365) (k0_pay114 v370) k0_pay115 k0_pay116 k0_pay117)⟩, ⟨Rect.unit (s := S1x256x576) ![0, 0, 384] S1x256x128.size inb_S1x256x576_S1x256x128_0_0_384, k0_pay109 (F := Ideal) (k0_pay107 (F := Ideal) (k0_pay100 (F := Ideal) (k0_pay71 (F := Ideal) (k0_pay69 v13 v16 v35) (k0_pay70 v13))) (k0_pay103 (F := Ideal) (k0_pay71 (F := Ideal) (k0_pay69 v13 v16 v35) (k0_pay70 v13))) (k0_pay104 (F := Ideal) (k0_pay71 (F := Ideal) (k0_pay69 v13 v16 v35) (k0_pay70 v13))) 0#32)⟩, ⟨Rect.unit (s := S1x256x576) ![0, 0, 256] S1x256x128.size inb_S1x256x576_S1x256x128_0_0_256, k0_pay98 (F := Ideal) (k0_pay96 (F := Ideal) (k0_pay90 (F := Ideal) (k0_pay71 (F := Ideal) (k0_pay69 v13 v16 v35) (k0_pay70 v13))) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (Scalar.ofBits .f32 0xC7600000#32) (Scalar.ofBits .f32 0x47600000#32)⟩, ⟨Rect.unit (s := S1x256x576) ![0, 0, 128] S1x256x128.size inb_S1x256x576_S1x256x128_0_0_128, k0_pay88 (F := Ideal) (k0_pay78 (F := Ideal) (k0_pay71 (F := Ideal) (k0_pay69 v13 v16 v35) (k0_pay70 v13))) (k0_pay84 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay85 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay86 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) 255#32⟩, ⟨Rect.unit (s := S1x256x576) ![0, 0, 0] S1x256x128.size inb_S1x256x576_S1x256x128_0_0_0, k0_pay76 (F := Ideal) (k0_pay72 (F := Ideal) (k0_pay69 v13 v16 v35) (k0_pay70 v13)) (k0_pay73 (F := Ideal) (k0_pay69 v13 v16 v35) (k0_pay70 v13))⟩] := by
  subst ev13 ev16 ev35 ev352 ev365 ev370; rfl

theorem L13
    (ev13 : View.readAt (Elt Ideal) arg17.view (Rect.unit (s := S1536x512) (k0_off47 i) S256x512.size (k0_off47_inb i hc3)).toLoadRect (harg17.unread cs) = v13)
    (ev16 : View.readAt (Elt Ideal) arg8.view (Rect.unit (s := S1x256x512) ![0, 0, 0] S1x256x512.size inb_S1x256x512_S1x256x512_0_0_0).toLoadRect (harg8.unread x7) = v16)
    (ev35 : View.readAt (Elt Ideal) arg5.view (Rect.unit (s := S1x512) ![0, 0] S1x512.size inb_S1x512_S1x512_0_0).toLoadRect (harg5.unread x4) = v35)
    (ev352 : View.readAt (Elt Ideal) arg7.view (Rect.unit (s := S1x1x256) ![0, 0, 0] S1x1x256.size inb_S1x1x256_S1x1x256_0_0_0).toLoadRect (harg7.unread x6) = v352)
    (ev365 : View.readAt (Elt Ideal) arg6.view (Rect.unit (s := S1x64) ![0, 0] S1x64.size inb_S1x64_S1x64_0_0).toLoadRect (harg6.unread x5) = v365)
    (ev370 : View.readAt (Elt Ideal) arg9.view (Rect.unit (s := S1x256x64) ![0, 0, 0] S1x256x64.size inb_S1x256x64_S1x256x64_0_0_0).toLoadRect (harg9.unread x8) = v370) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.2.1 = [⟨Rect.unit (s := S1x256x5) ![0, 0, 0] S1x256x5.size inb_S1x256x5_S1x256x5_0_0_0, k0_pay125 (F := Ideal) (k0_pay74 (F := Ideal) (k0_pay69 v13 v16 v35) (k0_pay70 v13)) (k0_pay83 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay95 (F := Ideal) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (k0_pay106 (F := Ideal) (k0_pay103 (F := Ideal) (k0_pay71 (F := Ideal) (k0_pay69 v13 v16 v35) (k0_pay70 v13))) (k0_pay104 (F := Ideal) (k0_pay71 (F := Ideal) (k0_pay69 v13 v16 v35) (k0_pay70 v13))) 0#32) (k0_pay120 (F := Ideal) (k0_pay119 (F := Ideal) (k0_pay112 v352 v365) (k0_pay113 v352 v365) (k0_pay114 v370) k0_pay115 k0_pay116 k0_pay117))⟩] := by
  subst ev13 ev16 ev35 ev352 ev365 ev370; rfl

theorem L11
    (ev13 : View.readAt (Elt Ideal) arg17.view (Rect.unit (s := S1536x512) (k0_off47 i) S256x512.size (k0_off47_inb i hc3)).toLoadRect (harg17.unread cs) = v13)
    (ev16 : View.readAt (Elt Ideal) arg8.view (Rect.unit (s := S1x256x512) ![0, 0, 0] S1x256x512.size inb_S1x256x512_S1x256x512_0_0_0).toLoadRect (harg8.unread x7) = v16)
    (ev35 : View.readAt (Elt Ideal) arg5.view (Rect.unit (s := S1x512) ![0, 0] S1x512.size inb_S1x512_S1x512_0_0).toLoadRect (harg5.unread x4) = v35)
    (ev352 : View.readAt (Elt Ideal) arg7.view (Rect.unit (s := S1x1x256) ![0, 0, 0] S1x1x256.size inb_S1x1x256_S1x1x256_0_0_0).toLoadRect (harg7.unread x6) = v352)
    (ev365 : View.readAt (Elt Ideal) arg6.view (Rect.unit (s := S1x64) ![0, 0] S1x64.size inb_S1x64_S1x64_0_0).toLoadRect (harg6.unread x5) = v365)
    (ev370 : View.readAt (Elt Ideal) arg9.view (Rect.unit (s := S1x256x64) ![0, 0, 0] S1x256x64.size inb_S1x256x64_S1x256x64_0_0_0).toLoadRect (harg9.unread x8) = v370) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.1 = [⟨Rect.unit ![0, 0, 0] S1x2x512.size inb_S1x2x512_S1x2x512_0_0_0, k0_pay68 (F := Ideal) v13 v16⟩] := by
  subst ev13 ev16 ev35 ev352 ev365 ev370; rfl

theorem L18
    (ev13 : View.readAt (Elt Ideal) arg17.view (Rect.unit (s := S1536x512) (k0_off47 i) S256x512.size (k0_off47_inb i hc3)).toLoadRect (harg17.unread cs) = v13)
    (ev16 : View.readAt (Elt Ideal) arg8.view (Rect.unit (s := S1x256x512) ![0, 0, 0] S1x256x512.size inb_S1x256x512_S1x256x512_0_0_0).toLoadRect (harg8.unread x7) = v16)
    (ev35 : View.readAt (Elt Ideal) arg5.view (Rect.unit (s := S1x512) ![0, 0] S1x512.size inb_S1x512_S1x512_0_0).toLoadRect (harg5.unread x4) = v35)
    (ev352 : View.readAt (Elt Ideal) arg7.view (Rect.unit (s := S1x1x256) ![0, 0, 0] S1x1x256.size inb_S1x1x256_S1x1x256_0_0_0).toLoadRect (harg7.unread x6) = v352)
    (ev365 : View.readAt (Elt Ideal) arg6.view (Rect.unit (s := S1x64) ![0, 0] S1x64.size inb_S1x64_S1x64_0_0).toLoadRect (harg6.unread x5) = v365)
    (ev370 : View.readAt (Elt Ideal) arg9.view (Rect.unit (s := S1x256x64) ![0, 0, 0] S1x256x64.size inb_S1x256x64_S1x256x64_0_0_0).toLoadRect (harg9.unread x8) = v370) :
    runC.sl.H18_5 c i arg5 harg5 arg6 harg6 arg7 harg7 arg8 harg8 arg9 harg9 arg17 harg17 hc3 x4 x5 x6 x7 x8 cs = [⟨Rect.unit (s := S256x576) ![0, 512] S256x64.size inb_S256x576_S256x64_0_512, k0_pay124 (F := Ideal) (k0_pay122 (F := Ideal) (k0_pay118 (F := Ideal) (k0_pay112 v352 v365) (k0_pay113 v352 v365) (k0_pay114 v370) k0_pay115 k0_pay116 k0_pay117) (k0_pay119 (F := Ideal) (k0_pay112 v352 v365) (k0_pay113 v352 v365) (k0_pay114 v370) k0_pay115 k0_pay116 k0_pay117))⟩, ⟨Rect.unit (s := S256x576) ![0, 384] S256x128.size inb_S256x576_S256x128_0_384, k0_pay110 (F := Ideal) (k0_pay108 (F := Ideal) (k0_pay100 (F := Ideal) (k0_pay71 (F := Ideal) (k0_pay69 v13 v16 v35) (k0_pay70 v13))) (k0_pay103 (F := Ideal) (k0_pay71 (F := Ideal) (k0_pay69 v13 v16 v35) (k0_pay70 v13))) (k0_pay104 (F := Ideal) (k0_pay71 (F := Ideal) (k0_pay69 v13 v16 v35) (k0_pay70 v13))) 0#32)⟩, ⟨Rect.unit (s := S256x576) ![0, 256] S256x128.size inb_S256x576_S256x128_0_256, k0_pay99 (F := Ideal) (k0_pay95 (F := Ideal) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (k0_pay96 (F := Ideal) (k0_pay90 (F := Ideal) (k0_pay71 (F := Ideal) (k0_pay69 v13 v16 v35) (k0_pay70 v13))) (k0_pay91 (F := Ideal) (k0_pay71 (F := Ideal) (k0_pay69 v13 v16 v35) (k0_pay70 v13))) (k0_pay92 (F := Ideal) (k0_pay71 (F := Ideal) (k0_pay69 v13 v16 v35) (k0_pay70 v13))) k0_pay93) (Scalar.ofBits .f32 0xC7600000#32) (Scalar.ofBits .f32 0x47600000#32)⟩, ⟨Rect.unit (s := S256x576) ![0, 128] S256x128.size inb_S256x576_S256x128_0_128, k0_pay89 (F := Ideal) (k0_pay78 (F := Ideal) (k0_pay71 (F := Ideal) (k0_pay69 v13 v16 v35) (k0_pay70 v13))) (k0_pay83 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay84 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay85 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) (k0_pay86 (F := Ideal) (k0_pay79 (F := Ideal) (k0_pay71 (F := Ideal) (k0_pay69 v13 v16 v35) (k0_pay70 v13))) (k0_pay80 (F := Ideal) (k0_pay71 (F := Ideal) (k0_pay69 v13 v16 v35) (k0_pay70 v13))) k0_pay81) 255#32⟩, ⟨Rect.unit (s := S256x576) ![0, 0] S256x128.size inb_S256x576_S256x128_0_0, k0_pay77 (F := Ideal) (k0_pay72 (F := Ideal) (k0_pay69 v13 v16 v35) (k0_pay70 v13)) (k0_pay73 (F := Ideal) (k0_pay69 v13 v16 v35) (k0_pay70 v13)) (k0_pay74 (F := Ideal) (k0_pay69 v13 v16 v35) (k0_pay70 v13))⟩] := by
  subst ev13 ev16 ev35 ev352 ev365 ev370; rfl

theorem L10 {q : Vec Ideal S256x576 .bf16} (hq : (runC.sl.v484 c i arg5 harg5 arg6 harg6 arg7 harg7 arg8 harg8 arg9 harg9 arg17 harg17 arg18 hc3 x4 x5 x6 x7 x8 cs) = q) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).1 = [⟨Rect.unit (s := S1x256x7168) ![0, 0, 6144] S1x256x1024.size inb_S1x256x7168_S1x256x1024_0_0_6144, k0_pay6 (F := Ideal) q (View.readAt (Elt Ideal) arg16.view (Rect.unit (s := S7x576x1024) ![6, 0, 0] S1x576x1024.size inb_S7x576x1024_S1x576x1024_6_0_0).toLoadRect (harg16.unread w))⟩, ⟨Rect.unit (s := S1x256x7168) ![0, 0, 5120] S1x256x1024.size inb_S1x256x7168_S1x256x1024_0_0_5120, k0_pay5 (F := Ideal) (k0_pay132 q (View.readAt (Elt Ideal) arg16.view (Rect.unit (s := S7x576x1024) ![5, 0, 0] S1x576x1024.size inb_S7x576x1024_S1x576x1024_5_0_0).toLoadRect (harg16.unread w)))⟩, ⟨Rect.unit (s := S1x256x7168) ![0, 0, 4096] S1x256x1024.size inb_S1x256x7168_S1x256x1024_0_0_4096, k0_pay131 (F := Ideal) q (View.readAt (Elt Ideal) arg16.view (Rect.unit (s := S7x576x1024) ![4, 0, 0] S1x576x1024.size inb_S7x576x1024_S1x576x1024_4_0_0).toLoadRect (harg16.unread w))⟩, ⟨Rect.unit (s := S1x256x7168) ![0, 0, 3072] S1x256x1024.size inb_S1x256x7168_S1x256x1024_0_0_3072, k0_pay130 (F := Ideal) q (View.readAt (Elt Ideal) arg16.view (Rect.unit (s := S7x576x1024) ![3, 0, 0] S1x576x1024.size inb_S7x576x1024_S1x576x1024_3_0_0).toLoadRect (harg16.unread w))⟩, ⟨Rect.unit (s := S1x256x7168) ![0, 0, 2048] S1x256x1024.size inb_S1x256x7168_S1x256x1024_0_0_2048, k0_pay129 (F := Ideal) q (k0_pay128 (View.readAt (Elt Ideal) arg16.view (Rect.unit (s := S7x576x1024) ![2, 0, 0] S1x576x1024.size inb_S7x576x1024_S1x576x1024_2_0_0).toLoadRect (harg16.unread w))) (constant S256x1024 .f32 0x00000000#32)⟩, ⟨Rect.unit (s := S1x256x7168) ![0, 0, 1024] S1x256x1024.size inb_S1x256x7168_S1x256x1024_0_0_1024, k0_pay127 (F := Ideal) q (View.readAt (Elt Ideal) arg16.view (Rect.unit (s := S7x576x1024) ![1, 0, 0] S1x576x1024.size inb_S7x576x1024_S1x576x1024_1_0_0).toLoadRect (harg16.unread w))⟩, ⟨Rect.unit (s := S1x256x7168) ![0, 0, 0] S1x256x1024.size inb_S1x256x7168_S1x256x1024_0_0_0, k0_pay126 (F := Ideal) q (View.readAt (Elt Ideal) arg16.view (Rect.unit (s := S7x576x1024) ![0, 0, 0] S1x576x1024.size inb_S7x576x1024_S1x576x1024_0_0_0).toLoadRect (harg16.unread w))⟩] := by
  subst hq; rfl

theorem tile3 {n m : ℕ} (W : (⟨3, ![1, 256, n]⟩ : Shape).Idx → EReal) (G : Fin m → EReal) (s : Fin 256) (k : Fin m) (col : Fin n → Fin m)
    (hW : ∀ p : Fin n, W (ix3 0 s p) = G (col p)) (x : (⟨3, ![1, 256, n]⟩ : Shape).Idx) (h1 : s.val = (x 1).val) (h2 : k = col (x 2)) : W x = G k := by
  refine (congrArg W ?_).trans ((hW (x 2)).trans (congrArg G h2.symm))
  funext a
  match a with
  | 0 => exact Subsingleton.elim (α := Fin 1) _ _
  | 1 => exact Fin.ext h1.symm
  | 2 => rfl

theorem tile2 {n m : ℕ} (W : (⟨2, ![256, n]⟩ : Shape).Idx → EReal) (G : Fin m → EReal) (s : Fin 256) (k : Fin m) (col : Fin n → Fin m)
    (hW : ∀ p : Fin n, W (ix2 s p) = G (col p)) (x : (⟨2, ![256, n]⟩ : Shape).Idx) (h1 : s.val = (x 0).val) (h2 : k = col (x 1)) : W x = G k := by
  refine (congrArg W ?_).trans ((hW (x 1)).trans (congrArg G h2.symm))
  funext a
  match a with
  | 0 => exact Fin.ext h1.symm
  | 1 => rfl

theorem c11 (r : Fin 2) (j : Fin 512) :
    View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.1 (ix3 0 r j) =
      ∑ x : Fin 128, (fun a b c : EReal => a * b * c) (x7 (ix3 0 ⟨r.val * 128 + x.val, by omega⟩ j)) (rowsC i hc3 cs (ix2 ⟨r.val * 128 + x.val, by omega⟩ j))
      (rstd (fun j => rowsC i hc3 cs (ix2 ⟨r.val * 128 + x.val, by omega⟩ j))) := by
  rw [L11 (read13 i hc3 arg17 harg17 cs) (read16 arg8 harg8 x7) (read35 arg5 harg5 x4) (read352 arg7 harg7 x6) (read365 arg6 harg6 x5) (read370 arg9 harg9 x8), View.canon_cons_unit_zero (by decide), pay68_at]

theorem c13 (s : Fin 256) (g : Fin 5) :
    View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.2.1 (ix3 0 s g) = pow2R (expo (kG (rowsC i hc3 cs) x7 x4 x6 x5 x8 s) g) := by
  rw [L13 (read13 i hc3 arg17 harg17 cs) (read16 arg8 harg8 x7) (read35 arg5 harg5 x4) (read352 arg7 harg7 x6) (read365 arg6 harg6 x5) (read370 arg9 harg9 x8), View.canon_cons_unit_zero (by decide), scales_at]

theorem c12 (s : Fin 256) (k : Fin 576) :
    View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).2.2.1 (ix3 0 s k) = code (kG (rowsC i hc3 cs) x7 x4 x6 x5 x8 s) k := by
  have hc := runC_cover12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs (ix3 0 s k)
  rw [L12 (read13 i hc3 arg17 harg17 cs) (read16 arg8 harg8 x7) (read35 arg5 harg5 x4) (read352 arg7 harg7 x6) (read365 arg6 harg6 x5) (read370 arg9 harg9 x8)] at hc ⊢
  canon_tiles x h using hc
  · exact tile3 _ (code (kG (rowsC i hc3 cs) x7 x4 x6 x5 x8 s)) s k (fun p => ⟨512 + p.val, by omega⟩) (cd4 (rowsC i hc3 cs) x7 x4 x6 x5 x8 s) x h1 (Fin.ext h2)
  · exact tile3 _ (code (kG (rowsC i hc3 cs) x7 x4 x6 x5 x8 s)) s k (fun p => ⟨384 + p.val, by omega⟩) (cd3 (rowsC i hc3 cs) x7 x4 x6 x5 x8 s) x h1 (Fin.ext h2)
  · exact tile3 _ (code (kG (rowsC i hc3 cs) x7 x4 x6 x5 x8 s)) s k (fun p => ⟨256 + p.val, by omega⟩) (cd2 (rowsC i hc3 cs) x7 x4 x6 x5 x8 s) x h1 (Fin.ext h2)
  · exact tile3 _ (code (kG (rowsC i hc3 cs) x7 x4 x6 x5 x8 s)) s k (fun p => ⟨128 + p.val, by omega⟩) (cd1 (rowsC i hc3 cs) x7 x4 x6 x5 x8 s) x h1 (Fin.ext h2)
  · exact tile3 _ (code (kG (rowsC i hc3 cs) x7 x4 x6 x5 x8 s)) s k (fun p => ⟨p.val, by omega⟩) (cd0 (rowsC i hc3 cs) x7 x4 x6 x5 x8 s) x h1 (Fin.ext h2)

theorem c18 (s : Fin 256) (k : Fin 576) :
    (runC.sl.v484 c i arg5 harg5 arg6 harg6 arg7 harg7 arg8 harg8 arg9 harg9 arg17 harg17 arg18 hc3 x4 x5 x6 x7 x8 cs) (ix2 s k) = wide (kG (rowsC i hc3 cs) x7 x4 x6 x5 x8 s) k := by
  unfold runC.sl.v484
  rw [View.readCov_eq_canon', L18 (read13 i hc3 arg17 harg17 cs) (read16 arg8 harg8 x7) (read35 arg5 harg5 x4) (read352 arg7 harg7 x6) (read365 arg6 harg6 x5) (read370 arg9 harg9 x8)]
  have hs : ∀ y : S256x576.Idx, ∀ L : List (View.Piece (Elt Ideal) S256x576 .bf16), View.canon L ((Rect.unit (s := S256x576) ![0, 0] S256x576.size inb_S256x576_S256x576_0_0).toLoadRect.idx y) = View.canon L y := by
    intro y L; congr 1; funext a; apply Fin.ext; fin_cases a <;> exact (Nat.zero_add _).trans (Nat.one_mul _)
  refine (hs (ix2 s k) _).trans ?_
  have hc := View.cover_of_tiledBy (runC.sl.H18_5 c i arg5 harg5 arg6 harg6 arg7 harg7 arg8 harg8 arg9 harg9 arg17 harg17 hc3 x4 x5 x6 x7 x8 cs) S256x64.size (by sl_kernel_rfl) (ix2 s k)
  rw [L18 (read13 i hc3 arg17 harg17 cs) (read16 arg8 harg8 x7) (read35 arg5 harg5 x4) (read352 arg7 harg7 x6) (read365 arg6 harg6 x5) (read370 arg9 harg9 x8)] at hc
  canon_tiles x h using hc
  · exact tile2 _ (wide (kG (rowsC i hc3 cs) x7 x4 x6 x5 x8 s)) s k (fun p => ⟨512 + p.val, by omega⟩) (wd4 (rowsC i hc3 cs) x7 x4 x6 x5 x8 s) x h0 (Fin.ext h1)
  · exact tile2 _ (wide (kG (rowsC i hc3 cs) x7 x4 x6 x5 x8 s)) s k (fun p => ⟨384 + p.val, by omega⟩) (wd3 (rowsC i hc3 cs) x7 x4 x6 x5 x8 s) x h0 (Fin.ext h1)
  · exact tile2 _ (wide (kG (rowsC i hc3 cs) x7 x4 x6 x5 x8 s)) s k (fun p => ⟨256 + p.val, by omega⟩) (wd2 (rowsC i hc3 cs) x7 x4 x6 x5 x8 s) x h0 (Fin.ext h1)
  · exact tile2 _ (wide (kG (rowsC i hc3 cs) x7 x4 x6 x5 x8 s)) s k (fun p => ⟨128 + p.val, by omega⟩) (wd1 (rowsC i hc3 cs) x7 x4 x6 x5 x8 s) x h0 (Fin.ext h1)
  · exact tile2 _ (wide (kG (rowsC i hc3 cs) x7 x4 x6 x5 x8 s)) s k (fun p => ⟨p.val, by omega⟩) (wd0 (rowsC i hc3 cs) x7 x4 x6 x5 x8 s) x h0 (Fin.ext h1)

theorem readw (arg16 : Memref sig .tc .vmem S7x576x1024 .bf16) (harg16 : arg16.IsWhole) (w : Vec Ideal S7x576x1024 .bf16) (n : ℕ) (hn : n < 7)
    (inb : ∀ a, ![n, 0, 0] a + S1x576x1024.size a ≤ S7x576x1024.size a) (k : Fin 576) (y : Fin 1024) :
    View.readAt (Elt Ideal) arg16.view (Rect.unit (s := S7x576x1024) ![n, 0, 0] S1x576x1024.size inb).toLoadRect (harg16.unread w) (ix3 0 k y) = w (ix3 ⟨n, hn⟩ k y) := by
  rw [View.readAt_eq_ld, harg16.read_unread]
  refine congrArg w (funext fun a => Fin.ext ?_)
  match a with
  | 0 => rfl
  | 1 => exact (Nat.zero_add _).trans (Nat.one_mul _)
  | 2 => exact (Nat.zero_add _).trans (Nat.one_mul _)

/-- The input's gradient at a token and a column of the step's batch. -/
theorem c10 (s : Fin 256) (d : Fin 7168) :
    View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs).1 (ix3 0 s d) =
      ∑ k : Fin 576, (fun a b : EReal => a * b) (wide (kG (rowsC i hc3 cs) x7 x4 x6 x5 x8 s) k) (w (ix3 ⟨d.val / 1024, by omega⟩ k ⟨d.val % 1024, by omega⟩)) := by
  have hc := runC_cover10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 x4 x5 x6 x7 x8 w cs (ix3 0 s d)
  rw [L10 rfl] at hc ⊢
  canon_tiles x h using hc
  · refine tile3 _ (fun d : Fin 7168 => ∑ k : Fin 576, (fun a b : EReal => a * b) (wide (kG (rowsC i hc3 cs) x7 x4 x6 x5 x8 s) k) (w (ix3 ⟨d.val / 1024, by omega⟩ k ⟨d.val % 1024, by omega⟩))) s d (fun p => ⟨6144 + p.val, by omega⟩) (fun p => ?_) x h1 (Fin.ext h2)
    rw [dx6]
    refine Finset.sum_congr rfl fun k _ => ?_
    rw [c18 s k, readw arg16 harg16 w 6 (by decide) _ k p]
    simp only [show (6144 + p.val) / 1024 = 6 by omega, show (6144 + p.val) % 1024 = p.val by omega]
  · refine tile3 _ (fun d : Fin 7168 => ∑ k : Fin 576, (fun a b : EReal => a * b) (wide (kG (rowsC i hc3 cs) x7 x4 x6 x5 x8 s) k) (w (ix3 ⟨d.val / 1024, by omega⟩ k ⟨d.val % 1024, by omega⟩))) s d (fun p => ⟨5120 + p.val, by omega⟩) (fun p => ?_) x h1 (Fin.ext h2)
    rw [dx5]
    refine Finset.sum_congr rfl fun k _ => ?_
    rw [c18 s k, readw arg16 harg16 w 5 (by decide) _ k p]
    simp only [show (5120 + p.val) / 1024 = 5 by omega, show (5120 + p.val) % 1024 = p.val by omega]
  · refine tile3 _ (fun d : Fin 7168 => ∑ k : Fin 576, (fun a b : EReal => a * b) (wide (kG (rowsC i hc3 cs) x7 x4 x6 x5 x8 s) k) (w (ix3 ⟨d.val / 1024, by omega⟩ k ⟨d.val % 1024, by omega⟩))) s d (fun p => ⟨4096 + p.val, by omega⟩) (fun p => ?_) x h1 (Fin.ext h2)
    rw [dx4]
    refine Finset.sum_congr rfl fun k _ => ?_
    rw [c18 s k, readw arg16 harg16 w 4 (by decide) _ k p]
    simp only [show (4096 + p.val) / 1024 = 4 by omega, show (4096 + p.val) % 1024 = p.val by omega]
  · refine tile3 _ (fun d : Fin 7168 => ∑ k : Fin 576, (fun a b : EReal => a * b) (wide (kG (rowsC i hc3 cs) x7 x4 x6 x5 x8 s) k) (w (ix3 ⟨d.val / 1024, by omega⟩ k ⟨d.val % 1024, by omega⟩))) s d (fun p => ⟨3072 + p.val, by omega⟩) (fun p => ?_) x h1 (Fin.ext h2)
    rw [dx3]
    refine Finset.sum_congr rfl fun k _ => ?_
    rw [c18 s k, readw arg16 harg16 w 3 (by decide) _ k p]
    simp only [show (3072 + p.val) / 1024 = 3 by omega, show (3072 + p.val) % 1024 = p.val by omega]
  · refine tile3 _ (fun d : Fin 7168 => ∑ k : Fin 576, (fun a b : EReal => a * b) (wide (kG (rowsC i hc3 cs) x7 x4 x6 x5 x8 s) k) (w (ix3 ⟨d.val / 1024, by omega⟩ k ⟨d.val % 1024, by omega⟩))) s d (fun p => ⟨2048 + p.val, by omega⟩) (fun p => ?_) x h1 (Fin.ext h2)
    rw [dx2]
    refine Finset.sum_congr rfl fun k _ => ?_
    rw [c18 s k, readw arg16 harg16 w 2 (by decide) _ k p]
    simp only [show (2048 + p.val) / 1024 = 2 by omega, show (2048 + p.val) % 1024 = p.val by omega]
  · refine tile3 _ (fun d : Fin 7168 => ∑ k : Fin 576, (fun a b : EReal => a * b) (wide (kG (rowsC i hc3 cs) x7 x4 x6 x5 x8 s) k) (w (ix3 ⟨d.val / 1024, by omega⟩ k ⟨d.val % 1024, by omega⟩))) s d (fun p => ⟨1024 + p.val, by omega⟩) (fun p => ?_) x h1 (Fin.ext h2)
    rw [dx1]
    refine Finset.sum_congr rfl fun k _ => ?_
    rw [c18 s k, readw arg16 harg16 w 1 (by decide) _ k p]
    simp only [show (1024 + p.val) / 1024 = 1 by omega, show (1024 + p.val) % 1024 = p.val by omega]
  · refine tile3 _ (fun d : Fin 7168 => ∑ k : Fin 576, (fun a b : EReal => a * b) (wide (kG (rowsC i hc3 cs) x7 x4 x6 x5 x8 s) k) (w (ix3 ⟨d.val / 1024, by omega⟩ k ⟨d.val % 1024, by omega⟩))) s d (fun p => ⟨p.val, by omega⟩) (fun p => ?_) x h1 (Fin.ext h2)
    rw [dx0]
    refine Finset.sum_congr rfl fun k _ => ?_
    rw [c18 s k, readw arg16 harg16 w 0 (by decide) _ k p]
    simp only [show (0 + p.val) / 1024 = 0 by omega, show (0 + p.val) % 1024 = p.val by omega, show p.val / 1024 = 0 by omega, show p.val % 1024 = p.val by omega]
end Cert.KernelIdeal.Val
end
-- ==== Proof.Value.KerAcc.lean ====
module

public import proofs.«01_k».proof.Proof.Value.KerBlk
public import proofs.«01_k».proof.Proof.Value.Proj
public import proofs.«01_k».proof.Proof.Value.KerRun

@[expose] public section

set_option maxRecDepth 16384

noncomputable section

namespace Cert.KernelIdeal.Val

open Idealize.ShloMosaic Idealize.SL.Sem
open Idealize.ShloMosaic.TcCoe
open Cert.KernelIdeal Cert.KernelIdeal.Gen Cert.KernelIdeal.Run Cert.Spec
variable (m : (ℓ : Loc nD τ sig) → Buf (Elt Ideal) ℓ) (c : Dev nD)

theorem pay1_at (r : Fin 1536) (j : Fin 512) : k0_pay1 (F := Ideal) (ix2 r j) = 0 := by
  pointwise [k0_pay1]

theorem pay3_at (x1 : Vec Ideal S6x256x56 .f32) (b : Fin 6) (s : Fin 256) (g : Fin 56) :
    k0_pay3 x1 (ix2 ⟨b.val * 256 + s.val, by omega⟩ g) = x1 (ix3 b s g) := by
  pointwise [k0_pay3]

theorem pay4_at (a : Vec Ideal S1536x512 .f32) (x : Vec Ideal S1536x1024 .bf16) (w : Vec Ideal S1x512x1024 .bf16) (r : Fin 1536) (j : Fin 512) :
    k0_pay4 a x w (ix2 r j) = a (ix2 r j) + ∑ l : Fin 1024, x (ix2 r l) * w (ix3 0 j l) := by
  pointwise [k0_pay4]

theorem xsv_at (x1 : Vec Ideal S6x256x56 .f32) (b : Fin 6) (s : Fin 256) (g : Fin 56) :
    xsv x1 (ix2 ⟨b.val * 256 + s.val, by omega⟩ ⟨g.val, by omega⟩) = x1 (ix3 b s g) := by
  unfold xsv
  rw [show (ix2 ⟨b.val * 256 + s.val, by omega⟩ ⟨g.val, by omega⟩ : S1536x128.Idx) =
    (Rect.unit (s := S1536x128) ![0, 0] S1536x56.size inb_S1536x128_S1536x56_0_0).emb (ix2 ⟨b.val * 256 + s.val, by omega⟩ g) from by
      funext a; apply Fin.ext; fin_cases a
      · show b.val * 256 + s.val = 0 + 1 * (b.val * 256 + s.val); omega
      · show g.val = 0 + 1 * g.val; omega]
  exact (View.canon_cons_emb (Val := Elt Ideal) _ _ _ _).trans (pay3_at x1 b s g)

theorem XS_at (b : Fin 6) (s : Fin 256) (g : Fin 56) :
    XS m c (ix2 ⟨b.val * 256 + s.val, by omega⟩ ⟨g.val, by omega⟩) = m ((c : Thread nD τ).loc main_arg1) (ix3 b s g) := by
  unfold XS
  rw [xsv_at, blk1]

theorem wAll_at (x2 : Vec Ideal S576x1024 .fp8e4m3) (x3 : Vec Ideal S5x56 .f32) (n : Fin 7) (k : Fin 576) (l : Fin 1024) :
    wAll x2 x3 (ix3 n k l) = x2 (ix2 k l) * x3 (ix2 ⟨k.val / 128, by omega⟩ ⟨8 * n.val + l.val / 128, by omega⟩) := by
  pointwise [wAll]

theorem xwBlk_at (n : ℕ) (xs : Vec Ideal S1536x128 .bf16) (x0 : Vec Ideal S6x256x1024 .fp8e4m3) (r : Fin 1536) (l : Fin 1024) :
    xwBlk n xs x0 (ix2 r l) = x0 (ix3 ⟨r.val / 256, by omega⟩ ⟨r.val % 256, by omega⟩ l) *
      xs (ix2 r ⟨(8 * n + l.val / 128) % 128, by omega⟩) := by
  pointwise [xwBlk]

/-- The arguments at the start of the call. -/
def args : Args where
  X b s x := m ((c : Thread nD τ).loc main_arg0) (ix3 b s x)
  XC b s g := m ((c : Thread nD τ).loc main_arg1) (ix3 b s g)
  W k x := m ((c : Thread nD τ).loc main_arg2) (ix2 k x)
  WC k g := m ((c : Thread nD τ).loc main_arg3) (ix2 k g)
  GA j := m ((c : Thread nD τ).loc main_arg4) (ix1 j)
  P b s := FloatOps.sitofp (F := Ideal) .f32 (m ((c : Thread nD τ).loc main_arg5) (ix2 b s))
  DC b s j := m ((c : Thread nD τ).loc main_arg6) (ix3 b s j)
  DK b s k := m ((c : Thread nD τ).loc main_arg7) (ix3 b s k)
  FR i := Ideal.ofBits .f32 (lit0 ⟨2 * i.val, by omega⟩)

/-- The accumulator after the first phase holds the projection. -/
theorem Cn_at7 (b : Fin 6) (s : Fin 256) (j : Fin 512) : Cn m c 7 (ix2 ⟨b.val * 256 + s.val, by omega⟩ j) = (args m c).c b s j := by
  unfold Args.c proj
  refine sum_blocks _ (fun n => Cn m c n (ix2 ⟨b.val * 256 + s.val, by omega⟩ j)) (pay1_at _ _) fun n h => ?_
  rw [Cn_succ m c n h, pay4_at]
  congr 1
  refine Finset.sum_congr rfl fun l _ => ?_
  have hl := l.isLt
  have hr : (⟨(b.val * 256 + s.val) / 256, by omega⟩ : Fin 6) = b := Fin.ext (by show (b.val * 256 + s.val) / 256 = b.val; omega)
  have hr' : (⟨(b.val * 256 + s.val) % 256, by omega⟩ : Fin 256) = s := Fin.ext (by show (b.val * 256 + s.val) % 256 = s.val; omega)
  have hg : (⟨(8 * n + l.val / 128) % 128, by omega⟩ : Fin 128) = ⟨(1024 * n + l.val) / 128, by omega⟩ := Fin.ext (by show (8 * n + l.val / 128) % 128 = (1024 * n + l.val) / 128; omega)
  have hg' : (⟨8 * n + l.val / 128, by omega⟩ : Fin 56) = ⟨(1024 * n + l.val) / 128, by omega⟩ := Fin.ext (by show 8 * n + l.val / 128 = (1024 * n + l.val) / 128; omega)
  rw [xwBlk_at]
  rw [hr, hr', blk0 m c n h, hg, XS_at m c b s ⟨(1024 * n + l.val) / 128, by omega⟩]
  have hw : wRows (iblk m c 2 (pt n (by omega))) (iblk m c 3 (pt n (by omega))) n h (ix3 0 j l) =
      wAll (iblk m c 2 (pt n (by omega))) (iblk m c 3 (pt n (by omega))) (ix3 ⟨n, h⟩ ⟨j.val, by omega⟩ l) := rfl
  rw [hw, wAll_at]
  rw [hg', blk2 m c n h, blk3]
  rfl

theorem Wfull_at (n : Fin 7) (k : Fin 576) (l : Fin 1024) : Wfull m c (ix3 n k l) =
    (args m c).W k ⟨1024 * n.val + l.val, by omega⟩ * (args m c).WC ⟨k.val / 128, by omega⟩ ⟨(1024 * n.val + l.val) / 128, by omega⟩ := by
  have hl := l.isLt
  have hn := n.isLt
  have hw : Wfull m c (ix3 n k l) = wAll (iblk m c 2 (pt n.val (by omega))) (iblk m c 3 (pt n.val (by omega))) (ix3 n k l) := rfl
  have hg' : (⟨8 * n.val + l.val / 128, by omega⟩ : Fin 56) = ⟨(1024 * n.val + l.val) / 128, by omega⟩ := Fin.ext (by show 8 * n.val + l.val / 128 = (1024 * n.val + l.val) / 128; omega)
  rw [hw, wAll_at, hg', blk2 m c n.val hn, blk3]
  rfl

theorem off47 : ∀ t : Fin cfg0.N, 7 ≤ t.val → k0_off47 (grid0.coords t) = ![256 * (t.val - 7), 0] := by decide +kernel

/-- The rows of the accumulator that a point of the second phase reads. -/
theorem rows_at (t : Fin cfg0.N) (b : Fin 6) (h : t.val = 7 + b.val) (hc3 : cond3 (grid0.coords t)) (s : Fin 256) (j : Fin 512) :
    rowsC (grid0.coords t) hc3 (Cn m c 7) (ix2 s j) = (args m c).c b s j := by
  rw [← Cn_at7]
  have e := off47 t (by omega)
  show Cn m c 7 _ = _
  congr 1
  funext a
  apply Fin.ext
  fin_cases a
  · show k0_off47 (grid0.coords t) 0 + 1 * s.val = b.val * 256 + s.val
    rw [e]; show 256 * (t.val - 7) + 1 * s.val = b.val * 256 + s.val; omega
  · show k0_off47 (grid0.coords t) 1 + 1 * j.val = j.val
    rw [e]; show 0 + 1 * j.val = j.val; omega

theorem lit_pair : ∀ k : Fin 64, lit0 k = lit0 ⟨2 * (k.val / 2), by omega⟩ := by decide +kernel

/-- The gradient rows of a point of the second phase. -/
theorem row_at (t : Fin cfg0.N) (b : Fin 6) (h : t.val = 7 + b.val) (hc3 : cond3 (grid0.coords t)) (s : Fin 256) :
    kG (rowsC (grid0.coords t) hc3 (Cn m c 7)) (iblk m c 7 t) (iblk m c 4 t) (iblk m c 6 t) (iblk m c 5 t) (iblk m c 8 t) s = (args m c).g b s := by
  have hD : kD (rowsC (grid0.coords t) hc3 (Cn m c 7)) (iblk m c 7 t) (iblk m c 4 t) s = dcv ((args m c).c b s) ((args m c).DC b s) (args m c).GA := by
    have h1 : (fun j => rowsC (grid0.coords t) hc3 (Cn m c 7) (ix2 s j)) = (args m c).c b s := funext fun j => rows_at m c t b h hc3 s j
    have h2 : (fun j => iblk m c 7 t (ix3 0 s j)) = (args m c).DC b s := funext fun j => blk7 m c t b h s j
    have h3 : (fun j => iblk m c 4 t (ix2 0 j)) = (args m c).GA := funext fun j => blk4 m c t j
    exact (congrArg (fun a => dcv a _ _) h1).trans ((congrArg (fun a => dcv _ a _) h2).trans (congrArg (fun a => dcv _ _ a) h3))
  have hR : kR (iblk m c 6 t) (iblk m c 5 t) (iblk m c 8 t) s = rope ((args m c).DK b s) ((args m c).P b s) (args m c).FR := by
    funext k
    refine (kR_eq (iblk m c 6 t) (iblk m c 5 t) (iblk m c 8 t) (args m c).FR (fun k => (blk5 m c t k).trans (congrArg (Ideal.ofBits .f32) (lit_pair k))) s k).trans ?_
    have h1 : (fun k => iblk m c 8 t (ix3 0 s k)) = (args m c).DK b s := funext fun k => blk8 m c t b h s k
    have h2 : FloatOps.sitofp (F := Ideal) .f32 (iblk m c 6 t (ix3 0 0 s)) = (args m c).P b s := congrArg (FloatOps.sitofp (F := Ideal) .f32) (blk6 m c t b h s)
    exact (congrArg (fun a => rope a _ _ _) h1).trans (congrArg (fun a => rope _ a _ _) h2)
  exact (congrArg (fun a => rowG a _) hD).trans (congrArg (fun a => rowG _ a) hR)

theorem out10_at (t : Fin cfg0.N) (b : Fin 6) (h : t.val = 7 + b.val) (s : Fin 256) (d : Fin 7168) :
    out10 m c t (ix3 0 s d) = (args m c).r0 b s d := by
  unfold out10 Args.r0
  rw [dif_pos (by omega), c10]
  refine Finset.sum_congr rfl fun k _ => ?_
  have hd : (⟨1024 * (d.val / 1024) + d.val % 1024, by omega⟩ : Fin 7168) = d := Fin.ext (Nat.div_add_mod _ _)
  rw [row_at m c t b h, Wfull_at]
  show _ * (_ * (args m c).WC _ _) = _
  simp only [hd, Nat.div_add_mod]

theorem out11_at (t : Fin cfg0.N) (b : Fin 6) (h : t.val = 7 + b.val) (r : Fin 2) (j : Fin 512) :
    out11 m c t (ix3 0 r j) = (args m c).r1 b r j := by
  unfold out11 Args.r1
  rw [dif_pos (by omega), c11]
  refine Finset.sum_congr rfl fun x _ => ?_
  simp only [rows_at m c t b h]
  rw [blk7 m c t b h]
  rfl

theorem out12_at (t : Fin cfg0.N) (b : Fin 6) (h : t.val = 7 + b.val) (s : Fin 256) (k : Fin 576) :
    out12 m c t (ix3 0 s k) = (args m c).r2 b s k := by
  unfold out12 Args.r2
  rw [dif_pos (by omega), c12, row_at m c t b h]

theorem out13_at (t : Fin cfg0.N) (b : Fin 6) (h : t.val = 7 + b.val) (s : Fin 256) (i : Fin 5) :
    out13 m c t (ix3 0 s i) = (args m c).r3 b s i := by
  unfold out13 Args.r3
  rw [dif_pos (by omega), c13, row_at m c t b h]
end Cert.KernelIdeal.Val
end
-- ==== Proof.Value.KerOut.lean ====
module

public import proofs.«01_k».proof.Proof.Value.KerAcc

@[expose] public section

set_option maxRecDepth 16384

noncomputable section

namespace Cert.KernelIdeal.Val

open Idealize.ShloMosaic Idealize.SL.Sem
open Idealize.ShloMosaic.TcCoe
open Cert.KernelIdeal Cert.KernelIdeal.Gen Cert.KernelIdeal.Run Cert.Spec
variable (m : (ℓ : Loc nD τ sig) → Buf (Elt Ideal) ℓ) (c : Dev nD)

/-! What the result arrays hold after the run. -/

def R0 (A : Args) : Vec Ideal S6x256x7168 .bf16 := fun y => A.r0 ⟨(y 0).val, (y 0).isLt⟩ ⟨(y 1).val, (y 1).isLt⟩ ⟨(y 2).val, (y 2).isLt⟩

theorem arr9 : (dats m 0 c).arrAt 9 cfg0.N = R0 (args m c) := by
  refine (dats m 0 c).arrAt_eq_of_covers 9 _ (by decide +kernel) fun t hf y => ?_
  have h7 : 7 ≤ t.val := by
    by_contra h
    rw [noFlush0_9 t (by omega)] at hf
    exact absurd hf (by decide)
  have hN : t.val < 13 := lt_of_lt_of_eq t.isLt N_0
  blk_simp
  rw [after0_9]
  have h0 : (y 0).val < 1 := (y 0).isLt
  have h1 : (y 1).val < 256 := (y 1).isLt
  have h2 : (y 2).val < 7168 := (y 2).isLt
  have hy : out10 m c t (ix3 0 ⟨(y 1).val, h1⟩ ⟨(y 2).val, h2⟩) = (args m c).r0 ⟨t.val - 7, by omega⟩ ⟨(y 1).val, h1⟩ ⟨(y 2).val, h2⟩ :=
    out10_at m c t ⟨t.val - 7, by omega⟩ (by show t.val = 7 + (t.val - 7); omega) _ _
  have key : ∀ z : S6x256x7168.Idx, (z 0).val = t.val - 7 → (z 1).val = (y 1).val → (z 2).val = (y 2).val →
      (args m c).r0 ⟨t.val - 7, by omega⟩ ⟨(y 1).val, h1⟩ ⟨(y 2).val, h2⟩ = R0 (args m c) z := by
    intro z e0 e1 e2
    simp only [R0, e0, e1, e2]
  refine Eq.trans (congrArg (out10 m c t) ?_) (hy.trans (key _ ?_ ?_ ?_))
  · funext a
    apply Fin.ext
    fin_cases a
    · show (y 0).val = 0; omega
    · rfl
    · rfl
  · blk_simp [idx9 t]
  · blk_simp [idx9 t]
  · blk_simp [idx9 t]

def R1 (A : Args) : Vec Ideal S6x2x512 .f32 := fun y => A.r1 ⟨(y 0).val, (y 0).isLt⟩ ⟨(y 1).val, (y 1).isLt⟩ ⟨(y 2).val, (y 2).isLt⟩

theorem arr10 : (dats m 0 c).arrAt 10 cfg0.N = R1 (args m c) := by
  refine (dats m 0 c).arrAt_eq_of_covers 10 _ (by decide +kernel) fun t hf y => ?_
  have h7 : 7 ≤ t.val := by
    by_contra h
    rw [noFlush0_10 t (by omega)] at hf
    exact absurd hf (by decide)
  have hN : t.val < 13 := lt_of_lt_of_eq t.isLt N_0
  blk_simp
  rw [after0_10]
  have h0 : (y 0).val < 1 := (y 0).isLt
  have h1 : (y 1).val < 2 := (y 1).isLt
  have h2 : (y 2).val < 512 := (y 2).isLt
  have hy : out11 m c t (ix3 0 ⟨(y 1).val, h1⟩ ⟨(y 2).val, h2⟩) = (args m c).r1 ⟨t.val - 7, by omega⟩ ⟨(y 1).val, h1⟩ ⟨(y 2).val, h2⟩ :=
    out11_at m c t ⟨t.val - 7, by omega⟩ (by show t.val = 7 + (t.val - 7); omega) _ _
  have key : ∀ z : S6x2x512.Idx, (z 0).val = t.val - 7 → (z 1).val = (y 1).val → (z 2).val = (y 2).val →
      (args m c).r1 ⟨t.val - 7, by omega⟩ ⟨(y 1).val, h1⟩ ⟨(y 2).val, h2⟩ = R1 (args m c) z := by
    intro z e0 e1 e2
    simp only [R1, e0, e1, e2]
  refine Eq.trans (congrArg (out11 m c t) ?_) (hy.trans (key _ ?_ ?_ ?_))
  · funext a
    apply Fin.ext
    fin_cases a
    · show (y 0).val = 0; omega
    · rfl
    · rfl
  · blk_simp [idx10 t]
  · blk_simp [idx10 t]
  · blk_simp [idx10 t]

def R2 (A : Args) : Vec Ideal S6x256x576 .fp8e5m2 := fun y => A.r2 ⟨(y 0).val, (y 0).isLt⟩ ⟨(y 1).val, (y 1).isLt⟩ ⟨(y 2).val, (y 2).isLt⟩

theorem arr11 : (dats m 0 c).arrAt 11 cfg0.N = R2 (args m c) := by
  refine (dats m 0 c).arrAt_eq_of_covers 11 _ (by decide +kernel) fun t hf y => ?_
  have h7 : 7 ≤ t.val := by
    by_contra h
    rw [noFlush0_11 t (by omega)] at hf
    exact absurd hf (by decide)
  have hN : t.val < 13 := lt_of_lt_of_eq t.isLt N_0
  blk_simp
  rw [after0_11]
  have h0 : (y 0).val < 1 := (y 0).isLt
  have h1 : (y 1).val < 256 := (y 1).isLt
  have h2 : (y 2).val < 576 := (y 2).isLt
  have hy : out12 m c t (ix3 0 ⟨(y 1).val, h1⟩ ⟨(y 2).val, h2⟩) = (args m c).r2 ⟨t.val - 7, by omega⟩ ⟨(y 1).val, h1⟩ ⟨(y 2).val, h2⟩ :=
    out12_at m c t ⟨t.val - 7, by omega⟩ (by show t.val = 7 + (t.val - 7); omega) _ _
  have key : ∀ z : S6x256x576.Idx, (z 0).val = t.val - 7 → (z 1).val = (y 1).val → (z 2).val = (y 2).val →
      (args m c).r2 ⟨t.val - 7, by omega⟩ ⟨(y 1).val, h1⟩ ⟨(y 2).val, h2⟩ = R2 (args m c) z := by
    intro z e0 e1 e2
    simp only [R2, e0, e1, e2]
  refine Eq.trans (congrArg (out12 m c t) ?_) (hy.trans (key _ ?_ ?_ ?_))
  · funext a
    apply Fin.ext
    fin_cases a
    · show (y 0).val = 0; omega
    · rfl
    · rfl
  · blk_simp [idx11 t]
  · blk_simp [idx11 t]
  · blk_simp [idx11 t]

def R3 (A : Args) : Vec Ideal S6x256x5 .f32 := fun y => A.r3 ⟨(y 0).val, (y 0).isLt⟩ ⟨(y 1).val, (y 1).isLt⟩ ⟨(y 2).val, (y 2).isLt⟩

theorem arr12 : (dats m 0 c).arrAt 12 cfg0.N = R3 (args m c) := by
  refine (dats m 0 c).arrAt_eq_of_covers 12 _ (by decide +kernel) fun t hf y => ?_
  have h7 : 7 ≤ t.val := by
    by_contra h
    rw [noFlush0_12 t (by omega)] at hf
    exact absurd hf (by decide)
  have hN : t.val < 13 := lt_of_lt_of_eq t.isLt N_0
  blk_simp
  rw [after0_12]
  have h0 : (y 0).val < 1 := (y 0).isLt
  have h1 : (y 1).val < 256 := (y 1).isLt
  have h2 : (y 2).val < 5 := (y 2).isLt
  have hy : out13 m c t (ix3 0 ⟨(y 1).val, h1⟩ ⟨(y 2).val, h2⟩) = (args m c).r3 ⟨t.val - 7, by omega⟩ ⟨(y 1).val, h1⟩ ⟨(y 2).val, h2⟩ :=
    out13_at m c t ⟨t.val - 7, by omega⟩ (by show t.val = 7 + (t.val - 7); omega) _ _
  have key : ∀ z : S6x256x5.Idx, (z 0).val = t.val - 7 → (z 1).val = (y 1).val → (z 2).val = (y 2).val →
      (args m c).r3 ⟨t.val - 7, by omega⟩ ⟨(y 1).val, h1⟩ ⟨(y 2).val, h2⟩ = R3 (args m c) z := by
    intro z e0 e1 e2
    simp only [R3, e0, e1, e2]
  refine Eq.trans (congrArg (out13 m c t) ?_) (hy.trans (key _ ?_ ?_ ?_))
  · funext a
    apply Fin.ext
    fin_cases a
    · show (y 0).val = 0; omega
    · rfl
    · rfl
  · blk_simp [idx12 t]
  · blk_simp [idx12 t]
  · blk_simp [idx12 t]
end Cert.KernelIdeal.Val
end
-- ==== Proof.Value.RefPay.lean ====
module

public import proofs.«01_k».proof.Proof.Gen.ReferenceIdeal.Skeleton
public import proofs.«01_k».proof.Proof.Gen.ReferenceIdeal.Frame
public import proofs.«01_k».proof.Proof.Value.Spec
public import Idealize.ShloMosaic.Lib.Pointwise

@[expose] public section

set_option maxRecDepth 16384

noncomputable section

namespace Cert.ReferenceIdeal.Val

open Idealize.ShloMosaic Idealize.SL.Sem
open Cert.ReferenceIdeal Cert.ReferenceIdeal.Gen Cert.Spec
variable (x0 : Vec Ideal S6x256x7168 .fp8e4m3) (x1 : Vec Ideal S6x256x7168 .bf16) (x2 : Vec Ideal S576x7168 .fp8e4m3) (x3 : Vec Ideal S576x7168 .bf16) (x4 : Vec Ideal S1x1x512 .f32) (x5 : Vec Ideal S6x256x512 .bf16) (x6 : Vec Ideal S6x256x64 .f32)

/-- The projection at a token and a latent column. -/
def cRow (b : Fin 6) (s : Fin 256) (j : Fin 512) : EReal :=
  ∑ x : Fin 7168, x0 (ix3 b s x) * x1 (ix3 b s x) * (x2 (ix2 ⟨j.val, by omega⟩ x) * x3 (ix2 ⟨j.val, by omega⟩ x))

/-- The gradient row at a token. -/
def gRow (b : Fin 6) (s : Fin 256) : Fin 576 → EReal :=
  rowG (dcv (cRow x0 x1 x2 x3 b s) (fun j => x5 (ix3 b s j)) (fun j => x4 (ix3 0 0 j))) (fun k => x6 (ix3 b s k))

theorem pay4_at (b : Fin 6) (s : Fin 256) (j : Fin 512) : k0_pay4 x2 x3 x0 x1 (ix3 b s j) = cRow x0 x1 x2 x3 b s j := by
  unfold cRow
  pointwise [k0_pay4, k0_pay3]

theorem pay6_at (b : Fin 6) (s : Fin 256) : k0_pay6 x2 x3 x0 x1 (ix3 b s 0) = rstd (cRow x0 x1 x2 x3 b s) := by
  unfold rstd
  simp only [← pay4_at]
  pointwise [k0_pay6]

theorem pay7_at (b : Fin 6) (r : Fin 2) (j : Fin 512) : k0_pay7 x2 x3 x0 x1 x5 (ix3 b r j) =
    ∑ x : Fin 128, x5 (ix3 b ⟨r.val * 128 + x.val, by omega⟩ j) * cRow x0 x1 x2 x3 b ⟨r.val * 128 + x.val, by omega⟩ j *
      rstd (cRow x0 x1 x2 x3 b ⟨r.val * 128 + x.val, by omega⟩) := by
  simp only [← pay6_at, ← pay4_at]
  pointwise [k0_pay7, k0_pay5]

theorem pay9_at (b : Fin 6) (s : Fin 256) (k : Fin 576) :
    k0_pay9 (k0_pay4 x2 x3 x0 x1) (k0_pay5 x5) (k0_pay6 x2 x3 x0 x1) (k0_pay8 x4) x6 (ix3 b s k) = gRow x0 x1 x2 x3 x4 x5 x6 b s k := by
  unfold gRow rowG dcv
  simp only [← pay6_at, ← pay4_at]
  pointwise [k0_pay9, k0_pay5, k0_pay8]

/-- The quotient the exponent is taken of. -/
theorem pay10_at (b : Fin 6) (s : Fin 256) (i : Fin 5) :
    k0_pay10 (k0_pay4 x2 x3 x0 x1) (k0_pay5 x5) (k0_pay6 x2 x3 x0 x1) (k0_pay8 x4) x6 (ix3 b s i) =
      gmax (gRow x0 x1 x2 x3 x4 x5 x6 b s) i * invMax := by
  unfold gmax amax
  simp only [← pay9_at]
  pointwise [k0_pay10]
  rfl

theorem pay12_at (b : Fin 6) (s : Fin 256) (i : Fin 5) :
    k0_pay12 (k0_pay10 (k0_pay4 x2 x3 x0 x1) (k0_pay5 x5) (k0_pay6 x2 x3 x0 x1) (k0_pay8 x4) x6)
      (k0_pay11 (k0_pay4 x2 x3 x0 x1) (k0_pay5 x5) (k0_pay6 x2 x3 x0 x1) (k0_pay8 x4) x6) (ix3 b s i) =
      expo (gRow x0 x1 x2 x3 x4 x5 x6 b s) i := by
  unfold expo refE
  rw [← pay10_at]
  pointwise [k0_pay12, k0_pay11]

theorem pay13_at (b : Fin 6) (s : Fin 256) (i : Fin 5) :
    k0_pay13 (k0_pay10 (k0_pay4 x2 x3 x0 x1) (k0_pay5 x5) (k0_pay6 x2 x3 x0 x1) (k0_pay8 x4) x6)
      (k0_pay11 (k0_pay4 x2 x3 x0 x1) (k0_pay5 x5) (k0_pay6 x2 x3 x0 x1) (k0_pay8 x4) x6) (ix3 b s i) =
      pow2R (expo (gRow x0 x1 x2 x3 x4 x5 x6 b s) i) := by
  unfold pow2R
  rw [← pay12_at]
  pointwise [k0_pay13]
  rfl

theorem ladder {α : Type} (f : Fin 5 → α) (k : Fin 576) : f (grp k) = if k.val < 128 then f 0 else if k.val - 128 < 128 then f 1
    else if k.val - 128 - 128 < 128 then f 2 else if k.val - 128 - 128 - 128 < 128 then f 3 else f 4 := by
  unfold grp; split_ifs <;> rfl

theorem pay1_at (b : Fin 6) (s : Fin 256) (k : Fin 576) :
    k0_pay1 (Scalar.ofBits .f32 0x47600000#32) (k0_pay14 (k0_pay9 (k0_pay4 x2 x3 x0 x1) (k0_pay5 x5) (k0_pay6 x2 x3 x0 x1) (k0_pay8 x4) x6)
      (k0_pay10 (k0_pay4 x2 x3 x0 x1) (k0_pay5 x5) (k0_pay6 x2 x3 x0 x1) (k0_pay8 x4) x6)
      (k0_pay11 (k0_pay4 x2 x3 x0 x1) (k0_pay5 x5) (k0_pay6 x2 x3 x0 x1) (k0_pay8 x4) x6)) (ix3 b s k) =
      code (gRow x0 x1 x2 x3 x4 x5 x6 b s) k := by
  unfold code
  rw [ladder (fun i => pow2R (0 - expo (gRow x0 x1 x2 x3 x4 x5 x6 b s) i))]
  unfold pow2R
  simp only [← pay12_at, ← pay9_at]
  pointwise [k0_pay1, k0_pay14]
  rfl

theorem pay2_at (b : Fin 6) (s : Fin 256) (d : Fin 7168) :
    k0_pay2 (k0_pay3 x2 x3) (k0_pay13 (k0_pay10 (k0_pay4 x2 x3 x0 x1) (k0_pay5 x5) (k0_pay6 x2 x3 x0 x1) (k0_pay8 x4) x6)
      (k0_pay11 (k0_pay4 x2 x3 x0 x1) (k0_pay5 x5) (k0_pay6 x2 x3 x0 x1) (k0_pay8 x4) x6)) (Scalar.ofBits .f32 0x47600000#32)
      (k0_pay14 (k0_pay9 (k0_pay4 x2 x3 x0 x1) (k0_pay5 x5) (k0_pay6 x2 x3 x0 x1) (k0_pay8 x4) x6)
      (k0_pay10 (k0_pay4 x2 x3 x0 x1) (k0_pay5 x5) (k0_pay6 x2 x3 x0 x1) (k0_pay8 x4) x6)
      (k0_pay11 (k0_pay4 x2 x3 x0 x1) (k0_pay5 x5) (k0_pay6 x2 x3 x0 x1) (k0_pay8 x4) x6)) (ix3 b s d) =
      ∑ k : Fin 576, wide (gRow x0 x1 x2 x3 x4 x5 x6 b s) k * (x2 (ix2 k d) * x3 (ix2 k d)) := by
  unfold wide
  simp only [ladder (fun i => pow2R (expo (gRow x0 x1 x2 x3 x4 x5 x6 b s) i)), ← pay13_at, ← pay1_at]
  pointwise [k0_pay2, k0_pay3]
  rfl

end Cert.ReferenceIdeal.Val
end
-- ==== Proof.Value.RefHost.lean ====
module

public import proofs.«01_k».proof.Proof.Gen.ReferenceIdeal.Frame
public import proofs.«01_k».proof.Proof.Value.Spec
public import Idealize.ShloMosaic.Lib.StableHlo.ReadAt
public import Idealize.ShloMosaic.Lib.Pointwise

@[expose] public section

set_option maxRecDepth 16384

noncomputable section

namespace Cert.ReferenceIdeal.Val

open Idealize.ShloMosaic Idealize.SL.Sem
open Idealize.ShloMosaic.TcCoe
open Cert.ReferenceIdeal Cert.ReferenceIdeal.Gen Cert.Spec
variable (m : (ℓ : Loc nD τ sig) → Buf (Elt Ideal) ℓ) (c : Dev nD)
set_option pp.maxSteps 4000
theorem V27 (b : Fin 6) (s : Fin 256) (x : Fin 7168) : V m c main_v27 (ix3 b s x) = m ((c : Thread nD τ).loc main_arg1) (ix3 b s ⟨x.val / 128, by omega⟩) := by
  unfold V
  after_reads_at
theorem V33 (k : Fin 576) (x : Fin 7168) : V m c main_v33 (ix2 k x) = m ((c : Thread nD τ).loc main_arg3) (ix2 ⟨k.val / 128, by omega⟩ ⟨x.val / 128, by omega⟩) := by
  unfold V
  after_reads_at
theorem V34 (x : Fin 512) : V m c main_v34 (ix3 0 0 x) = m ((c : Thread nD τ).loc main_arg4) (ix1 x) := by
  unfold V
  after_reads_at
theorem V24 (b : Fin 6) (s : Fin 256) (k : Fin 64) : V m c main_v24 (ix3 b s k) = rope (fun k => m ((c : Thread nD τ).loc main_arg7) (ix3 b s k))
  (FloatOps.sitofp (F := Ideal) .f32 (m ((c : Thread nD τ).loc main_arg5) (ix2 b s))) (fun i => Ideal.ofBits .f32 (lit0 i)) k := by
  unfold V
  after_reads_at
  have h21 : ∀ i : Fin 32, StableHlo.upto hostOps0 (fun b => m (c, b)) 24 (Proc.tc.devRef main_v21) (ix4 b s i 0) =
      (fun a d : EReal => a * Ideal.cos ((FloatOps.sitofp (F := Ideal) .f32 (m ((c : Thread nD τ).loc main_arg5) (ix2 b s))) * Ideal.ofBits .f32 (lit0 i)) + d * Ideal.sin ((FloatOps.sitofp (F := Ideal) .f32 (m ((c : Thread nD τ).loc main_arg5) (ix2 b s))) * Ideal.ofBits .f32 (lit0 i)))
        (m ((c : Thread nD τ).loc main_arg7) (ix3 b s ⟨i.val * 2, by omega⟩)) (m ((c : Thread nD τ).loc main_arg7) (ix3 b s ⟨i.val * 2 + 1, by omega⟩)) := by
    intro i
    after_reads_at
    rw [show S32.rowMajor (ix1 i) = i from Fin.ext (Shape.rowMajor_val_one _)]
  have h22 : ∀ i : Fin 32, StableHlo.upto hostOps0 (fun b => m (c, b)) 24 (Proc.tc.devRef main_v22) (ix4 b s i 0) =
      (fun a d : EReal => -a * Ideal.sin ((FloatOps.sitofp (F := Ideal) .f32 (m ((c : Thread nD τ).loc main_arg5) (ix2 b s))) * Ideal.ofBits .f32 (lit0 i)) + d * Ideal.cos ((FloatOps.sitofp (F := Ideal) .f32 (m ((c : Thread nD τ).loc main_arg5) (ix2 b s))) * Ideal.ofBits .f32 (lit0 i)))
        (m ((c : Thread nD τ).loc main_arg7) (ix3 b s ⟨i.val * 2, by omega⟩)) (m ((c : Thread nD τ).loc main_arg7) (ix3 b s ⟨i.val * 2 + 1, by omega⟩)) := by
    intro i
    after_reads_at
    rw [show S32.rowMajor (ix1 i) = i from Fin.ext (Shape.rowMajor_val_one _)]
  unfold rope
  by_cases h : k.val % 2 = 0
  · rw [dif_pos (by omega), dif_pos h]
    have e : (⟨k.val % 2, by omega⟩ : Fin 1) = 0 := Subsingleton.elim _ _
    refine (congrArg (fun z => StableHlo.upto hostOps0 (fun b => m (c, b)) 24 (Proc.tc.devRef main_v21) (ix4 b s ⟨k.val / 2, by omega⟩ z)) e).trans ((h21 ⟨k.val / 2, by omega⟩).trans ?_)
    simp only [show k.val / 2 * 2 = k.val by omega]
  · rw [dif_neg (by omega), dif_neg h]
    have e : (⟨k.val % 2 - 1, by omega⟩ : Fin 1) = 0 := Subsingleton.elim _ _
    refine (congrArg (fun z => StableHlo.upto hostOps0 (fun b => m (c, b)) 24 (Proc.tc.devRef main_v22) (ix4 b s ⟨k.val / 2, by omega⟩ z)) e).trans ((h22 ⟨k.val / 2, by omega⟩).trans ?_)
    simp only [show k.val / 2 * 2 = k.val - 1 by omega, show k.val - 1 + 1 = k.val by omega]
end Cert.ReferenceIdeal.Val
end
-- ==== Proof.Value.RefOut.lean ====
module

public import proofs.«01_k».proof.Proof.Value.RefPay
public import proofs.«01_k».proof.Proof.Value.RefHost
public import proofs.«01_k».proof.Proof.Value.Proj
public import Idealize.ShloMosaic.Lib.Pipeline.ValueKit

@[expose] public section

set_option maxRecDepth 16384

noncomputable section

namespace Cert.ReferenceIdeal.Val

open Idealize.ShloMosaic Idealize.SL.Sem
open Idealize.ShloMosaic.TcCoe
open Cert.ReferenceIdeal Cert.ReferenceIdeal.Gen Cert.Spec
variable (m : (ℓ : Loc nD τ sig) → Buf (Elt Ideal) ℓ) (c : Dev nD)

/-! The reference has one grid point, whose blocks are the arrays. -/

theorem idx0 : ∀ t : Fin cfg0.N, win0_0.index t = ![0, 0, 0] := by decide +kernel
theorem idx1 : ∀ t : Fin cfg0.N, win0_1.index t = ![0, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![0, 0, 0] := by decide +kernel
theorem idx9 : ∀ t : Fin cfg0.N, win0_9.index t = ![0, 0, 0] := by decide +kernel
theorem idx10 : ∀ t : Fin cfg0.N, win0_10.index t = ![0, 0, 0] := by decide +kernel
theorem blk0 (t : Fin cfg0.N) : iblk m c 0 t = V m c main_arg0 := by
  funext y
  blk_ext [iblk, idx0 t]

theorem blk1 (t : Fin cfg0.N) : iblk m c 1 t = V m c main_v27 := by
  funext y
  blk_ext [iblk, idx1 t]

theorem blk2 (t : Fin cfg0.N) : iblk m c 2 t = V m c main_arg2 := by
  funext y
  blk_ext [iblk, idx2 t]

theorem blk3 (t : Fin cfg0.N) : iblk m c 3 t = V m c main_v33 := by
  funext y
  blk_ext [iblk, idx3 t]

theorem blk4 (t : Fin cfg0.N) : iblk m c 4 t = V m c main_v34 := by
  funext y
  blk_ext [iblk, idx4 t]

theorem blk5 (t : Fin cfg0.N) : iblk m c 5 t = V m c main_arg6 := by
  funext y
  blk_ext [iblk, idx5 t]

theorem blk6 (t : Fin cfg0.N) : iblk m c 6 t = V m c main_v24 := by
  funext y
  blk_ext [iblk, idx6 t]

/-- The arguments at the start of the call. -/
def args : Args where
  X b s x := m ((c : Thread nD τ).loc main_arg0) (ix3 b s x)
  XC b s g := m ((c : Thread nD τ).loc main_arg1) (ix3 b s g)
  W k x := m ((c : Thread nD τ).loc main_arg2) (ix2 k x)
  WC k g := m ((c : Thread nD τ).loc main_arg3) (ix2 k g)
  GA j := m ((c : Thread nD τ).loc main_arg4) (ix1 j)
  P b s := FloatOps.sitofp (F := Ideal) .f32 (m ((c : Thread nD τ).loc main_arg5) (ix2 b s))
  DC b s j := m ((c : Thread nD τ).loc main_arg6) (ix3 b s j)
  DK b s k := m ((c : Thread nD τ).loc main_arg7) (ix3 b s k)
  FR i := Ideal.ofBits .f32 (lit0 i)

theorem cRow_args (b : Fin 6) (s : Fin 256) :
    cRow (V m c main_arg0) (V m c main_v27) (V m c main_arg2) (V m c main_v33) b s = (args m c).c b s := by
  funext j
  unfold cRow Args.c proj
  refine Finset.sum_congr rfl fun x _ => ?_
  rw [V27, V33, V_main_arg0, V_main_arg2]
  rfl

theorem gRow_args (b : Fin 6) (s : Fin 256) :
    gRow (V m c main_arg0) (V m c main_v27) (V m c main_arg2) (V m c main_v33) (V m c main_v34) (V m c main_arg6) (V m c main_v24) b s = (args m c).g b s := by
  unfold gRow Args.g
  rw [cRow_args]
  have h1 : (fun j => V m c main_arg6 (ix3 b s j)) = (args m c).DC b s := by rw [V_main_arg6]; rfl
  have h2 : (fun j => V m c main_v34 (ix3 0 0 j)) = (args m c).GA := funext fun j => V34 m c j
  have h3 : (fun k => V m c main_v24 (ix3 b s k)) = rope ((args m c).DK b s) ((args m c).P b s) (args m c).FR := funext fun k => V24 m c b s k
  rw [h3]
  exact (congrArg (fun a => rowG (dcv _ a _) _) h1).trans (congrArg (fun a => rowG (dcv _ _ a) _) h2)

section
variable (x0 : Vec Ideal S6x256x7168 .fp8e4m3) (x1 : Vec Ideal S6x256x7168 .bf16) (x2 : Vec Ideal S576x7168 .fp8e4m3) (x3 : Vec Ideal S576x7168 .bf16) (x4 : Vec Ideal S1x1x512 .f32) (x5 : Vec Ideal S6x256x512 .bf16) (x6 : Vec Ideal S6x256x64 .f32)

theorem ld0 (x : Vec Ideal S576x7168 .fp8e4m3) : View.ld x r0_0 = x := View.ld_unit_zero (by decide) _ _
theorem ld0' (x : Vec Ideal S576x7168 .bf16) : View.ld x r0_0 = x := View.ld_unit_zero (by decide) _ _
theorem ld1 (x : Vec Ideal S6x256x7168 .fp8e4m3) : View.ld x r0_1 = x := View.ld_unit_zero (by decide) _ _
theorem ld1' (x : Vec Ideal S6x256x7168 .bf16) : View.ld x r0_1 = x := View.ld_unit_zero (by decide) _ _
theorem ld2 (x : Vec Ideal S6x256x512 .bf16) : View.ld x r0_2 = x := View.ld_unit_zero (by decide) _ _
theorem ld4 (x : Vec Ideal S1x1x512 .f32) : View.ld x r0_4 = x := View.ld_unit_zero (by decide) _ _
theorem ld5 (x : Vec Ideal S6x256x64 .f32) : View.ld x r0_5 = x := View.ld_unit_zero (by decide) _ _

theorem out7_at (b : Fin 6) (s : Fin 256) (d : Fin 7168) : out0_7 x0 x1 x2 x3 x4 x5 x6 (ix3 b s d) =
    ∑ k : Fin 576, wide (gRow x0 x1 x2 x3 x4 x5 x6 b s) k * (x2 (ix2 k d) * x3 (ix2 k d)) := by
  unfold out0_7 k0_pay22 k0_pay21 k0_pay20 k0_pay19 k0_pay18 k0_pay17 k0_pay16 k0_pay15
  rw [View.canon_cons_unit_zero (by decide), ld0, ld0', ld1, ld1', ld2, ld4, ld5]
  exact pay2_at x0 x1 x2 x3 x4 x5 x6 b s d

theorem out8_at (b : Fin 6) (r : Fin 2) (j : Fin 512) : out0_8 x0 x1 x2 x3 x4 x5 x6 (ix3 b r j) =
    ∑ x : Fin 128, x5 (ix3 b ⟨r.val * 128 + x.val, by omega⟩ j) * cRow x0 x1 x2 x3 b ⟨r.val * 128 + x.val, by omega⟩ j *
      rstd (cRow x0 x1 x2 x3 b ⟨r.val * 128 + x.val, by omega⟩) := by
  unfold out0_8
  rw [View.canon_cons_unit_zero (by decide), ld0, ld0', ld1, ld1', ld2]
  exact pay7_at x0 x1 x2 x3 x5 b r j

theorem out9_at (b : Fin 6) (s : Fin 256) (k : Fin 576) : out0_9 x0 x1 x2 x3 x4 x5 x6 (ix3 b s k) =
    code (gRow x0 x1 x2 x3 x4 x5 x6 b s) k := by
  unfold out0_9 k0_pay22 k0_pay20 k0_pay19 k0_pay18 k0_pay17 k0_pay16 k0_pay15
  rw [View.canon_cons_unit_zero (by decide), ld0, ld0', ld1, ld1', ld2, ld4, ld5]
  exact pay1_at x0 x1 x2 x3 x4 x5 x6 b s k

theorem out10_at (b : Fin 6) (s : Fin 256) (i : Fin 5) : out0_10 x0 x1 x2 x3 x4 x5 x6 (ix3 b s i) =
    pow2R (expo (gRow x0 x1 x2 x3 x4 x5 x6 b s) i) := by
  unfold out0_10 k0_pay21 k0_pay20 k0_pay19 k0_pay18 k0_pay17 k0_pay16 k0_pay15
  rw [View.canon_cons_unit_zero (by decide), ld0, ld0', ld1, ld1', ld2, ld4, ld5]
  exact pay13_at x0 x1 x2 x3 x4 x5 x6 b s i
end

/-! What the result arrays hold after the run. -/

theorem val7 (b : Fin 6) (p : Fin 256) (q : Fin 7168) :
    out0_7 (V m c main_arg0) (V m c main_v27) (V m c main_arg2) (V m c main_v33) (V m c main_v34) (V m c main_arg6) (V m c main_v24) (ix3 b p q) = (args m c).r0 b p q := by
  rw [out7_at]
  refine Finset.sum_congr rfl fun k _ => ?_
  rw [gRow_args, V33, V_main_arg2]
  rfl

def R0 (A : Args) : Vec Ideal S6x256x7168 .bf16 := fun y => A.r0 ⟨(y 0).val, (y 0).isLt⟩ ⟨(y 1).val, (y 1).isLt⟩ ⟨(y 2).val, (y 2).isLt⟩

theorem arr7 : (dats m 0 c).arrAt 7 cfg0.N = R0 (args m c) := by
  refine (dats m 0 c).arrAt_eq_of_covers 7 _ (by decide +kernel) fun t hf y => ?_
  blk_simp
  rw [after0_7, blk0, blk1, blk2, blk3, blk4, blk5, blk6]
  have h0 : (y 0).val < 6 := (y 0).isLt
  have h1 : (y 1).val < 256 := (y 1).isLt
  have h2 : (y 2).val < 7168 := (y 2).isLt
  have key : ∀ z : S6x256x7168.Idx, (z 0).val = (y 0).val → (z 1).val = (y 1).val → (z 2).val = (y 2).val →
      (args m c).r0 ⟨(y 0).val, h0⟩ ⟨(y 1).val, h1⟩ ⟨(y 2).val, h2⟩ = R0 (args m c) z := by
    intro z e0 e1 e2
    simp only [R0, e0, e1, e2]
  refine Eq.trans (congrArg _ ?_) ((val7 m c ⟨(y 0).val, h0⟩ ⟨(y 1).val, h1⟩ ⟨(y 2).val, h2⟩).trans (key _ ?_ ?_ ?_))
  · funext a
    apply Fin.ext
    fin_cases a <;> rfl
  · blk_simp [idx7 t]
  · blk_simp [idx7 t]
  · blk_simp [idx7 t]

theorem val8 (b : Fin 6) (p : Fin 2) (q : Fin 512) :
    out0_8 (V m c main_arg0) (V m c main_v27) (V m c main_arg2) (V m c main_v33) (V m c main_v34) (V m c main_arg6) (V m c main_v24) (ix3 b p q) = (args m c).r1 b p q := by
  rw [out8_at]
  refine Finset.sum_congr rfl fun x _ => ?_
  rw [cRow_args, V_main_arg6]
  rfl

def R1 (A : Args) : Vec Ideal S6x2x512 .f32 := fun y => A.r1 ⟨(y 0).val, (y 0).isLt⟩ ⟨(y 1).val, (y 1).isLt⟩ ⟨(y 2).val, (y 2).isLt⟩

theorem arr8 : (dats m 0 c).arrAt 8 cfg0.N = R1 (args m c) := by
  refine (dats m 0 c).arrAt_eq_of_covers 8 _ (by decide +kernel) fun t hf y => ?_
  blk_simp
  rw [after0_8, blk0, blk1, blk2, blk3, blk4, blk5, blk6]
  have h0 : (y 0).val < 6 := (y 0).isLt
  have h1 : (y 1).val < 2 := (y 1).isLt
  have h2 : (y 2).val < 512 := (y 2).isLt
  have key : ∀ z : S6x2x512.Idx, (z 0).val = (y 0).val → (z 1).val = (y 1).val → (z 2).val = (y 2).val →
      (args m c).r1 ⟨(y 0).val, h0⟩ ⟨(y 1).val, h1⟩ ⟨(y 2).val, h2⟩ = R1 (args m c) z := by
    intro z e0 e1 e2
    simp only [R1, e0, e1, e2]
  refine Eq.trans (congrArg _ ?_) ((val8 m c ⟨(y 0).val, h0⟩ ⟨(y 1).val, h1⟩ ⟨(y 2).val, h2⟩).trans (key _ ?_ ?_ ?_))
  · funext a
    apply Fin.ext
    fin_cases a <;> rfl
  · blk_simp [idx8 t]
  · blk_simp [idx8 t]
  · blk_simp [idx8 t]

theorem val9 (b : Fin 6) (p : Fin 256) (q : Fin 576) :
    out0_9 (V m c main_arg0) (V m c main_v27) (V m c main_arg2) (V m c main_v33) (V m c main_v34) (V m c main_arg6) (V m c main_v24) (ix3 b p q) = (args m c).r2 b p q := by
  rw [out9_at]
  rw [gRow_args]
  rfl

def R2 (A : Args) : Vec Ideal S6x256x576 .fp8e5m2 := fun y => A.r2 ⟨(y 0).val, (y 0).isLt⟩ ⟨(y 1).val, (y 1).isLt⟩ ⟨(y 2).val, (y 2).isLt⟩

theorem arr9 : (dats m 0 c).arrAt 9 cfg0.N = R2 (args m c) := by
  refine (dats m 0 c).arrAt_eq_of_covers 9 _ (by decide +kernel) fun t hf y => ?_
  blk_simp
  rw [after0_9, blk0, blk1, blk2, blk3, blk4, blk5, blk6]
  have h0 : (y 0).val < 6 := (y 0).isLt
  have h1 : (y 1).val < 256 := (y 1).isLt
  have h2 : (y 2).val < 576 := (y 2).isLt
  have key : ∀ z : S6x256x576.Idx, (z 0).val = (y 0).val → (z 1).val = (y 1).val → (z 2).val = (y 2).val →
      (args m c).r2 ⟨(y 0).val, h0⟩ ⟨(y 1).val, h1⟩ ⟨(y 2).val, h2⟩ = R2 (args m c) z := by
    intro z e0 e1 e2
    simp only [R2, e0, e1, e2]
  refine Eq.trans (congrArg _ ?_) ((val9 m c ⟨(y 0).val, h0⟩ ⟨(y 1).val, h1⟩ ⟨(y 2).val, h2⟩).trans (key _ ?_ ?_ ?_))
  · funext a
    apply Fin.ext
    fin_cases a <;> rfl
  · blk_simp [idx9 t]
  · blk_simp [idx9 t]
  · blk_simp [idx9 t]

theorem val10 (b : Fin 6) (p : Fin 256) (q : Fin 5) :
    out0_10 (V m c main_arg0) (V m c main_v27) (V m c main_arg2) (V m c main_v33) (V m c main_v34) (V m c main_arg6) (V m c main_v24) (ix3 b p q) = (args m c).r3 b p q := by
  rw [out10_at]
  rw [gRow_args]
  rfl

def R3 (A : Args) : Vec Ideal S6x256x5 .f32 := fun y => A.r3 ⟨(y 0).val, (y 0).isLt⟩ ⟨(y 1).val, (y 1).isLt⟩ ⟨(y 2).val, (y 2).isLt⟩

theorem arr10 : (dats m 0 c).arrAt 10 cfg0.N = R3 (args m c) := by
  refine (dats m 0 c).arrAt_eq_of_covers 10 _ (by decide +kernel) fun t hf y => ?_
  blk_simp
  rw [after0_10, blk0, blk1, blk2, blk3, blk4, blk5, blk6]
  have h0 : (y 0).val < 6 := (y 0).isLt
  have h1 : (y 1).val < 256 := (y 1).isLt
  have h2 : (y 2).val < 5 := (y 2).isLt
  have key : ∀ z : S6x256x5.Idx, (z 0).val = (y 0).val → (z 1).val = (y 1).val → (z 2).val = (y 2).val →
      (args m c).r3 ⟨(y 0).val, h0⟩ ⟨(y 1).val, h1⟩ ⟨(y 2).val, h2⟩ = R3 (args m c) z := by
    intro z e0 e1 e2
    simp only [R3, e0, e1, e2]
  refine Eq.trans (congrArg _ ?_) ((val10 m c ⟨(y 0).val, h0⟩ ⟨(y 1).val, h1⟩ ⟨(y 2).val, h2⟩).trans (key _ ?_ ?_ ?_))
  · funext a
    apply Fin.ext
    fin_cases a <;> rfl
  · blk_simp [idx10 t]
  · blk_simp [idx10 t]
  · blk_simp [idx10 t]
end Cert.ReferenceIdeal.Val
end
-- ==== Proof.Value.Runs.lean ====
module

public import proofs.«01_k».proof.Proof.Value.KerOut
public import proofs.«01_k».proof.Proof.Value.RefOut

@[expose] public section

set_option maxRecDepth 16384

noncomputable section

namespace Cert.Val

open Idealize.ShloMosaic Idealize.SL.Sem
open Idealize.ShloMosaic.TcCoe
open Cert.Spec

/-- The results and the arguments after the run of `KernelIdeal`. -/
theorem runK (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v3_0) = Cert.KernelIdeal.Val.R0 (Cert.KernelIdeal.Val.args m c) ∧ r.2.mem ((c.tc : Thread Cert.KernelIdeal.nD Cert.KernelIdeal.τ).loc Cert.KernelIdeal.main_v3_1) = Cert.KernelIdeal.Val.R1 (Cert.KernelIdeal.Val.args m c) ∧ r.2.mem ((c.tc : Thread Cert.KernelIdeal.nD Cert.KernelIdeal.τ).loc Cert.KernelIdeal.main_v3_2) = Cert.KernelIdeal.Val.R2 (Cert.KernelIdeal.Val.args m c) ∧ r.2.mem ((c.tc : Thread Cert.KernelIdeal.nD Cert.KernelIdeal.τ).loc Cert.KernelIdeal.main_v3_3) = Cert.KernelIdeal.Val.R3 (Cert.KernelIdeal.Val.args m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c => ⟨((h.1 c).1 9).trans (Cert.KernelIdeal.Val.arr9 m c), ((h.1 c).1 10).trans (Cert.KernelIdeal.Val.arr10 m c),
      ((h.1 c).1 11).trans (Cert.KernelIdeal.Val.arr11 m c), ((h.1 c).1 12).trans (Cert.KernelIdeal.Val.arr12 m c), h.2.1 c⟩)
    (θ_run_and (Cert.KernelIdeal.Run.run_main m g) (Cert.KernelIdeal.Run.frame m g))

/-- The results and the arguments after the run of `ReferenceIdeal`. -/
theorem runR (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v35_0) = Cert.ReferenceIdeal.Val.R0 (Cert.ReferenceIdeal.Val.args m c) ∧ r.2.mem ((c.tc : Thread Cert.ReferenceIdeal.nD Cert.ReferenceIdeal.τ).loc Cert.ReferenceIdeal.main_v35_1) = Cert.ReferenceIdeal.Val.R1 (Cert.ReferenceIdeal.Val.args m c) ∧ r.2.mem ((c.tc : Thread Cert.ReferenceIdeal.nD Cert.ReferenceIdeal.τ).loc Cert.ReferenceIdeal.main_v35_2) = Cert.ReferenceIdeal.Val.R2 (Cert.ReferenceIdeal.Val.args m c) ∧ r.2.mem ((c.tc : Thread Cert.ReferenceIdeal.nD Cert.ReferenceIdeal.τ).loc Cert.ReferenceIdeal.main_v35_3) = Cert.ReferenceIdeal.Val.R3 (Cert.ReferenceIdeal.Val.args m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run Cert.ReferenceIdeal.defs _ _).mono (fun r h c => ⟨((h.1 c).1 7).trans (Cert.ReferenceIdeal.Val.arr7 m c), ((h.1 c).1 8).trans (Cert.ReferenceIdeal.Val.arr8 m c),
      ((h.1 c).1 9).trans (Cert.ReferenceIdeal.Val.arr9 m c), ((h.1 c).1 10).trans (Cert.ReferenceIdeal.Val.arr10 m c), h.2.1 c⟩)
    (θ_run_and (Cert.ReferenceIdeal.Gen.run_main m g) (Cert.ReferenceIdeal.Gen.frame m g))

/-- The kernel's table of frequencies, each entry twice, against the reference's. -/
theorem freq : ∀ i : Fin 32, Cert.ReferenceIdeal.lit0 i = Cert.KernelIdeal.lit0 ⟨2 * i.val, by omega⟩ := by decide +kernel
end Cert.Val
end
-- ==== Proof.lean ====
module

public import proofs.«01_k».proof.Defs
public import proofs.«01_k».proof.Proof.Rounded.Frame
public import proofs.«01_k».proof.Proof.Ideal.Frame
public import proofs.«01_k».proof.Proof.Gen.Kernel
public import proofs.«01_k».proof.Proof.Value.Runs
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

open Idealize.ShloMosaic.TcCoe

/-- From memories that agree on the arguments, the two programs' arguments are the same functions. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Val.args m' c = Cert.KernelIdeal.Val.args m c := by
  unfold Cert.ReferenceIdeal.Val.args Cert.KernelIdeal.Val.args
  simp only [h0, h1, h2, h3, h4, h5, h6, h7, Cert.Val.freq]

/-- The two programs' results are equal. -/
theorem equal : Cert.algebraic_KernelIdeal_ReferenceIdeal := by
  intro m g m' g' _ ha
  refine ⟨fun c => Cert.KernelIdeal.Val.R0 (Cert.KernelIdeal.Val.args m c), fun c => Cert.KernelIdeal.Val.R1 (Cert.KernelIdeal.Val.args m c),
    fun c => Cert.KernelIdeal.Val.R2 (Cert.KernelIdeal.Val.args m c), fun c => Cert.KernelIdeal.Val.R3 (Cert.KernelIdeal.Val.args m c), Cert.Val.runK m g, ?_⟩
  refine (θ_run Cert.ReferenceIdeal.defs _ _).mono (fun r h c => ?_) (Cert.Val.runR m' g')
  obtain ⟨a0, a1, a2, a3, a4, a5, a6, a7⟩ := ha c
  have e := args_eq m m' c a0 a1 a2 a3 a4 a5 a6 a7
  exact ⟨(h c).1.trans (congrArg Cert.ReferenceIdeal.Val.R0 e), (h c).2.1.trans (congrArg Cert.ReferenceIdeal.Val.R1 e),
    (h c).2.2.1.trans (congrArg Cert.ReferenceIdeal.Val.R2 e), (h c).2.2.2.1.trans (congrArg Cert.ReferenceIdeal.Val.R3 e), (h c).2.2.2.2⟩

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ, fun m ρ _ => Cert.ReferenceIdeal.Gen.frame m ρ,
  trivial, equal⟩

end Cert.Proof

end
